-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 12288]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![12288, 1536]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S8x2x48x384 : Shape := ⟨4, ![8, 2, 48, 384]⟩
abbrev S8x2 : Shape := ⟨2, ![8, 2]⟩
abbrev S8 : Shape := ⟨1, ![8]⟩
abbrev S_ : Shape := ⟨0, ![]⟩
abbrev S96x768 : Shape := ⟨2, ![96, 768]⟩
abbrev S96x1536 : Shape := ⟨2, ![96, 1536]⟩
abbrev S48x384 : Shape := ⟨2, ![48, 384]⟩
abbrev S1x1x48x384 : Shape := ⟨4, ![1, 1, 48, 384]⟩
abbrev S1x1 : Shape := ⟨2, ![1, 1]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S8x2x48x384, .f32⟩
  | .local _ .vmem, ⟨4, _⟩ => ⟨S8x2x48x384, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 9 35 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32_86 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_85 : BitVec 32 := 1#32
  let v196 : BitVec 32 := Scalar.muli v194 c1_i32_85
  let v197 : BitVec 32 := Scalar.addi c0_i32_86 v196
  v197.toNat
def k0_dev2 (d0 : Dev nD) : Nat :=
  let c0_i32_89 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_88 : BitVec 32 := 1#32
  let v198 : BitVec 32 := Scalar.muli v130 c1_i32_88
  let v199 : BitVec 32 := Scalar.addi c0_i32_89 v198
  v199.toNat
def k0_off1 (d0 : Dev nD) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c96_i32 : BitVec 32 := 96#32
  let v200 : BitVec 32 := Scalar.muli v66 c96_i32
  let v201 : Index := Scalar.indexCast v200
  let c0 : Index := 0#32
  ![v201.toNat, 0]
def k0_off2 (d0 : Dev nD) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c96_i32_93 : BitVec 32 := 96#32
  let v207 : BitVec 32 := Scalar.muli v66 c96_i32_93
  let v208 : Index := Scalar.indexCast v207
  let c0_94 : Index := 0#32
  ![v208.toNat, 0]
def k0_off3 (d0 : Dev nD) (c0_i32_96 : BitVec 32) (c0_i32_99 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c16_i32_95 : BitVec 32 := 16#32
  let v210 : BitVec 32 := Scalar.addi v66 c16_i32_95
  let v211 : BitVec 32 := Scalar.subi v210 c0_i32_96
  let c16_i32_97 : BitVec 32 := 16#32
  let v212 : BitVec 32 := Scalar.remsi v211 c16_i32_97
  let c96_i32_98 : BitVec 32 := 96#32
  let v213 : BitVec 32 := Scalar.muli v212 c96_i32_98
  let v214 : BitVec 32 := Scalar.addi v213 c0_i32_99
  let v215 : Index := Scalar.indexCast v214
  let c0_100 : Index := 0#32
  ![v215.toNat, 0]
def k0_dev3 (d0 : Dev nD) : Nat :=
  let c0_i32_114 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_113 : BitVec 32 := 1#32
  let v221 : BitVec 32 := Scalar.muli v130 c1_i32_113
  let v222 : BitVec 32 := Scalar.addi c0_i32_114 v221
  v222.toNat
def k0_off4 (d0 : Dev nD) (c0_i32_119 : BitVec 32) (c0_i32_122 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let v231 : BitVec 32 := Scalar.addi v66 c0_i32_119
  let c16_i32_120 : BitVec 32 := 16#32
  let v232 : BitVec 32 := Scalar.remsi v231 c16_i32_120
  let c96_i32_121 : BitVec 32 := 96#32
  let v233 : BitVec 32 := Scalar.muli v232 c96_i32_121
  let v234 : BitVec 32 := Scalar.addi v233 c0_i32_122
  let v235 : Index := Scalar.indexCast v234
  let c768 : Index := 768#32
  ![v235.toNat, 768]
def k0_dev4 (d0 : Dev nD) : Nat :=
  let c0_i32_135 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_134 : BitVec 32 := 1#32
  let v241 : BitVec 32 := Scalar.muli v194 c1_i32_134
  let v242 : BitVec 32 := Scalar.addi c0_i32_135 v241
  v242.toNat
def k0_dev5 (d0 : Dev nD) : Nat :=
  let c0_i32_157 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_156 : BitVec 32 := 1#32
  let v262 : BitVec 32 := Scalar.muli v130 c1_i32_156
  let v263 : BitVec 32 := Scalar.addi c0_i32_157 v262
  v263.toNat
def k0_dev6 (d0 : Dev nD) : Nat :=
  let c0_i32_179 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_178 : BitVec 32 := 1#32
  let v282 : BitVec 32 := Scalar.muli v194 c1_i32_178
  let v283 : BitVec 32 := Scalar.addi c0_i32_179 v282
  v283.toNat
def k0_off5 (d0 : Dev nD) (c0_i32_185 : BitVec 32) (c0_i32_188 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c16_i32_184 : BitVec 32 := 16#32
  let v292 : BitVec 32 := Scalar.addi v66 c16_i32_184
  let v293 : BitVec 32 := Scalar.subi v292 c0_i32_185
  let c16_i32_186 : BitVec 32 := 16#32
  let v294 : BitVec 32 := Scalar.remsi v293 c16_i32_186
  let c96_i32_187 : BitVec 32 := 96#32
  let v295 : BitVec 32 := Scalar.muli v294 c96_i32_187
  let v296 : BitVec 32 := Scalar.addi v295 c0_i32_188
  let v297 : Index := Scalar.indexCast v296
  let c384 : Index := 384#32
  ![v297.toNat, 384]
def k0_dev7 (d0 : Dev nD) : Nat :=
  let c0_i32_201 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_200 : BitVec 32 := 1#32
  let v303 : BitVec 32 := Scalar.muli v130 c1_i32_200
  let v304 : BitVec 32 := Scalar.addi c0_i32_201 v303
  v304.toNat
def k0_off6 (d0 : Dev nD) (c0_i32_206 : BitVec 32) (c0_i32_209 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let v313 : BitVec 32 := Scalar.addi v66 c0_i32_206
  let c16_i32_207 : BitVec 32 := 16#32
  let v314 : BitVec 32 := Scalar.remsi v313 c16_i32_207
  let c96_i32_208 : BitVec 32 := 96#32
  let v315 : BitVec 32 := Scalar.muli v314 c96_i32_208
  let v316 : BitVec 32 := Scalar.addi v315 c0_i32_209
  let v317 : Index := Scalar.indexCast v316
  let c1152 : Index := 1152#32
  ![v317.toNat, 1152]
def k0_dev8 (d0 : Dev nD) : Nat :=
  let c0_i32_222 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_221 : BitVec 32 := 1#32
  let v323 : BitVec 32 := Scalar.muli v194 c1_i32_221
  let v324 : BitVec 32 := Scalar.addi c0_i32_222 v323
  v324.toNat
def k0_dev9 (d0 : Dev nD) : Nat :=
  let c0_i32_245 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_244 : BitVec 32 := 1#32
  let v344 : BitVec 32 := Scalar.muli v130 c1_i32_244
  let v345 : BitVec 32 := Scalar.addi c0_i32_245 v344
  v345.toNat
def k0_dev10 (d0 : Dev nD) : Nat :=
  let c0_i32_267 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_266 : BitVec 32 := 1#32
  let v364 : BitVec 32 := Scalar.muli v194 c1_i32_266
  let v365 : BitVec 32 := Scalar.addi c0_i32_267 v364
  v365.toNat
def k0_off7 (d0 : Dev nD) (c1_i32_273 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c16_i32_272 : BitVec 32 := 16#32
  let v374 : BitVec 32 := Scalar.addi v66 c16_i32_272
  let v375 : BitVec 32 := Scalar.subi v374 c1_i32_273
  let c16_i32_274 : BitVec 32 := 16#32
  let v376 : BitVec 32 := Scalar.remsi v375 c16_i32_274
  let c96_i32_275 : BitVec 32 := 96#32
  let v377 : BitVec 32 := Scalar.muli v376 c96_i32_275
  let v378 : Index := Scalar.indexCast v377
  let c0_276 : Index := 0#32
  ![v378.toNat, 0]
def k0_off8 (d0 : Dev nD) (c1_i32_273 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c16_i32_272 : BitVec 32 := 16#32
  let v374 : BitVec 32 := Scalar.addi v66 c16_i32_272
  let v375 : BitVec 32 := Scalar.subi v374 c1_i32_273
  let c16_i32_274 : BitVec 32 := 16#32
  let v376 : BitVec 32 := Scalar.remsi v375 c16_i32_274
  let c96_i32_280 : BitVec 32 := 96#32
  let v384 : BitVec 32 := Scalar.muli v376 c96_i32_280
  let v385 : Index := Scalar.indexCast v384
  let c0_281 : Index := 0#32
  ![v385.toNat, 0]
def k0_off9 (d0 : Dev nD) (c1_i32_282 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let v387 : BitVec 32 := Scalar.addi v66 c1_i32_282
  let c16_i32_283 : BitVec 32 := 16#32
  let v388 : BitVec 32 := Scalar.remsi v387 c16_i32_283
  let c96_i32_284 : BitVec 32 := 96#32
  let v389 : BitVec 32 := Scalar.muli v388 c96_i32_284
  let v390 : Index := Scalar.indexCast v389
  let c0_285 : Index := 0#32
  ![v390.toNat, 0]
def k0_off10 (d0 : Dev nD) (c1_i32_282 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let v387 : BitVec 32 := Scalar.addi v66 c1_i32_282
  let c16_i32_283 : BitVec 32 := 16#32
  let v388 : BitVec 32 := Scalar.remsi v387 c16_i32_283
  let c96_i32_289 : BitVec 32 := 96#32
  let v396 : BitVec 32 := Scalar.muli v388 c96_i32_289
  let v397 : Index := Scalar.indexCast v396
  let c0_290 : Index := 0#32
  ![v397.toNat, 0]
def k0_dev11 (d0 : Dev nD) : Nat :=
  let c0_i32_322 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_321 : BitVec 32 := 1#32
  let v423 : BitVec 32 := Scalar.muli v194 c1_i32_321
  let v424 : BitVec 32 := Scalar.addi c0_i32_322 v423
  v424.toNat
def k0_dev12 (d0 : Dev nD) : Nat :=
  let c0_i32_332 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_331 : BitVec 32 := 1#32
  let v425 : BitVec 32 := Scalar.muli v130 c1_i32_331
  let v426 : BitVec 32 := Scalar.addi c0_i32_332 v425
  v426.toNat
def k0_dev13 (d0 : Dev nD) : Nat :=
  let c0_i32_367 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_366 : BitVec 32 := 1#32
  let v458 : BitVec 32 := Scalar.muli v130 c1_i32_366
  let v459 : BitVec 32 := Scalar.addi c0_i32_367 v458
  v459.toNat
def k0_dev14 (d0 : Dev nD) : Nat :=
  let c0_i32_377 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_376 : BitVec 32 := 1#32
  let v460 : BitVec 32 := Scalar.muli v194 c1_i32_376
  let v461 : BitVec 32 := Scalar.addi c0_i32_377 v460
  v461.toNat
def k0_dev15 (d0 : Dev nD) : Nat :=
  let c0_i32_413 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_412 : BitVec 32 := 1#32
  let v494 : BitVec 32 := Scalar.muli v194 c1_i32_412
  let v495 : BitVec 32 := Scalar.addi c0_i32_413 v494
  v495.toNat
def k0_dev16 (d0 : Dev nD) : Nat :=
  let c0_i32_423 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_422 : BitVec 32 := 1#32
  let v496 : BitVec 32 := Scalar.muli v130 c1_i32_422
  let v497 : BitVec 32 := Scalar.addi c0_i32_423 v496
  v497.toNat
def k0_dev17 (d0 : Dev nD) : Nat :=
  let c0_i32_458 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_457 : BitVec 32 := 1#32
  let v529 : BitVec 32 := Scalar.muli v130 c1_i32_457
  let v530 : BitVec 32 := Scalar.addi c0_i32_458 v529
  v530.toNat
def k0_dev18 (d0 : Dev nD) : Nat :=
  let c0_i32_468 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_467 : BitVec 32 := 1#32
  let v531 : BitVec 32 := Scalar.muli v194 c1_i32_467
  let v532 : BitVec 32 := Scalar.addi c0_i32_468 v531
  v532.toNat
def k0_dev19 (d0 : Dev nD) : Nat :=
  let c0_i32_504 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_503 : BitVec 32 := 1#32
  let v565 : BitVec 32 := Scalar.muli v194 c1_i32_503
  let v566 : BitVec 32 := Scalar.addi c0_i32_504 v565
  v566.toNat
def k0_dev20 (d0 : Dev nD) : Nat :=
  let c0_i32_514 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_513 : BitVec 32 := 1#32
  let v567 : BitVec 32 := Scalar.muli v130 c1_i32_513
  let v568 : BitVec 32 := Scalar.addi c0_i32_514 v567
  v568.toNat
def k0_dev21 (d0 : Dev nD) : Nat :=
  let c0_i32_549 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_548 : BitVec 32 := 1#32
  let v600 : BitVec 32 := Scalar.muli v130 c1_i32_548
  let v601 : BitVec 32 := Scalar.addi c0_i32_549 v600
  v601.toNat
def k0_dev22 (d0 : Dev nD) : Nat :=
  let c0_i32_559 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_558 : BitVec 32 := 1#32
  let v602 : BitVec 32 := Scalar.muli v194 c1_i32_558
  let v603 : BitVec 32 := Scalar.addi c0_i32_559 v602
  v603.toNat
def k0_dev23 (d0 : Dev nD) : Nat :=
  let c0_i32_595 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_594 : BitVec 32 := 1#32
  let v636 : BitVec 32 := Scalar.muli v194 c1_i32_594
  let v637 : BitVec 32 := Scalar.addi c0_i32_595 v636
  v637.toNat
def k0_dev24 (d0 : Dev nD) : Nat :=
  let c0_i32_605 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_604 : BitVec 32 := 1#32
  let v638 : BitVec 32 := Scalar.muli v130 c1_i32_604
  let v639 : BitVec 32 := Scalar.addi c0_i32_605 v638
  v639.toNat
def k0_dev25 (d0 : Dev nD) : Nat :=
  let c0_i32_640 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_639 : BitVec 32 := 1#32
  let v671 : BitVec 32 := Scalar.muli v130 c1_i32_639
  let v672 : BitVec 32 := Scalar.addi c0_i32_640 v671
  v672.toNat
def k0_dev26 (d0 : Dev nD) : Nat :=
  let c0_i32_650 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_649 : BitVec 32 := 1#32
  let v673 : BitVec 32 := Scalar.muli v194 c1_i32_649
  let v674 : BitVec 32 := Scalar.addi c0_i32_650 v673
  v674.toNat
def k0_dev27 (d0 : Dev nD) : Nat :=
  let c0_i32_718 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_717 : BitVec 32 := 1#32
  let v738 : BitVec 32 := Scalar.muli v194 c1_i32_717
  let v739 : BitVec 32 := Scalar.addi c0_i32_718 v738
  v739.toNat
def k0_dev28 (d0 : Dev nD) : Nat :=
  let c0_i32_731 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_730 : BitVec 32 := 1#32
  let v742 : BitVec 32 := Scalar.muli v130 c1_i32_730
  let v743 : BitVec 32 := Scalar.addi c0_i32_731 v742
  v743.toNat
def k0_dev29 (d0 : Dev nD) : Nat :=
  let c0_i32_779 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_778 : BitVec 32 := 1#32
  let v781 : BitVec 32 := Scalar.muli v130 c1_i32_778
  let v782 : BitVec 32 := Scalar.addi c0_i32_779 v781
  v782.toNat
def k0_dev30 (d0 : Dev nD) : Nat :=
  let c0_i32_792 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_791 : BitVec 32 := 1#32
  let v785 : BitVec 32 := Scalar.muli v194 c1_i32_791
  let v786 : BitVec 32 := Scalar.addi c0_i32_792 v785
  v786.toNat
def k0_dev31 (d0 : Dev nD) : Nat :=
  let c0_i32_841 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_840 : BitVec 32 := 1#32
  let v825 : BitVec 32 := Scalar.muli v194 c1_i32_840
  let v826 : BitVec 32 := Scalar.addi c0_i32_841 v825
  v826.toNat
def k0_dev32 (d0 : Dev nD) : Nat :=
  let c0_i32_854 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_853 : BitVec 32 := 1#32
  let v829 : BitVec 32 := Scalar.muli v130 c1_i32_853
  let v830 : BitVec 32 := Scalar.addi c0_i32_854 v829
  v830.toNat
def k0_dev33 (d0 : Dev nD) : Nat :=
  let c0_i32_902 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_901 : BitVec 32 := 1#32
  let v868 : BitVec 32 := Scalar.muli v130 c1_i32_901
  let v869 : BitVec 32 := Scalar.addi c0_i32_902 v868
  v869.toNat
def k0_dev34 (d0 : Dev nD) : Nat :=
  let c0_i32_915 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_914 : BitVec 32 := 1#32
  let v872 : BitVec 32 := Scalar.muli v194 c1_i32_914
  let v873 : BitVec 32 := Scalar.addi c0_i32_915 v872
  v873.toNat
def k0_dev35 (d0 : Dev nD) : Nat :=
  let c0_i32_964 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_963 : BitVec 32 := 1#32
  let v912 : BitVec 32 := Scalar.muli v194 c1_i32_963
  let v913 : BitVec 32 := Scalar.addi c0_i32_964 v912
  v913.toNat
def k0_dev36 (d0 : Dev nD) : Nat :=
  let c0_i32_977 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_976 : BitVec 32 := 1#32
  let v916 : BitVec 32 := Scalar.muli v130 c1_i32_976
  let v917 : BitVec 32 := Scalar.addi c0_i32_977 v916
  v917.toNat
def k0_dev37 (d0 : Dev nD) : Nat :=
  let c0_i32_1025 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1024 : BitVec 32 := 1#32
  let v955 : BitVec 32 := Scalar.muli v130 c1_i32_1024
  let v956 : BitVec 32 := Scalar.addi c0_i32_1025 v955
  v956.toNat
def k0_dev38 (d0 : Dev nD) : Nat :=
  let c0_i32_1038 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1037 : BitVec 32 := 1#32
  let v959 : BitVec 32 := Scalar.muli v194 c1_i32_1037
  let v960 : BitVec 32 := Scalar.addi c0_i32_1038 v959
  v960.toNat
def k0_dev39 (d0 : Dev nD) : Nat :=
  let c0_i32_1087 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1086 : BitVec 32 := 1#32
  let v999 : BitVec 32 := Scalar.muli v194 c1_i32_1086
  let v1000 : BitVec 32 := Scalar.addi c0_i32_1087 v999
  v1000.toNat
def k0_dev40 (d0 : Dev nD) : Nat :=
  let c0_i32_1100 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1099 : BitVec 32 := 1#32
  let v1003 : BitVec 32 := Scalar.muli v130 c1_i32_1099
  let v1004 : BitVec 32 := Scalar.addi c0_i32_1100 v1003
  v1004.toNat
def k0_dev41 (d0 : Dev nD) : Nat :=
  let c0_i32_1148 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1147 : BitVec 32 := 1#32
  let v1042 : BitVec 32 := Scalar.muli v130 c1_i32_1147
  let v1043 : BitVec 32 := Scalar.addi c0_i32_1148 v1042
  v1043.toNat
def k0_dev42 (d0 : Dev nD) : Nat :=
  let c0_i32_1161 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1160 : BitVec 32 := 1#32
  let v1046 : BitVec 32 := Scalar.muli v194 c1_i32_1160
  let v1047 : BitVec 32 := Scalar.addi c0_i32_1161 v1046
  v1047.toNat
def k0_dev43 (d0 : Dev nD) : Nat :=
  let c0_i32_1229 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1228 : BitVec 32 := 1#32
  let v1111 : BitVec 32 := Scalar.muli v194 c1_i32_1228
  let v1112 : BitVec 32 := Scalar.addi c0_i32_1229 v1111
  v1112.toNat
def k0_dev44 (d0 : Dev nD) : Nat :=
  let c0_i32_1242 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1241 : BitVec 32 := 1#32
  let v1115 : BitVec 32 := Scalar.muli v130 c1_i32_1241
  let v1116 : BitVec 32 := Scalar.addi c0_i32_1242 v1115
  v1116.toNat
def k0_dev45 (d0 : Dev nD) : Nat :=
  let c0_i32_1290 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1289 : BitVec 32 := 1#32
  let v1154 : BitVec 32 := Scalar.muli v130 c1_i32_1289
  let v1155 : BitVec 32 := Scalar.addi c0_i32_1290 v1154
  v1155.toNat
def k0_dev46 (d0 : Dev nD) : Nat :=
  let c0_i32_1303 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1302 : BitVec 32 := 1#32
  let v1158 : BitVec 32 := Scalar.muli v194 c1_i32_1302
  let v1159 : BitVec 32 := Scalar.addi c0_i32_1303 v1158
  v1159.toNat
def k0_dev47 (d0 : Dev nD) : Nat :=
  let c0_i32_1352 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1351 : BitVec 32 := 1#32
  let v1198 : BitVec 32 := Scalar.muli v194 c1_i32_1351
  let v1199 : BitVec 32 := Scalar.addi c0_i32_1352 v1198
  v1199.toNat
def k0_dev48 (d0 : Dev nD) : Nat :=
  let c0_i32_1365 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1364 : BitVec 32 := 1#32
  let v1202 : BitVec 32 := Scalar.muli v130 c1_i32_1364
  let v1203 : BitVec 32 := Scalar.addi c0_i32_1365 v1202
  v1203.toNat
def k0_dev49 (d0 : Dev nD) : Nat :=
  let c0_i32_1413 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1412 : BitVec 32 := 1#32
  let v1241 : BitVec 32 := Scalar.muli v130 c1_i32_1412
  let v1242 : BitVec 32 := Scalar.addi c0_i32_1413 v1241
  v1242.toNat
def k0_dev50 (d0 : Dev nD) : Nat :=
  let c0_i32_1426 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1425 : BitVec 32 := 1#32
  let v1245 : BitVec 32 := Scalar.muli v194 c1_i32_1425
  let v1246 : BitVec 32 := Scalar.addi c0_i32_1426 v1245
  v1246.toNat
def k0_dev51 (d0 : Dev nD) : Nat :=
  let c0_i32_1475 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1474 : BitVec 32 := 1#32
  let v1285 : BitVec 32 := Scalar.muli v194 c1_i32_1474
  let v1286 : BitVec 32 := Scalar.addi c0_i32_1475 v1285
  v1286.toNat
def k0_dev52 (d0 : Dev nD) : Nat :=
  let c0_i32_1488 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1487 : BitVec 32 := 1#32
  let v1289 : BitVec 32 := Scalar.muli v130 c1_i32_1487
  let v1290 : BitVec 32 := Scalar.addi c0_i32_1488 v1289
  v1290.toNat
def k0_dev53 (d0 : Dev nD) : Nat :=
  let c0_i32_1536 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1535 : BitVec 32 := 1#32
  let v1328 : BitVec 32 := Scalar.muli v130 c1_i32_1535
  let v1329 : BitVec 32 := Scalar.addi c0_i32_1536 v1328
  v1329.toNat
def k0_dev54 (d0 : Dev nD) : Nat :=
  let c0_i32_1549 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1548 : BitVec 32 := 1#32
  let v1332 : BitVec 32 := Scalar.muli v194 c1_i32_1548
  let v1333 : BitVec 32 := Scalar.addi c0_i32_1549 v1332
  v1333.toNat
def k0_dev55 (d0 : Dev nD) : Nat :=
  let c0_i32_1598 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1597 : BitVec 32 := 1#32
  let v1372 : BitVec 32 := Scalar.muli v194 c1_i32_1597
  let v1373 : BitVec 32 := Scalar.addi c0_i32_1598 v1372
  v1373.toNat
def k0_dev56 (d0 : Dev nD) : Nat :=
  let c0_i32_1611 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1610 : BitVec 32 := 1#32
  let v1376 : BitVec 32 := Scalar.muli v130 c1_i32_1610
  let v1377 : BitVec 32 := Scalar.addi c0_i32_1611 v1376
  v1377.toNat
def k0_dev57 (d0 : Dev nD) : Nat :=
  let c0_i32_1659 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1658 : BitVec 32 := 1#32
  let v1415 : BitVec 32 := Scalar.muli v130 c1_i32_1658
  let v1416 : BitVec 32 := Scalar.addi c0_i32_1659 v1415
  v1416.toNat
def k0_dev58 (d0 : Dev nD) : Nat :=
  let c0_i32_1672 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1671 : BitVec 32 := 1#32
  let v1419 : BitVec 32 := Scalar.muli v194 c1_i32_1671
  let v1420 : BitVec 32 := Scalar.addi c0_i32_1672 v1419
  v1420.toNat
def k0_dev59 (d0 : Dev nD) : Nat :=
  let c0_i32_1740 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1739 : BitVec 32 := 1#32
  let v1484 : BitVec 32 := Scalar.muli v194 c1_i32_1739
  let v1485 : BitVec 32 := Scalar.addi c0_i32_1740 v1484
  v1485.toNat
def k0_dev60 (d0 : Dev nD) : Nat :=
  let c0_i32_1753 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1752 : BitVec 32 := 1#32
  let v1488 : BitVec 32 := Scalar.muli v130 c1_i32_1752
  let v1489 : BitVec 32 := Scalar.addi c0_i32_1753 v1488
  v1489.toNat
def k0_dev61 (d0 : Dev nD) : Nat :=
  let c0_i32_1801 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1800 : BitVec 32 := 1#32
  let v1527 : BitVec 32 := Scalar.muli v130 c1_i32_1800
  let v1528 : BitVec 32 := Scalar.addi c0_i32_1801 v1527
  v1528.toNat
def k0_dev62 (d0 : Dev nD) : Nat :=
  let c0_i32_1814 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1813 : BitVec 32 := 1#32
  let v1531 : BitVec 32 := Scalar.muli v194 c1_i32_1813
  let v1532 : BitVec 32 := Scalar.addi c0_i32_1814 v1531
  v1532.toNat
def k0_dev63 (d0 : Dev nD) : Nat :=
  let c0_i32_1863 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1862 : BitVec 32 := 1#32
  let v1571 : BitVec 32 := Scalar.muli v194 c1_i32_1862
  let v1572 : BitVec 32 := Scalar.addi c0_i32_1863 v1571
  v1572.toNat
def k0_dev64 (d0 : Dev nD) : Nat :=
  let c0_i32_1876 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1875 : BitVec 32 := 1#32
  let v1575 : BitVec 32 := Scalar.muli v130 c1_i32_1875
  let v1576 : BitVec 32 := Scalar.addi c0_i32_1876 v1575
  v1576.toNat
def k0_dev65 (d0 : Dev nD) : Nat :=
  let c0_i32_1924 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1923 : BitVec 32 := 1#32
  let v1614 : BitVec 32 := Scalar.muli v130 c1_i32_1923
  let v1615 : BitVec 32 := Scalar.addi c0_i32_1924 v1614
  v1615.toNat
def k0_dev66 (d0 : Dev nD) : Nat :=
  let c0_i32_1937 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1936 : BitVec 32 := 1#32
  let v1618 : BitVec 32 := Scalar.muli v194 c1_i32_1936
  let v1619 : BitVec 32 := Scalar.addi c0_i32_1937 v1618
  v1619.toNat
def k0_dev67 (d0 : Dev nD) : Nat :=
  let c0_i32_1986 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_1985 : BitVec 32 := 1#32
  let v1658 : BitVec 32 := Scalar.muli v194 c1_i32_1985
  let v1659 : BitVec 32 := Scalar.addi c0_i32_1986 v1658
  v1659.toNat
def k0_dev68 (d0 : Dev nD) : Nat :=
  let c0_i32_1999 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_1998 : BitVec 32 := 1#32
  let v1662 : BitVec 32 := Scalar.muli v130 c1_i32_1998
  let v1663 : BitVec 32 := Scalar.addi c0_i32_1999 v1662
  v1663.toNat
def k0_dev69 (d0 : Dev nD) : Nat :=
  let c0_i32_2047 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2046 : BitVec 32 := 1#32
  let v1701 : BitVec 32 := Scalar.muli v130 c1_i32_2046
  let v1702 : BitVec 32 := Scalar.addi c0_i32_2047 v1701
  v1702.toNat
def k0_dev70 (d0 : Dev nD) : Nat :=
  let c0_i32_2060 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2059 : BitVec 32 := 1#32
  let v1705 : BitVec 32 := Scalar.muli v194 c1_i32_2059
  let v1706 : BitVec 32 := Scalar.addi c0_i32_2060 v1705
  v1706.toNat
def k0_dev71 (d0 : Dev nD) : Nat :=
  let c0_i32_2109 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2108 : BitVec 32 := 1#32
  let v1745 : BitVec 32 := Scalar.muli v194 c1_i32_2108
  let v1746 : BitVec 32 := Scalar.addi c0_i32_2109 v1745
  v1746.toNat
def k0_dev72 (d0 : Dev nD) : Nat :=
  let c0_i32_2122 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2121 : BitVec 32 := 1#32
  let v1749 : BitVec 32 := Scalar.muli v130 c1_i32_2121
  let v1750 : BitVec 32 := Scalar.addi c0_i32_2122 v1749
  v1750.toNat
def k0_dev73 (d0 : Dev nD) : Nat :=
  let c0_i32_2170 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2169 : BitVec 32 := 1#32
  let v1788 : BitVec 32 := Scalar.muli v130 c1_i32_2169
  let v1789 : BitVec 32 := Scalar.addi c0_i32_2170 v1788
  v1789.toNat
def k0_dev74 (d0 : Dev nD) : Nat :=
  let c0_i32_2183 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2182 : BitVec 32 := 1#32
  let v1792 : BitVec 32 := Scalar.muli v194 c1_i32_2182
  let v1793 : BitVec 32 := Scalar.addi c0_i32_2183 v1792
  v1793.toNat
def k0_dev75 (d0 : Dev nD) : Nat :=
  let c0_i32_2251 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2250 : BitVec 32 := 1#32
  let v1857 : BitVec 32 := Scalar.muli v194 c1_i32_2250
  let v1858 : BitVec 32 := Scalar.addi c0_i32_2251 v1857
  v1858.toNat
def k0_dev76 (d0 : Dev nD) : Nat :=
  let c0_i32_2264 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2263 : BitVec 32 := 1#32
  let v1861 : BitVec 32 := Scalar.muli v130 c1_i32_2263
  let v1862 : BitVec 32 := Scalar.addi c0_i32_2264 v1861
  v1862.toNat
def k0_dev77 (d0 : Dev nD) : Nat :=
  let c0_i32_2312 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2311 : BitVec 32 := 1#32
  let v1900 : BitVec 32 := Scalar.muli v130 c1_i32_2311
  let v1901 : BitVec 32 := Scalar.addi c0_i32_2312 v1900
  v1901.toNat
def k0_dev78 (d0 : Dev nD) : Nat :=
  let c0_i32_2325 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2324 : BitVec 32 := 1#32
  let v1904 : BitVec 32 := Scalar.muli v194 c1_i32_2324
  let v1905 : BitVec 32 := Scalar.addi c0_i32_2325 v1904
  v1905.toNat
def k0_dev79 (d0 : Dev nD) : Nat :=
  let c0_i32_2374 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2373 : BitVec 32 := 1#32
  let v1944 : BitVec 32 := Scalar.muli v194 c1_i32_2373
  let v1945 : BitVec 32 := Scalar.addi c0_i32_2374 v1944
  v1945.toNat
def k0_dev80 (d0 : Dev nD) : Nat :=
  let c0_i32_2387 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2386 : BitVec 32 := 1#32
  let v1948 : BitVec 32 := Scalar.muli v130 c1_i32_2386
  let v1949 : BitVec 32 := Scalar.addi c0_i32_2387 v1948
  v1949.toNat
def k0_dev81 (d0 : Dev nD) : Nat :=
  let c0_i32_2435 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2434 : BitVec 32 := 1#32
  let v1987 : BitVec 32 := Scalar.muli v130 c1_i32_2434
  let v1988 : BitVec 32 := Scalar.addi c0_i32_2435 v1987
  v1988.toNat
def k0_dev82 (d0 : Dev nD) : Nat :=
  let c0_i32_2448 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2447 : BitVec 32 := 1#32
  let v1991 : BitVec 32 := Scalar.muli v194 c1_i32_2447
  let v1992 : BitVec 32 := Scalar.addi c0_i32_2448 v1991
  v1992.toNat
def k0_dev83 (d0 : Dev nD) : Nat :=
  let c0_i32_2497 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2496 : BitVec 32 := 1#32
  let v2031 : BitVec 32 := Scalar.muli v194 c1_i32_2496
  let v2032 : BitVec 32 := Scalar.addi c0_i32_2497 v2031
  v2032.toNat
def k0_dev84 (d0 : Dev nD) : Nat :=
  let c0_i32_2510 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2509 : BitVec 32 := 1#32
  let v2035 : BitVec 32 := Scalar.muli v130 c1_i32_2509
  let v2036 : BitVec 32 := Scalar.addi c0_i32_2510 v2035
  v2036.toNat
def k0_dev85 (d0 : Dev nD) : Nat :=
  let c0_i32_2558 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2557 : BitVec 32 := 1#32
  let v2074 : BitVec 32 := Scalar.muli v130 c1_i32_2557
  let v2075 : BitVec 32 := Scalar.addi c0_i32_2558 v2074
  v2075.toNat
def k0_dev86 (d0 : Dev nD) : Nat :=
  let c0_i32_2571 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2570 : BitVec 32 := 1#32
  let v2078 : BitVec 32 := Scalar.muli v194 c1_i32_2570
  let v2079 : BitVec 32 := Scalar.addi c0_i32_2571 v2078
  v2079.toNat
def k0_dev87 (d0 : Dev nD) : Nat :=
  let c0_i32_2620 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2619 : BitVec 32 := 1#32
  let v2118 : BitVec 32 := Scalar.muli v194 c1_i32_2619
  let v2119 : BitVec 32 := Scalar.addi c0_i32_2620 v2118
  v2119.toNat
def k0_dev88 (d0 : Dev nD) : Nat :=
  let c0_i32_2633 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2632 : BitVec 32 := 1#32
  let v2122 : BitVec 32 := Scalar.muli v130 c1_i32_2632
  let v2123 : BitVec 32 := Scalar.addi c0_i32_2633 v2122
  v2123.toNat
def k0_dev89 (d0 : Dev nD) : Nat :=
  let c0_i32_2681 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2680 : BitVec 32 := 1#32
  let v2161 : BitVec 32 := Scalar.muli v130 c1_i32_2680
  let v2162 : BitVec 32 := Scalar.addi c0_i32_2681 v2161
  v2162.toNat
def k0_dev90 (d0 : Dev nD) : Nat :=
  let c0_i32_2694 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2693 : BitVec 32 := 1#32
  let v2165 : BitVec 32 := Scalar.muli v194 c1_i32_2693
  let v2166 : BitVec 32 := Scalar.addi c0_i32_2694 v2165
  v2166.toNat
def k0_dev91 (d0 : Dev nD) : Nat :=
  let c0_i32_2762 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2761 : BitVec 32 := 1#32
  let v2230 : BitVec 32 := Scalar.muli v194 c1_i32_2761
  let v2231 : BitVec 32 := Scalar.addi c0_i32_2762 v2230
  v2231.toNat
def k0_dev92 (d0 : Dev nD) : Nat :=
  let c0_i32_2775 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2774 : BitVec 32 := 1#32
  let v2234 : BitVec 32 := Scalar.muli v130 c1_i32_2774
  let v2235 : BitVec 32 := Scalar.addi c0_i32_2775 v2234
  v2235.toNat
def k0_dev93 (d0 : Dev nD) : Nat :=
  let c0_i32_2823 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2822 : BitVec 32 := 1#32
  let v2273 : BitVec 32 := Scalar.muli v130 c1_i32_2822
  let v2274 : BitVec 32 := Scalar.addi c0_i32_2823 v2273
  v2274.toNat
def k0_dev94 (d0 : Dev nD) : Nat :=
  let c0_i32_2836 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2835 : BitVec 32 := 1#32
  let v2277 : BitVec 32 := Scalar.muli v194 c1_i32_2835
  let v2278 : BitVec 32 := Scalar.addi c0_i32_2836 v2277
  v2278.toNat
def k0_dev95 (d0 : Dev nD) : Nat :=
  let c0_i32_2885 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2884 : BitVec 32 := 1#32
  let v2317 : BitVec 32 := Scalar.muli v194 c1_i32_2884
  let v2318 : BitVec 32 := Scalar.addi c0_i32_2885 v2317
  v2318.toNat
def k0_dev96 (d0 : Dev nD) : Nat :=
  let c0_i32_2898 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2897 : BitVec 32 := 1#32
  let v2321 : BitVec 32 := Scalar.muli v130 c1_i32_2897
  let v2322 : BitVec 32 := Scalar.addi c0_i32_2898 v2321
  v2322.toNat
def k0_dev97 (d0 : Dev nD) : Nat :=
  let c0_i32_2946 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_2945 : BitVec 32 := 1#32
  let v2360 : BitVec 32 := Scalar.muli v130 c1_i32_2945
  let v2361 : BitVec 32 := Scalar.addi c0_i32_2946 v2360
  v2361.toNat
def k0_dev98 (d0 : Dev nD) : Nat :=
  let c0_i32_2959 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_2958 : BitVec 32 := 1#32
  let v2364 : BitVec 32 := Scalar.muli v194 c1_i32_2958
  let v2365 : BitVec 32 := Scalar.addi c0_i32_2959 v2364
  v2365.toNat
def k0_dev99 (d0 : Dev nD) : Nat :=
  let c0_i32_3008 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3007 : BitVec 32 := 1#32
  let v2404 : BitVec 32 := Scalar.muli v194 c1_i32_3007
  let v2405 : BitVec 32 := Scalar.addi c0_i32_3008 v2404
  v2405.toNat
def k0_dev100 (d0 : Dev nD) : Nat :=
  let c0_i32_3021 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3020 : BitVec 32 := 1#32
  let v2408 : BitVec 32 := Scalar.muli v130 c1_i32_3020
  let v2409 : BitVec 32 := Scalar.addi c0_i32_3021 v2408
  v2409.toNat
def k0_dev101 (d0 : Dev nD) : Nat :=
  let c0_i32_3069 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3068 : BitVec 32 := 1#32
  let v2447 : BitVec 32 := Scalar.muli v130 c1_i32_3068
  let v2448 : BitVec 32 := Scalar.addi c0_i32_3069 v2447
  v2448.toNat
def k0_dev102 (d0 : Dev nD) : Nat :=
  let c0_i32_3082 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3081 : BitVec 32 := 1#32
  let v2451 : BitVec 32 := Scalar.muli v194 c1_i32_3081
  let v2452 : BitVec 32 := Scalar.addi c0_i32_3082 v2451
  v2452.toNat
def k0_dev103 (d0 : Dev nD) : Nat :=
  let c0_i32_3131 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3130 : BitVec 32 := 1#32
  let v2491 : BitVec 32 := Scalar.muli v194 c1_i32_3130
  let v2492 : BitVec 32 := Scalar.addi c0_i32_3131 v2491
  v2492.toNat
def k0_dev104 (d0 : Dev nD) : Nat :=
  let c0_i32_3144 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3143 : BitVec 32 := 1#32
  let v2495 : BitVec 32 := Scalar.muli v130 c1_i32_3143
  let v2496 : BitVec 32 := Scalar.addi c0_i32_3144 v2495
  v2496.toNat
def k0_dev105 (d0 : Dev nD) : Nat :=
  let c0_i32_3192 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3191 : BitVec 32 := 1#32
  let v2534 : BitVec 32 := Scalar.muli v130 c1_i32_3191
  let v2535 : BitVec 32 := Scalar.addi c0_i32_3192 v2534
  v2535.toNat
def k0_dev106 (d0 : Dev nD) : Nat :=
  let c0_i32_3205 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3204 : BitVec 32 := 1#32
  let v2538 : BitVec 32 := Scalar.muli v194 c1_i32_3204
  let v2539 : BitVec 32 := Scalar.addi c0_i32_3205 v2538
  v2539.toNat
def k0_dev107 (d0 : Dev nD) : Nat :=
  let c0_i32_3273 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3272 : BitVec 32 := 1#32
  let v2603 : BitVec 32 := Scalar.muli v194 c1_i32_3272
  let v2604 : BitVec 32 := Scalar.addi c0_i32_3273 v2603
  v2604.toNat
def k0_dev108 (d0 : Dev nD) : Nat :=
  let c0_i32_3286 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3285 : BitVec 32 := 1#32
  let v2607 : BitVec 32 := Scalar.muli v130 c1_i32_3285
  let v2608 : BitVec 32 := Scalar.addi c0_i32_3286 v2607
  v2608.toNat
def k0_dev109 (d0 : Dev nD) : Nat :=
  let c0_i32_3334 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3333 : BitVec 32 := 1#32
  let v2646 : BitVec 32 := Scalar.muli v130 c1_i32_3333
  let v2647 : BitVec 32 := Scalar.addi c0_i32_3334 v2646
  v2647.toNat
def k0_dev110 (d0 : Dev nD) : Nat :=
  let c0_i32_3347 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3346 : BitVec 32 := 1#32
  let v2650 : BitVec 32 := Scalar.muli v194 c1_i32_3346
  let v2651 : BitVec 32 := Scalar.addi c0_i32_3347 v2650
  v2651.toNat
def k0_dev111 (d0 : Dev nD) : Nat :=
  let c0_i32_3396 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3395 : BitVec 32 := 1#32
  let v2690 : BitVec 32 := Scalar.muli v194 c1_i32_3395
  let v2691 : BitVec 32 := Scalar.addi c0_i32_3396 v2690
  v2691.toNat
def k0_dev112 (d0 : Dev nD) : Nat :=
  let c0_i32_3409 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3408 : BitVec 32 := 1#32
  let v2694 : BitVec 32 := Scalar.muli v130 c1_i32_3408
  let v2695 : BitVec 32 := Scalar.addi c0_i32_3409 v2694
  v2695.toNat
def k0_dev113 (d0 : Dev nD) : Nat :=
  let c0_i32_3457 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3456 : BitVec 32 := 1#32
  let v2733 : BitVec 32 := Scalar.muli v130 c1_i32_3456
  let v2734 : BitVec 32 := Scalar.addi c0_i32_3457 v2733
  v2734.toNat
def k0_dev114 (d0 : Dev nD) : Nat :=
  let c0_i32_3470 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3469 : BitVec 32 := 1#32
  let v2737 : BitVec 32 := Scalar.muli v194 c1_i32_3469
  let v2738 : BitVec 32 := Scalar.addi c0_i32_3470 v2737
  v2738.toNat
def k0_dev115 (d0 : Dev nD) : Nat :=
  let c0_i32_3519 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3518 : BitVec 32 := 1#32
  let v2777 : BitVec 32 := Scalar.muli v194 c1_i32_3518
  let v2778 : BitVec 32 := Scalar.addi c0_i32_3519 v2777
  v2778.toNat
def k0_dev116 (d0 : Dev nD) : Nat :=
  let c0_i32_3532 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3531 : BitVec 32 := 1#32
  let v2781 : BitVec 32 := Scalar.muli v130 c1_i32_3531
  let v2782 : BitVec 32 := Scalar.addi c0_i32_3532 v2781
  v2782.toNat
def k0_dev117 (d0 : Dev nD) : Nat :=
  let c0_i32_3580 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3579 : BitVec 32 := 1#32
  let v2820 : BitVec 32 := Scalar.muli v130 c1_i32_3579
  let v2821 : BitVec 32 := Scalar.addi c0_i32_3580 v2820
  v2821.toNat
def k0_dev118 (d0 : Dev nD) : Nat :=
  let c0_i32_3593 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3592 : BitVec 32 := 1#32
  let v2824 : BitVec 32 := Scalar.muli v194 c1_i32_3592
  let v2825 : BitVec 32 := Scalar.addi c0_i32_3593 v2824
  v2825.toNat
def k0_dev119 (d0 : Dev nD) : Nat :=
  let c0_i32_3642 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3641 : BitVec 32 := 1#32
  let v2864 : BitVec 32 := Scalar.muli v194 c1_i32_3641
  let v2865 : BitVec 32 := Scalar.addi c0_i32_3642 v2864
  v2865.toNat
def k0_dev120 (d0 : Dev nD) : Nat :=
  let c0_i32_3655 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3654 : BitVec 32 := 1#32
  let v2868 : BitVec 32 := Scalar.muli v130 c1_i32_3654
  let v2869 : BitVec 32 := Scalar.addi c0_i32_3655 v2868
  v2869.toNat
def k0_dev121 (d0 : Dev nD) : Nat :=
  let c0_i32_3703 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3702 : BitVec 32 := 1#32
  let v2907 : BitVec 32 := Scalar.muli v130 c1_i32_3702
  let v2908 : BitVec 32 := Scalar.addi c0_i32_3703 v2907
  v2908.toNat
def k0_dev122 (d0 : Dev nD) : Nat :=
  let c0_i32_3716 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3715 : BitVec 32 := 1#32
  let v2911 : BitVec 32 := Scalar.muli v194 c1_i32_3715
  let v2912 : BitVec 32 := Scalar.addi c0_i32_3716 v2911
  v2912.toNat
def k0_dev123 (d0 : Dev nD) : Nat :=
  let c0_i32_3775 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3774 : BitVec 32 := 1#32
  let v2964 : BitVec 32 := Scalar.muli v194 c1_i32_3774
  let v2965 : BitVec 32 := Scalar.addi c0_i32_3775 v2964
  v2965.toNat
def k0_dev124 (d0 : Dev nD) : Nat :=
  let c0_i32_3788 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3787 : BitVec 32 := 1#32
  let v2968 : BitVec 32 := Scalar.muli v130 c1_i32_3787
  let v2969 : BitVec 32 := Scalar.addi c0_i32_3788 v2968
  v2969.toNat
def k0_dev125 (d0 : Dev nD) : Nat :=
  let c0_i32_3836 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3835 : BitVec 32 := 1#32
  let v3007 : BitVec 32 := Scalar.muli v130 c1_i32_3835
  let v3008 : BitVec 32 := Scalar.addi c0_i32_3836 v3007
  v3008.toNat
def k0_dev126 (d0 : Dev nD) : Nat :=
  let c0_i32_3849 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3848 : BitVec 32 := 1#32
  let v3011 : BitVec 32 := Scalar.muli v194 c1_i32_3848
  let v3012 : BitVec 32 := Scalar.addi c0_i32_3849 v3011
  v3012.toNat
def k0_dev127 (d0 : Dev nD) : Nat :=
  let c0_i32_3898 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3897 : BitVec 32 := 1#32
  let v3051 : BitVec 32 := Scalar.muli v194 c1_i32_3897
  let v3052 : BitVec 32 := Scalar.addi c0_i32_3898 v3051
  v3052.toNat
def k0_dev128 (d0 : Dev nD) : Nat :=
  let c0_i32_3911 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3910 : BitVec 32 := 1#32
  let v3055 : BitVec 32 := Scalar.muli v130 c1_i32_3910
  let v3056 : BitVec 32 := Scalar.addi c0_i32_3911 v3055
  v3056.toNat
def k0_dev129 (d0 : Dev nD) : Nat :=
  let c0_i32_3959 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_3958 : BitVec 32 := 1#32
  let v3094 : BitVec 32 := Scalar.muli v130 c1_i32_3958
  let v3095 : BitVec 32 := Scalar.addi c0_i32_3959 v3094
  v3095.toNat
def k0_dev130 (d0 : Dev nD) : Nat :=
  let c0_i32_3972 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_3971 : BitVec 32 := 1#32
  let v3098 : BitVec 32 := Scalar.muli v194 c1_i32_3971
  let v3099 : BitVec 32 := Scalar.addi c0_i32_3972 v3098
  v3099.toNat
def k0_dev131 (d0 : Dev nD) : Nat :=
  let c0_i32_4021 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4020 : BitVec 32 := 1#32
  let v3138 : BitVec 32 := Scalar.muli v194 c1_i32_4020
  let v3139 : BitVec 32 := Scalar.addi c0_i32_4021 v3138
  v3139.toNat
def k0_dev132 (d0 : Dev nD) : Nat :=
  let c0_i32_4034 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4033 : BitVec 32 := 1#32
  let v3142 : BitVec 32 := Scalar.muli v130 c1_i32_4033
  let v3143 : BitVec 32 := Scalar.addi c0_i32_4034 v3142
  v3143.toNat
def k0_dev133 (d0 : Dev nD) : Nat :=
  let c0_i32_4082 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4081 : BitVec 32 := 1#32
  let v3181 : BitVec 32 := Scalar.muli v130 c1_i32_4081
  let v3182 : BitVec 32 := Scalar.addi c0_i32_4082 v3181
  v3182.toNat
def k0_dev134 (d0 : Dev nD) : Nat :=
  let c0_i32_4095 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4094 : BitVec 32 := 1#32
  let v3185 : BitVec 32 := Scalar.muli v194 c1_i32_4094
  let v3186 : BitVec 32 := Scalar.addi c0_i32_4095 v3185
  v3186.toNat
def k0_dev135 (d0 : Dev nD) : Nat :=
  let c0_i32_4144 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4143 : BitVec 32 := 1#32
  let v3225 : BitVec 32 := Scalar.muli v194 c1_i32_4143
  let v3226 : BitVec 32 := Scalar.addi c0_i32_4144 v3225
  v3226.toNat
def k0_dev136 (d0 : Dev nD) : Nat :=
  let c0_i32_4157 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4156 : BitVec 32 := 1#32
  let v3229 : BitVec 32 := Scalar.muli v130 c1_i32_4156
  let v3230 : BitVec 32 := Scalar.addi c0_i32_4157 v3229
  v3230.toNat
def k0_dev137 (d0 : Dev nD) : Nat :=
  let c0_i32_4205 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4204 : BitVec 32 := 1#32
  let v3268 : BitVec 32 := Scalar.muli v130 c1_i32_4204
  let v3269 : BitVec 32 := Scalar.addi c0_i32_4205 v3268
  v3269.toNat
def k0_dev138 (d0 : Dev nD) : Nat :=
  let c0_i32_4218 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4217 : BitVec 32 := 1#32
  let v3272 : BitVec 32 := Scalar.muli v194 c1_i32_4217
  let v3273 : BitVec 32 := Scalar.addi c0_i32_4218 v3272
  v3273.toNat
def k0_dev139 (d0 : Dev nD) : Nat :=
  let c0_i32_4267 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4266 : BitVec 32 := 1#32
  let v3312 : BitVec 32 := Scalar.muli v194 c1_i32_4266
  let v3313 : BitVec 32 := Scalar.addi c0_i32_4267 v3312
  v3313.toNat
def k0_dev140 (d0 : Dev nD) : Nat :=
  let c0_i32_4280 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4279 : BitVec 32 := 1#32
  let v3316 : BitVec 32 := Scalar.muli v130 c1_i32_4279
  let v3317 : BitVec 32 := Scalar.addi c0_i32_4280 v3316
  v3317.toNat
def k0_dev141 (d0 : Dev nD) : Nat :=
  let c0_i32_4328 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4327 : BitVec 32 := 1#32
  let v3355 : BitVec 32 := Scalar.muli v130 c1_i32_4327
  let v3356 : BitVec 32 := Scalar.addi c0_i32_4328 v3355
  v3356.toNat
def k0_dev142 (d0 : Dev nD) : Nat :=
  let c0_i32_4341 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4340 : BitVec 32 := 1#32
  let v3359 : BitVec 32 := Scalar.muli v194 c1_i32_4340
  let v3360 : BitVec 32 := Scalar.addi c0_i32_4341 v3359
  v3360.toNat
def k0_dev143 (d0 : Dev nD) : Nat :=
  let c0_i32_4390 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4389 : BitVec 32 := 1#32
  let v3399 : BitVec 32 := Scalar.muli v194 c1_i32_4389
  let v3400 : BitVec 32 := Scalar.addi c0_i32_4390 v3399
  v3400.toNat
def k0_dev144 (d0 : Dev nD) : Nat :=
  let c0_i32_4403 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4402 : BitVec 32 := 1#32
  let v3403 : BitVec 32 := Scalar.muli v130 c1_i32_4402
  let v3404 : BitVec 32 := Scalar.addi c0_i32_4403 v3403
  v3404.toNat
def k0_dev145 (d0 : Dev nD) : Nat :=
  let c0_i32_4451 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4450 : BitVec 32 := 1#32
  let v3442 : BitVec 32 := Scalar.muli v130 c1_i32_4450
  let v3443 : BitVec 32 := Scalar.addi c0_i32_4451 v3442
  v3443.toNat
def k0_dev146 (d0 : Dev nD) : Nat :=
  let c0_i32_4464 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4463 : BitVec 32 := 1#32
  let v3446 : BitVec 32 := Scalar.muli v194 c1_i32_4463
  let v3447 : BitVec 32 := Scalar.addi c0_i32_4464 v3446
  v3447.toNat
def k0_dev147 (d0 : Dev nD) : Nat :=
  let c0_i32_4513 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4512 : BitVec 32 := 1#32
  let v3486 : BitVec 32 := Scalar.muli v194 c1_i32_4512
  let v3487 : BitVec 32 := Scalar.addi c0_i32_4513 v3486
  v3487.toNat
def k0_dev148 (d0 : Dev nD) : Nat :=
  let c0_i32_4526 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4525 : BitVec 32 := 1#32
  let v3490 : BitVec 32 := Scalar.muli v130 c1_i32_4525
  let v3491 : BitVec 32 := Scalar.addi c0_i32_4526 v3490
  v3491.toNat
def k0_dev149 (d0 : Dev nD) : Nat :=
  let c0_i32_4574 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4573 : BitVec 32 := 1#32
  let v3529 : BitVec 32 := Scalar.muli v130 c1_i32_4573
  let v3530 : BitVec 32 := Scalar.addi c0_i32_4574 v3529
  v3530.toNat
def k0_dev150 (d0 : Dev nD) : Nat :=
  let c0_i32_4587 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4586 : BitVec 32 := 1#32
  let v3533 : BitVec 32 := Scalar.muli v194 c1_i32_4586
  let v3534 : BitVec 32 := Scalar.addi c0_i32_4587 v3533
  v3534.toNat
def k0_dev151 (d0 : Dev nD) : Nat :=
  let c0_i32_4636 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4635 : BitVec 32 := 1#32
  let v3573 : BitVec 32 := Scalar.muli v194 c1_i32_4635
  let v3574 : BitVec 32 := Scalar.addi c0_i32_4636 v3573
  v3574.toNat
def k0_dev152 (d0 : Dev nD) : Nat :=
  let c0_i32_4649 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4648 : BitVec 32 := 1#32
  let v3577 : BitVec 32 := Scalar.muli v130 c1_i32_4648
  let v3578 : BitVec 32 := Scalar.addi c0_i32_4649 v3577
  v3578.toNat
def k0_dev153 (d0 : Dev nD) : Nat :=
  let c0_i32_4697 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4696 : BitVec 32 := 1#32
  let v3616 : BitVec 32 := Scalar.muli v130 c1_i32_4696
  let v3617 : BitVec 32 := Scalar.addi c0_i32_4697 v3616
  v3617.toNat
def k0_dev154 (d0 : Dev nD) : Nat :=
  let c0_i32_4710 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4709 : BitVec 32 := 1#32
  let v3620 : BitVec 32 := Scalar.muli v194 c1_i32_4709
  let v3621 : BitVec 32 := Scalar.addi c0_i32_4710 v3620
  v3621.toNat
def k0_dev155 (d0 : Dev nD) : Nat :=
  let c0_i32_4759 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4758 : BitVec 32 := 1#32
  let v3660 : BitVec 32 := Scalar.muli v194 c1_i32_4758
  let v3661 : BitVec 32 := Scalar.addi c0_i32_4759 v3660
  v3661.toNat
def k0_dev156 (d0 : Dev nD) : Nat :=
  let c0_i32_4772 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4771 : BitVec 32 := 1#32
  let v3664 : BitVec 32 := Scalar.muli v130 c1_i32_4771
  let v3665 : BitVec 32 := Scalar.addi c0_i32_4772 v3664
  v3665.toNat
def k0_dev157 (d0 : Dev nD) : Nat :=
  let c0_i32_4820 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4819 : BitVec 32 := 1#32
  let v3703 : BitVec 32 := Scalar.muli v130 c1_i32_4819
  let v3704 : BitVec 32 := Scalar.addi c0_i32_4820 v3703
  v3704.toNat
def k0_dev158 (d0 : Dev nD) : Nat :=
  let c0_i32_4833 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4832 : BitVec 32 := 1#32
  let v3707 : BitVec 32 := Scalar.muli v194 c1_i32_4832
  let v3708 : BitVec 32 := Scalar.addi c0_i32_4833 v3707
  v3708.toNat
def k0_dev159 (d0 : Dev nD) : Nat :=
  let c0_i32_4882 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4881 : BitVec 32 := 1#32
  let v3747 : BitVec 32 := Scalar.muli v194 c1_i32_4881
  let v3748 : BitVec 32 := Scalar.addi c0_i32_4882 v3747
  v3748.toNat
def k0_dev160 (d0 : Dev nD) : Nat :=
  let c0_i32_4895 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4894 : BitVec 32 := 1#32
  let v3751 : BitVec 32 := Scalar.muli v130 c1_i32_4894
  let v3752 : BitVec 32 := Scalar.addi c0_i32_4895 v3751
  v3752.toNat
def k0_dev161 (d0 : Dev nD) : Nat :=
  let c0_i32_4943 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_4942 : BitVec 32 := 1#32
  let v3790 : BitVec 32 := Scalar.muli v130 c1_i32_4942
  let v3791 : BitVec 32 := Scalar.addi c0_i32_4943 v3790
  v3791.toNat
def k0_dev162 (d0 : Dev nD) : Nat :=
  let c0_i32_4956 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_4955 : BitVec 32 := 1#32
  let v3794 : BitVec 32 := Scalar.muli v194 c1_i32_4955
  let v3795 : BitVec 32 := Scalar.addi c0_i32_4956 v3794
  v3795.toNat
def k0_dev163 (d0 : Dev nD) : Nat :=
  let c0_i32_5005 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5004 : BitVec 32 := 1#32
  let v3834 : BitVec 32 := Scalar.muli v194 c1_i32_5004
  let v3835 : BitVec 32 := Scalar.addi c0_i32_5005 v3834
  v3835.toNat
def k0_dev164 (d0 : Dev nD) : Nat :=
  let c0_i32_5018 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5017 : BitVec 32 := 1#32
  let v3838 : BitVec 32 := Scalar.muli v130 c1_i32_5017
  let v3839 : BitVec 32 := Scalar.addi c0_i32_5018 v3838
  v3839.toNat
def k0_dev165 (d0 : Dev nD) : Nat :=
  let c0_i32_5066 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5065 : BitVec 32 := 1#32
  let v3877 : BitVec 32 := Scalar.muli v130 c1_i32_5065
  let v3878 : BitVec 32 := Scalar.addi c0_i32_5066 v3877
  v3878.toNat
def k0_dev166 (d0 : Dev nD) : Nat :=
  let c0_i32_5079 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5078 : BitVec 32 := 1#32
  let v3881 : BitVec 32 := Scalar.muli v194 c1_i32_5078
  let v3882 : BitVec 32 := Scalar.addi c0_i32_5079 v3881
  v3882.toNat
def k0_dev167 (d0 : Dev nD) : Nat :=
  let c0_i32_5128 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5127 : BitVec 32 := 1#32
  let v3921 : BitVec 32 := Scalar.muli v194 c1_i32_5127
  let v3922 : BitVec 32 := Scalar.addi c0_i32_5128 v3921
  v3922.toNat
def k0_dev168 (d0 : Dev nD) : Nat :=
  let c0_i32_5141 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5140 : BitVec 32 := 1#32
  let v3925 : BitVec 32 := Scalar.muli v130 c1_i32_5140
  let v3926 : BitVec 32 := Scalar.addi c0_i32_5141 v3925
  v3926.toNat
def k0_dev169 (d0 : Dev nD) : Nat :=
  let c0_i32_5189 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5188 : BitVec 32 := 1#32
  let v3964 : BitVec 32 := Scalar.muli v130 c1_i32_5188
  let v3965 : BitVec 32 := Scalar.addi c0_i32_5189 v3964
  v3965.toNat
def k0_dev170 (d0 : Dev nD) : Nat :=
  let c0_i32_5202 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5201 : BitVec 32 := 1#32
  let v3968 : BitVec 32 := Scalar.muli v194 c1_i32_5201
  let v3969 : BitVec 32 := Scalar.addi c0_i32_5202 v3968
  v3969.toNat
def k0_dev171 (d0 : Dev nD) : Nat :=
  let c0_i32_5251 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5250 : BitVec 32 := 1#32
  let v4008 : BitVec 32 := Scalar.muli v194 c1_i32_5250
  let v4009 : BitVec 32 := Scalar.addi c0_i32_5251 v4008
  v4009.toNat
def k0_dev172 (d0 : Dev nD) : Nat :=
  let c0_i32_5264 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5263 : BitVec 32 := 1#32
  let v4012 : BitVec 32 := Scalar.muli v130 c1_i32_5263
  let v4013 : BitVec 32 := Scalar.addi c0_i32_5264 v4012
  v4013.toNat
def k0_dev173 (d0 : Dev nD) : Nat :=
  let c0_i32_5312 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5311 : BitVec 32 := 1#32
  let v4051 : BitVec 32 := Scalar.muli v130 c1_i32_5311
  let v4052 : BitVec 32 := Scalar.addi c0_i32_5312 v4051
  v4052.toNat
def k0_dev174 (d0 : Dev nD) : Nat :=
  let c0_i32_5325 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5324 : BitVec 32 := 1#32
  let v4055 : BitVec 32 := Scalar.muli v194 c1_i32_5324
  let v4056 : BitVec 32 := Scalar.addi c0_i32_5325 v4055
  v4056.toNat
def k0_dev175 (d0 : Dev nD) : Nat :=
  let c0_i32_5374 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5373 : BitVec 32 := 1#32
  let v4095 : BitVec 32 := Scalar.muli v194 c1_i32_5373
  let v4096 : BitVec 32 := Scalar.addi c0_i32_5374 v4095
  v4096.toNat
def k0_dev176 (d0 : Dev nD) : Nat :=
  let c0_i32_5387 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5386 : BitVec 32 := 1#32
  let v4099 : BitVec 32 := Scalar.muli v130 c1_i32_5386
  let v4100 : BitVec 32 := Scalar.addi c0_i32_5387 v4099
  v4100.toNat
def k0_dev177 (d0 : Dev nD) : Nat :=
  let c0_i32_5435 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5434 : BitVec 32 := 1#32
  let v4138 : BitVec 32 := Scalar.muli v130 c1_i32_5434
  let v4139 : BitVec 32 := Scalar.addi c0_i32_5435 v4138
  v4139.toNat
def k0_dev178 (d0 : Dev nD) : Nat :=
  let c0_i32_5448 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5447 : BitVec 32 := 1#32
  let v4142 : BitVec 32 := Scalar.muli v194 c1_i32_5447
  let v4143 : BitVec 32 := Scalar.addi c0_i32_5448 v4142
  v4143.toNat
def k0_dev179 (d0 : Dev nD) : Nat :=
  let c0_i32_5497 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5496 : BitVec 32 := 1#32
  let v4182 : BitVec 32 := Scalar.muli v194 c1_i32_5496
  let v4183 : BitVec 32 := Scalar.addi c0_i32_5497 v4182
  v4183.toNat
def k0_dev180 (d0 : Dev nD) : Nat :=
  let c0_i32_5510 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5509 : BitVec 32 := 1#32
  let v4186 : BitVec 32 := Scalar.muli v130 c1_i32_5509
  let v4187 : BitVec 32 := Scalar.addi c0_i32_5510 v4186
  v4187.toNat
def k0_dev181 (d0 : Dev nD) : Nat :=
  let c0_i32_5558 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5557 : BitVec 32 := 1#32
  let v4225 : BitVec 32 := Scalar.muli v130 c1_i32_5557
  let v4226 : BitVec 32 := Scalar.addi c0_i32_5558 v4225
  v4226.toNat
def k0_dev182 (d0 : Dev nD) : Nat :=
  let c0_i32_5571 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5570 : BitVec 32 := 1#32
  let v4229 : BitVec 32 := Scalar.muli v194 c1_i32_5570
  let v4230 : BitVec 32 := Scalar.addi c0_i32_5571 v4229
  v4230.toNat
def k0_dev183 (d0 : Dev nD) : Nat :=
  let c0_i32_5620 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5619 : BitVec 32 := 1#32
  let v4269 : BitVec 32 := Scalar.muli v194 c1_i32_5619
  let v4270 : BitVec 32 := Scalar.addi c0_i32_5620 v4269
  v4270.toNat
def k0_dev184 (d0 : Dev nD) : Nat :=
  let c0_i32_5633 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5632 : BitVec 32 := 1#32
  let v4273 : BitVec 32 := Scalar.muli v130 c1_i32_5632
  let v4274 : BitVec 32 := Scalar.addi c0_i32_5633 v4273
  v4274.toNat
def k0_dev185 (d0 : Dev nD) : Nat :=
  let c0_i32_5681 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5680 : BitVec 32 := 1#32
  let v4312 : BitVec 32 := Scalar.muli v130 c1_i32_5680
  let v4313 : BitVec 32 := Scalar.addi c0_i32_5681 v4312
  v4313.toNat
def k0_dev186 (d0 : Dev nD) : Nat :=
  let c0_i32_5694 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5693 : BitVec 32 := 1#32
  let v4316 : BitVec 32 := Scalar.muli v194 c1_i32_5693
  let v4317 : BitVec 32 := Scalar.addi c0_i32_5694 v4316
  v4317.toNat
def k0_dev187 (d0 : Dev nD) : Nat :=
  let c0_i32_5743 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5742 : BitVec 32 := 1#32
  let v4356 : BitVec 32 := Scalar.muli v194 c1_i32_5742
  let v4357 : BitVec 32 := Scalar.addi c0_i32_5743 v4356
  v4357.toNat
def k0_dev188 (d0 : Dev nD) : Nat :=
  let c0_i32_5756 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5755 : BitVec 32 := 1#32
  let v4360 : BitVec 32 := Scalar.muli v130 c1_i32_5755
  let v4361 : BitVec 32 := Scalar.addi c0_i32_5756 v4360
  v4361.toNat
def k0_dev189 (d0 : Dev nD) : Nat :=
  let c0_i32_5804 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5803 : BitVec 32 := 1#32
  let v4399 : BitVec 32 := Scalar.muli v130 c1_i32_5803
  let v4400 : BitVec 32 := Scalar.addi c0_i32_5804 v4399
  v4400.toNat
def k0_dev190 (d0 : Dev nD) : Nat :=
  let c0_i32_5817 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5816 : BitVec 32 := 1#32
  let v4403 : BitVec 32 := Scalar.muli v194 c1_i32_5816
  let v4404 : BitVec 32 := Scalar.addi c0_i32_5817 v4403
  v4404.toNat
def k0_dev191 (d0 : Dev nD) : Nat :=
  let c0_i32_5866 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5865 : BitVec 32 := 1#32
  let v4443 : BitVec 32 := Scalar.muli v194 c1_i32_5865
  let v4444 : BitVec 32 := Scalar.addi c0_i32_5866 v4443
  v4444.toNat
def k0_dev192 (d0 : Dev nD) : Nat :=
  let c0_i32_5879 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5878 : BitVec 32 := 1#32
  let v4447 : BitVec 32 := Scalar.muli v130 c1_i32_5878
  let v4448 : BitVec 32 := Scalar.addi c0_i32_5879 v4447
  v4448.toNat
def k0_dev193 (d0 : Dev nD) : Nat :=
  let c0_i32_5927 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_5926 : BitVec 32 := 1#32
  let v4486 : BitVec 32 := Scalar.muli v130 c1_i32_5926
  let v4487 : BitVec 32 := Scalar.addi c0_i32_5927 v4486
  v4487.toNat
def k0_dev194 (d0 : Dev nD) : Nat :=
  let c0_i32_5940 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5939 : BitVec 32 := 1#32
  let v4490 : BitVec 32 := Scalar.muli v194 c1_i32_5939
  let v4491 : BitVec 32 := Scalar.addi c0_i32_5940 v4490
  v4491.toNat
def k0_dev195 (d0 : Dev nD) : Nat :=
  let c0_i32_5989 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_5988 : BitVec 32 := 1#32
  let v4530 : BitVec 32 := Scalar.muli v194 c1_i32_5988
  let v4531 : BitVec 32 := Scalar.addi c0_i32_5989 v4530
  v4531.toNat
def k0_dev196 (d0 : Dev nD) : Nat :=
  let c0_i32_6002 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6001 : BitVec 32 := 1#32
  let v4534 : BitVec 32 := Scalar.muli v130 c1_i32_6001
  let v4535 : BitVec 32 := Scalar.addi c0_i32_6002 v4534
  v4535.toNat
def k0_dev197 (d0 : Dev nD) : Nat :=
  let c0_i32_6050 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6049 : BitVec 32 := 1#32
  let v4573 : BitVec 32 := Scalar.muli v130 c1_i32_6049
  let v4574 : BitVec 32 := Scalar.addi c0_i32_6050 v4573
  v4574.toNat
def k0_dev198 (d0 : Dev nD) : Nat :=
  let c0_i32_6063 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6062 : BitVec 32 := 1#32
  let v4577 : BitVec 32 := Scalar.muli v194 c1_i32_6062
  let v4578 : BitVec 32 := Scalar.addi c0_i32_6063 v4577
  v4578.toNat
def k0_dev199 (d0 : Dev nD) : Nat :=
  let c0_i32_6112 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6111 : BitVec 32 := 1#32
  let v4617 : BitVec 32 := Scalar.muli v194 c1_i32_6111
  let v4618 : BitVec 32 := Scalar.addi c0_i32_6112 v4617
  v4618.toNat
def k0_dev200 (d0 : Dev nD) : Nat :=
  let c0_i32_6125 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6124 : BitVec 32 := 1#32
  let v4621 : BitVec 32 := Scalar.muli v130 c1_i32_6124
  let v4622 : BitVec 32 := Scalar.addi c0_i32_6125 v4621
  v4622.toNat
def k0_dev201 (d0 : Dev nD) : Nat :=
  let c0_i32_6173 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6172 : BitVec 32 := 1#32
  let v4660 : BitVec 32 := Scalar.muli v130 c1_i32_6172
  let v4661 : BitVec 32 := Scalar.addi c0_i32_6173 v4660
  v4661.toNat
def k0_dev202 (d0 : Dev nD) : Nat :=
  let c0_i32_6186 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6185 : BitVec 32 := 1#32
  let v4664 : BitVec 32 := Scalar.muli v194 c1_i32_6185
  let v4665 : BitVec 32 := Scalar.addi c0_i32_6186 v4664
  v4665.toNat
def k0_dev203 (d0 : Dev nD) : Nat :=
  let c0_i32_6235 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6234 : BitVec 32 := 1#32
  let v4704 : BitVec 32 := Scalar.muli v194 c1_i32_6234
  let v4705 : BitVec 32 := Scalar.addi c0_i32_6235 v4704
  v4705.toNat
def k0_dev204 (d0 : Dev nD) : Nat :=
  let c0_i32_6248 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6247 : BitVec 32 := 1#32
  let v4708 : BitVec 32 := Scalar.muli v130 c1_i32_6247
  let v4709 : BitVec 32 := Scalar.addi c0_i32_6248 v4708
  v4709.toNat
def k0_dev205 (d0 : Dev nD) : Nat :=
  let c0_i32_6296 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6295 : BitVec 32 := 1#32
  let v4747 : BitVec 32 := Scalar.muli v130 c1_i32_6295
  let v4748 : BitVec 32 := Scalar.addi c0_i32_6296 v4747
  v4748.toNat
def k0_dev206 (d0 : Dev nD) : Nat :=
  let c0_i32_6309 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6308 : BitVec 32 := 1#32
  let v4751 : BitVec 32 := Scalar.muli v194 c1_i32_6308
  let v4752 : BitVec 32 := Scalar.addi c0_i32_6309 v4751
  v4752.toNat
def k0_dev207 (d0 : Dev nD) : Nat :=
  let c0_i32_6358 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6357 : BitVec 32 := 1#32
  let v4791 : BitVec 32 := Scalar.muli v194 c1_i32_6357
  let v4792 : BitVec 32 := Scalar.addi c0_i32_6358 v4791
  v4792.toNat
def k0_dev208 (d0 : Dev nD) : Nat :=
  let c0_i32_6371 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6370 : BitVec 32 := 1#32
  let v4795 : BitVec 32 := Scalar.muli v130 c1_i32_6370
  let v4796 : BitVec 32 := Scalar.addi c0_i32_6371 v4795
  v4796.toNat
def k0_dev209 (d0 : Dev nD) : Nat :=
  let c0_i32_6419 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6418 : BitVec 32 := 1#32
  let v4834 : BitVec 32 := Scalar.muli v130 c1_i32_6418
  let v4835 : BitVec 32 := Scalar.addi c0_i32_6419 v4834
  v4835.toNat
def k0_dev210 (d0 : Dev nD) : Nat :=
  let c0_i32_6432 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6431 : BitVec 32 := 1#32
  let v4838 : BitVec 32 := Scalar.muli v194 c1_i32_6431
  let v4839 : BitVec 32 := Scalar.addi c0_i32_6432 v4838
  v4839.toNat
def k0_dev211 (d0 : Dev nD) : Nat :=
  let c0_i32_6481 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6480 : BitVec 32 := 1#32
  let v4878 : BitVec 32 := Scalar.muli v194 c1_i32_6480
  let v4879 : BitVec 32 := Scalar.addi c0_i32_6481 v4878
  v4879.toNat
def k0_dev212 (d0 : Dev nD) : Nat :=
  let c0_i32_6494 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6493 : BitVec 32 := 1#32
  let v4882 : BitVec 32 := Scalar.muli v130 c1_i32_6493
  let v4883 : BitVec 32 := Scalar.addi c0_i32_6494 v4882
  v4883.toNat
def k0_dev213 (d0 : Dev nD) : Nat :=
  let c0_i32_6542 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6541 : BitVec 32 := 1#32
  let v4921 : BitVec 32 := Scalar.muli v130 c1_i32_6541
  let v4922 : BitVec 32 := Scalar.addi c0_i32_6542 v4921
  v4922.toNat
def k0_dev214 (d0 : Dev nD) : Nat :=
  let c0_i32_6555 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6554 : BitVec 32 := 1#32
  let v4925 : BitVec 32 := Scalar.muli v194 c1_i32_6554
  let v4926 : BitVec 32 := Scalar.addi c0_i32_6555 v4925
  v4926.toNat
def k0_dev215 (d0 : Dev nD) : Nat :=
  let c0_i32_6604 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6603 : BitVec 32 := 1#32
  let v4965 : BitVec 32 := Scalar.muli v194 c1_i32_6603
  let v4966 : BitVec 32 := Scalar.addi c0_i32_6604 v4965
  v4966.toNat
def k0_dev216 (d0 : Dev nD) : Nat :=
  let c0_i32_6617 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6616 : BitVec 32 := 1#32
  let v4969 : BitVec 32 := Scalar.muli v130 c1_i32_6616
  let v4970 : BitVec 32 := Scalar.addi c0_i32_6617 v4969
  v4970.toNat
def k0_dev217 (d0 : Dev nD) : Nat :=
  let c0_i32_6665 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6664 : BitVec 32 := 1#32
  let v5008 : BitVec 32 := Scalar.muli v130 c1_i32_6664
  let v5009 : BitVec 32 := Scalar.addi c0_i32_6665 v5008
  v5009.toNat
def k0_dev218 (d0 : Dev nD) : Nat :=
  let c0_i32_6678 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6677 : BitVec 32 := 1#32
  let v5012 : BitVec 32 := Scalar.muli v194 c1_i32_6677
  let v5013 : BitVec 32 := Scalar.addi c0_i32_6678 v5012
  v5013.toNat
def k0_dev219 (d0 : Dev nD) : Nat :=
  let c0_i32_6727 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6726 : BitVec 32 := 1#32
  let v5052 : BitVec 32 := Scalar.muli v194 c1_i32_6726
  let v5053 : BitVec 32 := Scalar.addi c0_i32_6727 v5052
  v5053.toNat
def k0_dev220 (d0 : Dev nD) : Nat :=
  let c0_i32_6740 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6739 : BitVec 32 := 1#32
  let v5056 : BitVec 32 := Scalar.muli v130 c1_i32_6739
  let v5057 : BitVec 32 := Scalar.addi c0_i32_6740 v5056
  v5057.toNat
def k0_dev221 (d0 : Dev nD) : Nat :=
  let c0_i32_6788 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6787 : BitVec 32 := 1#32
  let v5095 : BitVec 32 := Scalar.muli v130 c1_i32_6787
  let v5096 : BitVec 32 := Scalar.addi c0_i32_6788 v5095
  v5096.toNat
def k0_dev222 (d0 : Dev nD) : Nat :=
  let c0_i32_6801 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6800 : BitVec 32 := 1#32
  let v5099 : BitVec 32 := Scalar.muli v194 c1_i32_6800
  let v5100 : BitVec 32 := Scalar.addi c0_i32_6801 v5099
  v5100.toNat
def k0_dev223 (d0 : Dev nD) : Nat :=
  let c0_i32_6850 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6849 : BitVec 32 := 1#32
  let v5139 : BitVec 32 := Scalar.muli v194 c1_i32_6849
  let v5140 : BitVec 32 := Scalar.addi c0_i32_6850 v5139
  v5140.toNat
def k0_dev224 (d0 : Dev nD) : Nat :=
  let c0_i32_6863 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6862 : BitVec 32 := 1#32
  let v5143 : BitVec 32 := Scalar.muli v130 c1_i32_6862
  let v5144 : BitVec 32 := Scalar.addi c0_i32_6863 v5143
  v5144.toNat
def k0_dev225 (d0 : Dev nD) : Nat :=
  let c0_i32_6911 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6910 : BitVec 32 := 1#32
  let v5182 : BitVec 32 := Scalar.muli v130 c1_i32_6910
  let v5183 : BitVec 32 := Scalar.addi c0_i32_6911 v5182
  v5183.toNat
def k0_dev226 (d0 : Dev nD) : Nat :=
  let c0_i32_6924 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6923 : BitVec 32 := 1#32
  let v5186 : BitVec 32 := Scalar.muli v194 c1_i32_6923
  let v5187 : BitVec 32 := Scalar.addi c0_i32_6924 v5186
  v5187.toNat
def k0_dev227 (d0 : Dev nD) : Nat :=
  let c0_i32_6973 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_6972 : BitVec 32 := 1#32
  let v5226 : BitVec 32 := Scalar.muli v194 c1_i32_6972
  let v5227 : BitVec 32 := Scalar.addi c0_i32_6973 v5226
  v5227.toNat
def k0_dev228 (d0 : Dev nD) : Nat :=
  let c0_i32_6986 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_6985 : BitVec 32 := 1#32
  let v5230 : BitVec 32 := Scalar.muli v130 c1_i32_6985
  let v5231 : BitVec 32 := Scalar.addi c0_i32_6986 v5230
  v5231.toNat
def k0_dev229 (d0 : Dev nD) : Nat :=
  let c0_i32_7034 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7033 : BitVec 32 := 1#32
  let v5269 : BitVec 32 := Scalar.muli v130 c1_i32_7033
  let v5270 : BitVec 32 := Scalar.addi c0_i32_7034 v5269
  v5270.toNat
def k0_dev230 (d0 : Dev nD) : Nat :=
  let c0_i32_7047 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7046 : BitVec 32 := 1#32
  let v5273 : BitVec 32 := Scalar.muli v194 c1_i32_7046
  let v5274 : BitVec 32 := Scalar.addi c0_i32_7047 v5273
  v5274.toNat
def k0_dev231 (d0 : Dev nD) : Nat :=
  let c0_i32_7096 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7095 : BitVec 32 := 1#32
  let v5313 : BitVec 32 := Scalar.muli v194 c1_i32_7095
  let v5314 : BitVec 32 := Scalar.addi c0_i32_7096 v5313
  v5314.toNat
def k0_dev232 (d0 : Dev nD) : Nat :=
  let c0_i32_7109 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7108 : BitVec 32 := 1#32
  let v5317 : BitVec 32 := Scalar.muli v130 c1_i32_7108
  let v5318 : BitVec 32 := Scalar.addi c0_i32_7109 v5317
  v5318.toNat
def k0_dev233 (d0 : Dev nD) : Nat :=
  let c0_i32_7157 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7156 : BitVec 32 := 1#32
  let v5356 : BitVec 32 := Scalar.muli v130 c1_i32_7156
  let v5357 : BitVec 32 := Scalar.addi c0_i32_7157 v5356
  v5357.toNat
def k0_dev234 (d0 : Dev nD) : Nat :=
  let c0_i32_7170 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7169 : BitVec 32 := 1#32
  let v5360 : BitVec 32 := Scalar.muli v194 c1_i32_7169
  let v5361 : BitVec 32 := Scalar.addi c0_i32_7170 v5360
  v5361.toNat
def k0_off11 (d0 : Dev nD) (c0_i32_7205 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c1_i32_7202 : BitVec 32 := 1#32
  let v5384 : BitVec 32 := Scalar.addi v66 c1_i32_7202
  let c16_i32_7203 : BitVec 32 := 16#32
  let v5385 : BitVec 32 := Scalar.remsi v5384 c16_i32_7203
  let c96_i32_7204 : BitVec 32 := 96#32
  let v5386 : BitVec 32 := Scalar.muli v5385 c96_i32_7204
  let v5387 : BitVec 32 := Scalar.addi v5386 c0_i32_7205
  let v5390 : Index := Scalar.indexCast v5387
  let c0_7210 : Index := 0#32
  ![v5390.toNat, 0]
def k0_dev235 (d0 : Dev nD) : Nat :=
  let c0_i32_7223 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7222 : BitVec 32 := 1#32
  let v5414 : BitVec 32 := Scalar.muli v194 c1_i32_7222
  let v5415 : BitVec 32 := Scalar.addi c0_i32_7223 v5414
  v5415.toNat
def k0_dev236 (d0 : Dev nD) : Nat :=
  let c0_i32_7236 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7235 : BitVec 32 := 1#32
  let v5418 : BitVec 32 := Scalar.muli v130 c1_i32_7235
  let v5419 : BitVec 32 := Scalar.addi c0_i32_7236 v5418
  v5419.toNat
def k0_off12 (d0 : Dev nD) (c0_i32_7272 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c16_i32_7268 : BitVec 32 := 16#32
  let v5442 : BitVec 32 := Scalar.addi v66 c16_i32_7268
  let c1_i32_7269 : BitVec 32 := 1#32
  let v5443 : BitVec 32 := Scalar.subi v5442 c1_i32_7269
  let c16_i32_7270 : BitVec 32 := 16#32
  let v5444 : BitVec 32 := Scalar.remsi v5443 c16_i32_7270
  let c96_i32_7271 : BitVec 32 := 96#32
  let v5445 : BitVec 32 := Scalar.muli v5444 c96_i32_7271
  let v5446 : BitVec 32 := Scalar.addi v5445 c0_i32_7272
  let v5449 : Index := Scalar.indexCast v5446
  let c768_7277 : Index := 768#32
  ![v5449.toNat, 768]
def k0_dev237 (d0 : Dev nD) : Nat :=
  let c0_i32_7290 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7289 : BitVec 32 := 1#32
  let v5473 : BitVec 32 := Scalar.muli v130 c1_i32_7289
  let v5474 : BitVec 32 := Scalar.addi c0_i32_7290 v5473
  v5474.toNat
def k0_dev238 (d0 : Dev nD) : Nat :=
  let c0_i32_7303 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7302 : BitVec 32 := 1#32
  let v5477 : BitVec 32 := Scalar.muli v194 c1_i32_7302
  let v5478 : BitVec 32 := Scalar.addi c0_i32_7303 v5477
  v5478.toNat
def k0_dev239 (d0 : Dev nD) : Nat :=
  let c0_i32_7356 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7355 : BitVec 32 := 1#32
  let v5531 : BitVec 32 := Scalar.muli v194 c1_i32_7355
  let v5532 : BitVec 32 := Scalar.addi c0_i32_7356 v5531
  v5532.toNat
def k0_dev240 (d0 : Dev nD) : Nat :=
  let c0_i32_7369 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7368 : BitVec 32 := 1#32
  let v5535 : BitVec 32 := Scalar.muli v130 c1_i32_7368
  let v5536 : BitVec 32 := Scalar.addi c0_i32_7369 v5535
  v5536.toNat
def k0_dev241 (d0 : Dev nD) : Nat :=
  let c0_i32_7423 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7422 : BitVec 32 := 1#32
  let v5590 : BitVec 32 := Scalar.muli v130 c1_i32_7422
  let v5591 : BitVec 32 := Scalar.addi c0_i32_7423 v5590
  v5591.toNat
def k0_dev242 (d0 : Dev nD) : Nat :=
  let c0_i32_7436 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7435 : BitVec 32 := 1#32
  let v5594 : BitVec 32 := Scalar.muli v194 c1_i32_7435
  let v5595 : BitVec 32 := Scalar.addi c0_i32_7436 v5594
  v5595.toNat
def k0_off13 (d0 : Dev nD) (c0_i32_7471 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c1_i32_7468 : BitVec 32 := 1#32
  let v5618 : BitVec 32 := Scalar.addi v66 c1_i32_7468
  let c16_i32_7469 : BitVec 32 := 16#32
  let v5619 : BitVec 32 := Scalar.remsi v5618 c16_i32_7469
  let c96_i32_7470 : BitVec 32 := 96#32
  let v5620 : BitVec 32 := Scalar.muli v5619 c96_i32_7470
  let v5621 : BitVec 32 := Scalar.addi v5620 c0_i32_7471
  let v5624 : Index := Scalar.indexCast v5621
  let c384_7476 : Index := 384#32
  ![v5624.toNat, 384]
def k0_dev243 (d0 : Dev nD) : Nat :=
  let c0_i32_7489 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7488 : BitVec 32 := 1#32
  let v5648 : BitVec 32 := Scalar.muli v194 c1_i32_7488
  let v5649 : BitVec 32 := Scalar.addi c0_i32_7489 v5648
  v5649.toNat
def k0_dev244 (d0 : Dev nD) : Nat :=
  let c0_i32_7502 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7501 : BitVec 32 := 1#32
  let v5652 : BitVec 32 := Scalar.muli v130 c1_i32_7501
  let v5653 : BitVec 32 := Scalar.addi c0_i32_7502 v5652
  v5653.toNat
def k0_off14 (d0 : Dev nD) (c0_i32_7538 : BitVec 32) : Fin 2 → Nat :=
  let c0_i32_1 : BitVec 32 := 0#32
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .eq v2 c0_i32
  let v4 : BitVec 32 := Scalar.extui v3
  let v5 : BitVec 32 := Scalar.muli c0_i32_0 v4
  let v6 : BitVec 32 := Scalar.addi c0_i32_1 v5
  let c15_i32 : BitVec 32 := 15#32
  let c1_i32_2 : BitVec 32 := 1#32
  let v7 : BitVec 1 := Scalar.cmpi .eq v2 c1_i32_2
  let v8 : BitVec 32 := Scalar.extui v7
  let v9 : BitVec 32 := Scalar.muli c15_i32 v8
  let v10 : BitVec 32 := Scalar.addi v6 v9
  let c8_i32 : BitVec 32 := 8#32
  let c2_i32 : BitVec 32 := 2#32
  let v11 : BitVec 1 := Scalar.cmpi .eq v2 c2_i32
  let v12 : BitVec 32 := Scalar.extui v11
  let v13 : BitVec 32 := Scalar.muli c8_i32 v12
  let v14 : BitVec 32 := Scalar.addi v10 v13
  let c7_i32 : BitVec 32 := 7#32
  let c3_i32 : BitVec 32 := 3#32
  let v15 : BitVec 1 := Scalar.cmpi .eq v2 c3_i32
  let v16 : BitVec 32 := Scalar.extui v15
  let v17 : BitVec 32 := Scalar.muli c7_i32 v16
  let v18 : BitVec 32 := Scalar.addi v14 v17
  let c1_i32_3 : BitVec 32 := 1#32
  let c4_i32 : BitVec 32 := 4#32
  let v19 : BitVec 1 := Scalar.cmpi .eq v2 c4_i32
  let v20 : BitVec 32 := Scalar.extui v19
  let v21 : BitVec 32 := Scalar.muli c1_i32_3 v20
  let v22 : BitVec 32 := Scalar.addi v18 v21
  let c14_i32 : BitVec 32 := 14#32
  let c5_i32 : BitVec 32 := 5#32
  let v23 : BitVec 1 := Scalar.cmpi .eq v2 c5_i32
  let v24 : BitVec 32 := Scalar.extui v23
  let v25 : BitVec 32 := Scalar.muli c14_i32 v24
  let v26 : BitVec 32 := Scalar.addi v22 v25
  let c9_i32 : BitVec 32 := 9#32
  let c6_i32 : BitVec 32 := 6#32
  let v27 : BitVec 1 := Scalar.cmpi .eq v2 c6_i32
  let v28 : BitVec 32 := Scalar.extui v27
  let v29 : BitVec 32 := Scalar.muli c9_i32 v28
  let v30 : BitVec 32 := Scalar.addi v26 v29
  let c6_i32_5 : BitVec 32 := 6#32
  let c7_i32_4 : BitVec 32 := 7#32
  let v31 : BitVec 1 := Scalar.cmpi .eq v2 c7_i32_4
  let v32 : BitVec 32 := Scalar.extui v31
  let v33 : BitVec 32 := Scalar.muli c6_i32_5 v32
  let v34 : BitVec 32 := Scalar.addi v30 v33
  let c2_i32_7 : BitVec 32 := 2#32
  let c8_i32_6 : BitVec 32 := 8#32
  let v35 : BitVec 1 := Scalar.cmpi .eq v2 c8_i32_6
  let v36 : BitVec 32 := Scalar.extui v35
  let v37 : BitVec 32 := Scalar.muli c2_i32_7 v36
  let v38 : BitVec 32 := Scalar.addi v34 v37
  let c13_i32 : BitVec 32 := 13#32
  let c9_i32_8 : BitVec 32 := 9#32
  let v39 : BitVec 1 := Scalar.cmpi .eq v2 c9_i32_8
  let v40 : BitVec 32 := Scalar.extui v39
  let v41 : BitVec 32 := Scalar.muli c13_i32 v40
  let v42 : BitVec 32 := Scalar.addi v38 v41
  let c10_i32_9 : BitVec 32 := 10#32
  let c10_i32 : BitVec 32 := 10#32
  let v43 : BitVec 1 := Scalar.cmpi .eq v2 c10_i32
  let v44 : BitVec 32 := Scalar.extui v43
  let v45 : BitVec 32 := Scalar.muli c10_i32_9 v44
  let v46 : BitVec 32 := Scalar.addi v42 v45
  let c5_i32_10 : BitVec 32 := 5#32
  let c11_i32 : BitVec 32 := 11#32
  let v47 : BitVec 1 := Scalar.cmpi .eq v2 c11_i32
  let v48 : BitVec 32 := Scalar.extui v47
  let v49 : BitVec 32 := Scalar.muli c5_i32_10 v48
  let v50 : BitVec 32 := Scalar.addi v46 v49
  let c3_i32_11 : BitVec 32 := 3#32
  let c12_i32 : BitVec 32 := 12#32
  let v51 : BitVec 1 := Scalar.cmpi .eq v2 c12_i32
  let v52 : BitVec 32 := Scalar.extui v51
  let v53 : BitVec 32 := Scalar.muli c3_i32_11 v52
  let v54 : BitVec 32 := Scalar.addi v50 v53
  let c12_i32_13 : BitVec 32 := 12#32
  let c13_i32_12 : BitVec 32 := 13#32
  let v55 : BitVec 1 := Scalar.cmpi .eq v2 c13_i32_12
  let v56 : BitVec 32 := Scalar.extui v55
  let v57 : BitVec 32 := Scalar.muli c12_i32_13 v56
  let v58 : BitVec 32 := Scalar.addi v54 v57
  let c11_i32_15 : BitVec 32 := 11#32
  let c14_i32_14 : BitVec 32 := 14#32
  let v59 : BitVec 1 := Scalar.cmpi .eq v2 c14_i32_14
  let v60 : BitVec 32 := Scalar.extui v59
  let v61 : BitVec 32 := Scalar.muli c11_i32_15 v60
  let v62 : BitVec 32 := Scalar.addi v58 v61
  let c4_i32_17 : BitVec 32 := 4#32
  let c15_i32_16 : BitVec 32 := 15#32
  let v63 : BitVec 1 := Scalar.cmpi .eq v2 c15_i32_16
  let v64 : BitVec 32 := Scalar.extui v63
  let v65 : BitVec 32 := Scalar.muli c4_i32_17 v64
  let v66 : BitVec 32 := Scalar.addi v62 v65
  let c16_i32_7534 : BitVec 32 := 16#32
  let v5676 : BitVec 32 := Scalar.addi v66 c16_i32_7534
  let c1_i32_7535 : BitVec 32 := 1#32
  let v5677 : BitVec 32 := Scalar.subi v5676 c1_i32_7535
  let c16_i32_7536 : BitVec 32 := 16#32
  let v5678 : BitVec 32 := Scalar.remsi v5677 c16_i32_7536
  let c96_i32_7537 : BitVec 32 := 96#32
  let v5679 : BitVec 32 := Scalar.muli v5678 c96_i32_7537
  let v5680 : BitVec 32 := Scalar.addi v5679 c0_i32_7538
  let v5683 : Index := Scalar.indexCast v5680
  let c1152_7543 : Index := 1152#32
  ![v5683.toNat, 1152]
def k0_dev245 (d0 : Dev nD) : Nat :=
  let c0_i32_7556 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7555 : BitVec 32 := 1#32
  let v5707 : BitVec 32 := Scalar.muli v130 c1_i32_7555
  let v5708 : BitVec 32 := Scalar.addi c0_i32_7556 v5707
  v5708.toNat
def k0_dev246 (d0 : Dev nD) : Nat :=
  let c0_i32_7569 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7568 : BitVec 32 := 1#32
  let v5711 : BitVec 32 := Scalar.muli v194 c1_i32_7568
  let v5712 : BitVec 32 := Scalar.addi c0_i32_7569 v5711
  v5712.toNat
def k0_dev247 (d0 : Dev nD) : Nat :=
  let c0_i32_7622 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7621 : BitVec 32 := 1#32
  let v5765 : BitVec 32 := Scalar.muli v194 c1_i32_7621
  let v5766 : BitVec 32 := Scalar.addi c0_i32_7622 v5765
  v5766.toNat
def k0_dev248 (d0 : Dev nD) : Nat :=
  let c0_i32_7635 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7634 : BitVec 32 := 1#32
  let v5769 : BitVec 32 := Scalar.muli v130 c1_i32_7634
  let v5770 : BitVec 32 := Scalar.addi c0_i32_7635 v5769
  v5770.toNat
def k0_dev249 (d0 : Dev nD) : Nat :=
  let c0_i32_7689 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7688 : BitVec 32 := 1#32
  let v5824 : BitVec 32 := Scalar.muli v130 c1_i32_7688
  let v5825 : BitVec 32 := Scalar.addi c0_i32_7689 v5824
  v5825.toNat
def k0_dev250 (d0 : Dev nD) : Nat :=
  let c0_i32_7702 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7701 : BitVec 32 := 1#32
  let v5828 : BitVec 32 := Scalar.muli v194 c1_i32_7701
  let v5829 : BitVec 32 := Scalar.addi c0_i32_7702 v5828
  v5829.toNat
def k0_dev251 (d0 : Dev nD) : Nat :=
  let c0_i32_7755 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7754 : BitVec 32 := 1#32
  let v5868 : BitVec 32 := Scalar.muli v194 c1_i32_7754
  let v5869 : BitVec 32 := Scalar.addi c0_i32_7755 v5868
  v5869.toNat
def k0_dev252 (d0 : Dev nD) : Nat :=
  let c0_i32_7768 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7767 : BitVec 32 := 1#32
  let v5872 : BitVec 32 := Scalar.muli v130 c1_i32_7767
  let v5873 : BitVec 32 := Scalar.addi c0_i32_7768 v5872
  v5873.toNat
def k0_dev253 (d0 : Dev nD) : Nat :=
  let c0_i32_7820 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7819 : BitVec 32 := 1#32
  let v5911 : BitVec 32 := Scalar.muli v130 c1_i32_7819
  let v5912 : BitVec 32 := Scalar.addi c0_i32_7820 v5911
  v5912.toNat
def k0_dev254 (d0 : Dev nD) : Nat :=
  let c0_i32_7833 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7832 : BitVec 32 := 1#32
  let v5915 : BitVec 32 := Scalar.muli v194 c1_i32_7832
  let v5916 : BitVec 32 := Scalar.addi c0_i32_7833 v5915
  v5916.toNat
def k0_dev255 (d0 : Dev nD) : Nat :=
  let c0_i32_7886 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7885 : BitVec 32 := 1#32
  let v5955 : BitVec 32 := Scalar.muli v194 c1_i32_7885
  let v5956 : BitVec 32 := Scalar.addi c0_i32_7886 v5955
  v5956.toNat
def k0_dev256 (d0 : Dev nD) : Nat :=
  let c0_i32_7899 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7898 : BitVec 32 := 1#32
  let v5959 : BitVec 32 := Scalar.muli v130 c1_i32_7898
  let v5960 : BitVec 32 := Scalar.addi c0_i32_7899 v5959
  v5960.toNat
def k0_dev257 (d0 : Dev nD) : Nat :=
  let c0_i32_7951 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_7950 : BitVec 32 := 1#32
  let v5998 : BitVec 32 := Scalar.muli v130 c1_i32_7950
  let v5999 : BitVec 32 := Scalar.addi c0_i32_7951 v5998
  v5999.toNat
def k0_dev258 (d0 : Dev nD) : Nat :=
  let c0_i32_7964 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_7963 : BitVec 32 := 1#32
  let v6002 : BitVec 32 := Scalar.muli v194 c1_i32_7963
  let v6003 : BitVec 32 := Scalar.addi c0_i32_7964 v6002
  v6003.toNat
def k0_dev259 (d0 : Dev nD) : Nat :=
  let c0_i32_8017 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8016 : BitVec 32 := 1#32
  let v6042 : BitVec 32 := Scalar.muli v194 c1_i32_8016
  let v6043 : BitVec 32 := Scalar.addi c0_i32_8017 v6042
  v6043.toNat
def k0_dev260 (d0 : Dev nD) : Nat :=
  let c0_i32_8030 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8029 : BitVec 32 := 1#32
  let v6046 : BitVec 32 := Scalar.muli v130 c1_i32_8029
  let v6047 : BitVec 32 := Scalar.addi c0_i32_8030 v6046
  v6047.toNat
def k0_dev261 (d0 : Dev nD) : Nat :=
  let c0_i32_8082 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8081 : BitVec 32 := 1#32
  let v6085 : BitVec 32 := Scalar.muli v130 c1_i32_8081
  let v6086 : BitVec 32 := Scalar.addi c0_i32_8082 v6085
  v6086.toNat
def k0_dev262 (d0 : Dev nD) : Nat :=
  let c0_i32_8095 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8094 : BitVec 32 := 1#32
  let v6089 : BitVec 32 := Scalar.muli v194 c1_i32_8094
  let v6090 : BitVec 32 := Scalar.addi c0_i32_8095 v6089
  v6090.toNat
def k0_dev263 (d0 : Dev nD) : Nat :=
  let c0_i32_8148 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8147 : BitVec 32 := 1#32
  let v6129 : BitVec 32 := Scalar.muli v194 c1_i32_8147
  let v6130 : BitVec 32 := Scalar.addi c0_i32_8148 v6129
  v6130.toNat
def k0_dev264 (d0 : Dev nD) : Nat :=
  let c0_i32_8161 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8160 : BitVec 32 := 1#32
  let v6133 : BitVec 32 := Scalar.muli v130 c1_i32_8160
  let v6134 : BitVec 32 := Scalar.addi c0_i32_8161 v6133
  v6134.toNat
def k0_dev265 (d0 : Dev nD) : Nat :=
  let c0_i32_8213 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8212 : BitVec 32 := 1#32
  let v6172 : BitVec 32 := Scalar.muli v130 c1_i32_8212
  let v6173 : BitVec 32 := Scalar.addi c0_i32_8213 v6172
  v6173.toNat
def k0_dev266 (d0 : Dev nD) : Nat :=
  let c0_i32_8226 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8225 : BitVec 32 := 1#32
  let v6176 : BitVec 32 := Scalar.muli v194 c1_i32_8225
  let v6177 : BitVec 32 := Scalar.addi c0_i32_8226 v6176
  v6177.toNat
def k0_dev267 (d0 : Dev nD) : Nat :=
  let c0_i32_8279 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8278 : BitVec 32 := 1#32
  let v6216 : BitVec 32 := Scalar.muli v194 c1_i32_8278
  let v6217 : BitVec 32 := Scalar.addi c0_i32_8279 v6216
  v6217.toNat
def k0_dev268 (d0 : Dev nD) : Nat :=
  let c0_i32_8292 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8291 : BitVec 32 := 1#32
  let v6220 : BitVec 32 := Scalar.muli v130 c1_i32_8291
  let v6221 : BitVec 32 := Scalar.addi c0_i32_8292 v6220
  v6221.toNat
def k0_dev269 (d0 : Dev nD) : Nat :=
  let c0_i32_8344 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8343 : BitVec 32 := 1#32
  let v6259 : BitVec 32 := Scalar.muli v130 c1_i32_8343
  let v6260 : BitVec 32 := Scalar.addi c0_i32_8344 v6259
  v6260.toNat
def k0_dev270 (d0 : Dev nD) : Nat :=
  let c0_i32_8357 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8356 : BitVec 32 := 1#32
  let v6263 : BitVec 32 := Scalar.muli v194 c1_i32_8356
  let v6264 : BitVec 32 := Scalar.addi c0_i32_8357 v6263
  v6264.toNat
def k0_dev271 (d0 : Dev nD) : Nat :=
  let c0_i32_8410 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8409 : BitVec 32 := 1#32
  let v6303 : BitVec 32 := Scalar.muli v194 c1_i32_8409
  let v6304 : BitVec 32 := Scalar.addi c0_i32_8410 v6303
  v6304.toNat
def k0_dev272 (d0 : Dev nD) : Nat :=
  let c0_i32_8423 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8422 : BitVec 32 := 1#32
  let v6307 : BitVec 32 := Scalar.muli v130 c1_i32_8422
  let v6308 : BitVec 32 := Scalar.addi c0_i32_8423 v6307
  v6308.toNat
def k0_dev273 (d0 : Dev nD) : Nat :=
  let c0_i32_8475 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8474 : BitVec 32 := 1#32
  let v6346 : BitVec 32 := Scalar.muli v130 c1_i32_8474
  let v6347 : BitVec 32 := Scalar.addi c0_i32_8475 v6346
  v6347.toNat
def k0_dev274 (d0 : Dev nD) : Nat :=
  let c0_i32_8488 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8487 : BitVec 32 := 1#32
  let v6350 : BitVec 32 := Scalar.muli v194 c1_i32_8487
  let v6351 : BitVec 32 := Scalar.addi c0_i32_8488 v6350
  v6351.toNat
def k0_dev275 (d0 : Dev nD) : Nat :=
  let c0_i32_8541 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8540 : BitVec 32 := 1#32
  let v6390 : BitVec 32 := Scalar.muli v194 c1_i32_8540
  let v6391 : BitVec 32 := Scalar.addi c0_i32_8541 v6390
  v6391.toNat
def k0_dev276 (d0 : Dev nD) : Nat :=
  let c0_i32_8554 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8553 : BitVec 32 := 1#32
  let v6394 : BitVec 32 := Scalar.muli v130 c1_i32_8553
  let v6395 : BitVec 32 := Scalar.addi c0_i32_8554 v6394
  v6395.toNat
def k0_dev277 (d0 : Dev nD) : Nat :=
  let c0_i32_8606 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8605 : BitVec 32 := 1#32
  let v6433 : BitVec 32 := Scalar.muli v130 c1_i32_8605
  let v6434 : BitVec 32 := Scalar.addi c0_i32_8606 v6433
  v6434.toNat
def k0_dev278 (d0 : Dev nD) : Nat :=
  let c0_i32_8619 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8618 : BitVec 32 := 1#32
  let v6437 : BitVec 32 := Scalar.muli v194 c1_i32_8618
  let v6438 : BitVec 32 := Scalar.addi c0_i32_8619 v6437
  v6438.toNat
def k0_dev279 (d0 : Dev nD) : Nat :=
  let c0_i32_8672 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8671 : BitVec 32 := 1#32
  let v6477 : BitVec 32 := Scalar.muli v194 c1_i32_8671
  let v6478 : BitVec 32 := Scalar.addi c0_i32_8672 v6477
  v6478.toNat
def k0_dev280 (d0 : Dev nD) : Nat :=
  let c0_i32_8685 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8684 : BitVec 32 := 1#32
  let v6481 : BitVec 32 := Scalar.muli v130 c1_i32_8684
  let v6482 : BitVec 32 := Scalar.addi c0_i32_8685 v6481
  v6482.toNat
def k0_dev281 (d0 : Dev nD) : Nat :=
  let c0_i32_8737 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8736 : BitVec 32 := 1#32
  let v6520 : BitVec 32 := Scalar.muli v130 c1_i32_8736
  let v6521 : BitVec 32 := Scalar.addi c0_i32_8737 v6520
  v6521.toNat
def k0_dev282 (d0 : Dev nD) : Nat :=
  let c0_i32_8750 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8749 : BitVec 32 := 1#32
  let v6524 : BitVec 32 := Scalar.muli v194 c1_i32_8749
  let v6525 : BitVec 32 := Scalar.addi c0_i32_8750 v6524
  v6525.toNat
def k0_dev283 (d0 : Dev nD) : Nat :=
  let c0_i32_8803 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8802 : BitVec 32 := 1#32
  let v6564 : BitVec 32 := Scalar.muli v194 c1_i32_8802
  let v6565 : BitVec 32 := Scalar.addi c0_i32_8803 v6564
  v6565.toNat
def k0_dev284 (d0 : Dev nD) : Nat :=
  let c0_i32_8816 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8815 : BitVec 32 := 1#32
  let v6568 : BitVec 32 := Scalar.muli v130 c1_i32_8815
  let v6569 : BitVec 32 := Scalar.addi c0_i32_8816 v6568
  v6569.toNat
def k0_dev285 (d0 : Dev nD) : Nat :=
  let c0_i32_8868 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8867 : BitVec 32 := 1#32
  let v6607 : BitVec 32 := Scalar.muli v130 c1_i32_8867
  let v6608 : BitVec 32 := Scalar.addi c0_i32_8868 v6607
  v6608.toNat
def k0_dev286 (d0 : Dev nD) : Nat :=
  let c0_i32_8881 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8880 : BitVec 32 := 1#32
  let v6611 : BitVec 32 := Scalar.muli v194 c1_i32_8880
  let v6612 : BitVec 32 := Scalar.addi c0_i32_8881 v6611
  v6612.toNat
def k0_dev287 (d0 : Dev nD) : Nat :=
  let c0_i32_8934 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_8933 : BitVec 32 := 1#32
  let v6651 : BitVec 32 := Scalar.muli v194 c1_i32_8933
  let v6652 : BitVec 32 := Scalar.addi c0_i32_8934 v6651
  v6652.toNat
def k0_dev288 (d0 : Dev nD) : Nat :=
  let c0_i32_8947 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8946 : BitVec 32 := 1#32
  let v6655 : BitVec 32 := Scalar.muli v130 c1_i32_8946
  let v6656 : BitVec 32 := Scalar.addi c0_i32_8947 v6655
  v6656.toNat
def k0_dev289 (d0 : Dev nD) : Nat :=
  let c0_i32_8999 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_8998 : BitVec 32 := 1#32
  let v6694 : BitVec 32 := Scalar.muli v130 c1_i32_8998
  let v6695 : BitVec 32 := Scalar.addi c0_i32_8999 v6694
  v6695.toNat
def k0_dev290 (d0 : Dev nD) : Nat :=
  let c0_i32_9012 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9011 : BitVec 32 := 1#32
  let v6698 : BitVec 32 := Scalar.muli v194 c1_i32_9011
  let v6699 : BitVec 32 := Scalar.addi c0_i32_9012 v6698
  v6699.toNat
def k0_dev291 (d0 : Dev nD) : Nat :=
  let c0_i32_9065 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9064 : BitVec 32 := 1#32
  let v6738 : BitVec 32 := Scalar.muli v194 c1_i32_9064
  let v6739 : BitVec 32 := Scalar.addi c0_i32_9065 v6738
  v6739.toNat
def k0_dev292 (d0 : Dev nD) : Nat :=
  let c0_i32_9078 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9077 : BitVec 32 := 1#32
  let v6742 : BitVec 32 := Scalar.muli v130 c1_i32_9077
  let v6743 : BitVec 32 := Scalar.addi c0_i32_9078 v6742
  v6743.toNat
def k0_dev293 (d0 : Dev nD) : Nat :=
  let c0_i32_9130 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9129 : BitVec 32 := 1#32
  let v6781 : BitVec 32 := Scalar.muli v130 c1_i32_9129
  let v6782 : BitVec 32 := Scalar.addi c0_i32_9130 v6781
  v6782.toNat
def k0_dev294 (d0 : Dev nD) : Nat :=
  let c0_i32_9143 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9142 : BitVec 32 := 1#32
  let v6785 : BitVec 32 := Scalar.muli v194 c1_i32_9142
  let v6786 : BitVec 32 := Scalar.addi c0_i32_9143 v6785
  v6786.toNat
def k0_dev295 (d0 : Dev nD) : Nat :=
  let c0_i32_9196 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9195 : BitVec 32 := 1#32
  let v6825 : BitVec 32 := Scalar.muli v194 c1_i32_9195
  let v6826 : BitVec 32 := Scalar.addi c0_i32_9196 v6825
  v6826.toNat
def k0_dev296 (d0 : Dev nD) : Nat :=
  let c0_i32_9209 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9208 : BitVec 32 := 1#32
  let v6829 : BitVec 32 := Scalar.muli v130 c1_i32_9208
  let v6830 : BitVec 32 := Scalar.addi c0_i32_9209 v6829
  v6830.toNat
def k0_dev297 (d0 : Dev nD) : Nat :=
  let c0_i32_9261 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9260 : BitVec 32 := 1#32
  let v6868 : BitVec 32 := Scalar.muli v130 c1_i32_9260
  let v6869 : BitVec 32 := Scalar.addi c0_i32_9261 v6868
  v6869.toNat
def k0_dev298 (d0 : Dev nD) : Nat :=
  let c0_i32_9274 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9273 : BitVec 32 := 1#32
  let v6872 : BitVec 32 := Scalar.muli v194 c1_i32_9273
  let v6873 : BitVec 32 := Scalar.addi c0_i32_9274 v6872
  v6873.toNat
def k0_dev299 (d0 : Dev nD) : Nat :=
  let c0_i32_9327 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9326 : BitVec 32 := 1#32
  let v6912 : BitVec 32 := Scalar.muli v194 c1_i32_9326
  let v6913 : BitVec 32 := Scalar.addi c0_i32_9327 v6912
  v6913.toNat
def k0_dev300 (d0 : Dev nD) : Nat :=
  let c0_i32_9340 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9339 : BitVec 32 := 1#32
  let v6916 : BitVec 32 := Scalar.muli v130 c1_i32_9339
  let v6917 : BitVec 32 := Scalar.addi c0_i32_9340 v6916
  v6917.toNat
def k0_dev301 (d0 : Dev nD) : Nat :=
  let c0_i32_9392 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9391 : BitVec 32 := 1#32
  let v6955 : BitVec 32 := Scalar.muli v130 c1_i32_9391
  let v6956 : BitVec 32 := Scalar.addi c0_i32_9392 v6955
  v6956.toNat
def k0_dev302 (d0 : Dev nD) : Nat :=
  let c0_i32_9405 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9404 : BitVec 32 := 1#32
  let v6959 : BitVec 32 := Scalar.muli v194 c1_i32_9404
  let v6960 : BitVec 32 := Scalar.addi c0_i32_9405 v6959
  v6960.toNat
def k0_dev303 (d0 : Dev nD) : Nat :=
  let c0_i32_9458 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9457 : BitVec 32 := 1#32
  let v6999 : BitVec 32 := Scalar.muli v194 c1_i32_9457
  let v7000 : BitVec 32 := Scalar.addi c0_i32_9458 v6999
  v7000.toNat
def k0_dev304 (d0 : Dev nD) : Nat :=
  let c0_i32_9471 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9470 : BitVec 32 := 1#32
  let v7003 : BitVec 32 := Scalar.muli v130 c1_i32_9470
  let v7004 : BitVec 32 := Scalar.addi c0_i32_9471 v7003
  v7004.toNat
def k0_dev305 (d0 : Dev nD) : Nat :=
  let c0_i32_9523 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9522 : BitVec 32 := 1#32
  let v7042 : BitVec 32 := Scalar.muli v130 c1_i32_9522
  let v7043 : BitVec 32 := Scalar.addi c0_i32_9523 v7042
  v7043.toNat
def k0_dev306 (d0 : Dev nD) : Nat :=
  let c0_i32_9536 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9535 : BitVec 32 := 1#32
  let v7046 : BitVec 32 := Scalar.muli v194 c1_i32_9535
  let v7047 : BitVec 32 := Scalar.addi c0_i32_9536 v7046
  v7047.toNat
def k0_dev307 (d0 : Dev nD) : Nat :=
  let c0_i32_9589 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9588 : BitVec 32 := 1#32
  let v7086 : BitVec 32 := Scalar.muli v194 c1_i32_9588
  let v7087 : BitVec 32 := Scalar.addi c0_i32_9589 v7086
  v7087.toNat
def k0_dev308 (d0 : Dev nD) : Nat :=
  let c0_i32_9602 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9601 : BitVec 32 := 1#32
  let v7090 : BitVec 32 := Scalar.muli v130 c1_i32_9601
  let v7091 : BitVec 32 := Scalar.addi c0_i32_9602 v7090
  v7091.toNat
def k0_dev309 (d0 : Dev nD) : Nat :=
  let c0_i32_9654 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9653 : BitVec 32 := 1#32
  let v7129 : BitVec 32 := Scalar.muli v130 c1_i32_9653
  let v7130 : BitVec 32 := Scalar.addi c0_i32_9654 v7129
  v7130.toNat
def k0_dev310 (d0 : Dev nD) : Nat :=
  let c0_i32_9667 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9666 : BitVec 32 := 1#32
  let v7133 : BitVec 32 := Scalar.muli v194 c1_i32_9666
  let v7134 : BitVec 32 := Scalar.addi c0_i32_9667 v7133
  v7134.toNat
def k0_dev311 (d0 : Dev nD) : Nat :=
  let c0_i32_9720 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9719 : BitVec 32 := 1#32
  let v7173 : BitVec 32 := Scalar.muli v194 c1_i32_9719
  let v7174 : BitVec 32 := Scalar.addi c0_i32_9720 v7173
  v7174.toNat
def k0_dev312 (d0 : Dev nD) : Nat :=
  let c0_i32_9733 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9732 : BitVec 32 := 1#32
  let v7177 : BitVec 32 := Scalar.muli v130 c1_i32_9732
  let v7178 : BitVec 32 := Scalar.addi c0_i32_9733 v7177
  v7178.toNat
def k0_dev313 (d0 : Dev nD) : Nat :=
  let c0_i32_9785 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9784 : BitVec 32 := 1#32
  let v7216 : BitVec 32 := Scalar.muli v130 c1_i32_9784
  let v7217 : BitVec 32 := Scalar.addi c0_i32_9785 v7216
  v7217.toNat
def k0_dev314 (d0 : Dev nD) : Nat :=
  let c0_i32_9798 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9797 : BitVec 32 := 1#32
  let v7220 : BitVec 32 := Scalar.muli v194 c1_i32_9797
  let v7221 : BitVec 32 := Scalar.addi c0_i32_9798 v7220
  v7221.toNat
def k0_dev315 (d0 : Dev nD) : Nat :=
  let c0_i32_9851 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9850 : BitVec 32 := 1#32
  let v7260 : BitVec 32 := Scalar.muli v194 c1_i32_9850
  let v7261 : BitVec 32 := Scalar.addi c0_i32_9851 v7260
  v7261.toNat
def k0_dev316 (d0 : Dev nD) : Nat :=
  let c0_i32_9864 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9863 : BitVec 32 := 1#32
  let v7264 : BitVec 32 := Scalar.muli v130 c1_i32_9863
  let v7265 : BitVec 32 := Scalar.addi c0_i32_9864 v7264
  v7265.toNat
def k0_dev317 (d0 : Dev nD) : Nat :=
  let c0_i32_9916 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9915 : BitVec 32 := 1#32
  let v7303 : BitVec 32 := Scalar.muli v130 c1_i32_9915
  let v7304 : BitVec 32 := Scalar.addi c0_i32_9916 v7303
  v7304.toNat
def k0_dev318 (d0 : Dev nD) : Nat :=
  let c0_i32_9929 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9928 : BitVec 32 := 1#32
  let v7307 : BitVec 32 := Scalar.muli v194 c1_i32_9928
  let v7308 : BitVec 32 := Scalar.addi c0_i32_9929 v7307
  v7308.toNat
def k0_dev319 (d0 : Dev nD) : Nat :=
  let c0_i32_9982 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_9981 : BitVec 32 := 1#32
  let v7347 : BitVec 32 := Scalar.muli v194 c1_i32_9981
  let v7348 : BitVec 32 := Scalar.addi c0_i32_9982 v7347
  v7348.toNat
def k0_dev320 (d0 : Dev nD) : Nat :=
  let c0_i32_9995 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_9994 : BitVec 32 := 1#32
  let v7351 : BitVec 32 := Scalar.muli v130 c1_i32_9994
  let v7352 : BitVec 32 := Scalar.addi c0_i32_9995 v7351
  v7352.toNat
def k0_dev321 (d0 : Dev nD) : Nat :=
  let c0_i32_10047 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10046 : BitVec 32 := 1#32
  let v7390 : BitVec 32 := Scalar.muli v130 c1_i32_10046
  let v7391 : BitVec 32 := Scalar.addi c0_i32_10047 v7390
  v7391.toNat
def k0_dev322 (d0 : Dev nD) : Nat :=
  let c0_i32_10060 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10059 : BitVec 32 := 1#32
  let v7394 : BitVec 32 := Scalar.muli v194 c1_i32_10059
  let v7395 : BitVec 32 := Scalar.addi c0_i32_10060 v7394
  v7395.toNat
def k0_dev323 (d0 : Dev nD) : Nat :=
  let c0_i32_10113 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10112 : BitVec 32 := 1#32
  let v7434 : BitVec 32 := Scalar.muli v194 c1_i32_10112
  let v7435 : BitVec 32 := Scalar.addi c0_i32_10113 v7434
  v7435.toNat
def k0_dev324 (d0 : Dev nD) : Nat :=
  let c0_i32_10126 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10125 : BitVec 32 := 1#32
  let v7438 : BitVec 32 := Scalar.muli v130 c1_i32_10125
  let v7439 : BitVec 32 := Scalar.addi c0_i32_10126 v7438
  v7439.toNat
def k0_dev325 (d0 : Dev nD) : Nat :=
  let c0_i32_10178 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10177 : BitVec 32 := 1#32
  let v7477 : BitVec 32 := Scalar.muli v130 c1_i32_10177
  let v7478 : BitVec 32 := Scalar.addi c0_i32_10178 v7477
  v7478.toNat
def k0_dev326 (d0 : Dev nD) : Nat :=
  let c0_i32_10191 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10190 : BitVec 32 := 1#32
  let v7481 : BitVec 32 := Scalar.muli v194 c1_i32_10190
  let v7482 : BitVec 32 := Scalar.addi c0_i32_10191 v7481
  v7482.toNat
def k0_dev327 (d0 : Dev nD) : Nat :=
  let c0_i32_10244 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10243 : BitVec 32 := 1#32
  let v7521 : BitVec 32 := Scalar.muli v194 c1_i32_10243
  let v7522 : BitVec 32 := Scalar.addi c0_i32_10244 v7521
  v7522.toNat
def k0_dev328 (d0 : Dev nD) : Nat :=
  let c0_i32_10257 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10256 : BitVec 32 := 1#32
  let v7525 : BitVec 32 := Scalar.muli v130 c1_i32_10256
  let v7526 : BitVec 32 := Scalar.addi c0_i32_10257 v7525
  v7526.toNat
def k0_dev329 (d0 : Dev nD) : Nat :=
  let c0_i32_10309 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10308 : BitVec 32 := 1#32
  let v7564 : BitVec 32 := Scalar.muli v130 c1_i32_10308
  let v7565 : BitVec 32 := Scalar.addi c0_i32_10309 v7564
  v7565.toNat
def k0_dev330 (d0 : Dev nD) : Nat :=
  let c0_i32_10322 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10321 : BitVec 32 := 1#32
  let v7568 : BitVec 32 := Scalar.muli v194 c1_i32_10321
  let v7569 : BitVec 32 := Scalar.addi c0_i32_10322 v7568
  v7569.toNat
def k0_dev331 (d0 : Dev nD) : Nat :=
  let c0_i32_10375 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10374 : BitVec 32 := 1#32
  let v7608 : BitVec 32 := Scalar.muli v194 c1_i32_10374
  let v7609 : BitVec 32 := Scalar.addi c0_i32_10375 v7608
  v7609.toNat
def k0_dev332 (d0 : Dev nD) : Nat :=
  let c0_i32_10388 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10387 : BitVec 32 := 1#32
  let v7612 : BitVec 32 := Scalar.muli v130 c1_i32_10387
  let v7613 : BitVec 32 := Scalar.addi c0_i32_10388 v7612
  v7613.toNat
def k0_dev333 (d0 : Dev nD) : Nat :=
  let c0_i32_10440 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10439 : BitVec 32 := 1#32
  let v7651 : BitVec 32 := Scalar.muli v130 c1_i32_10439
  let v7652 : BitVec 32 := Scalar.addi c0_i32_10440 v7651
  v7652.toNat
def k0_dev334 (d0 : Dev nD) : Nat :=
  let c0_i32_10453 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10452 : BitVec 32 := 1#32
  let v7655 : BitVec 32 := Scalar.muli v194 c1_i32_10452
  let v7656 : BitVec 32 := Scalar.addi c0_i32_10453 v7655
  v7656.toNat
def k0_dev335 (d0 : Dev nD) : Nat :=
  let c0_i32_10506 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10505 : BitVec 32 := 1#32
  let v7695 : BitVec 32 := Scalar.muli v194 c1_i32_10505
  let v7696 : BitVec 32 := Scalar.addi c0_i32_10506 v7695
  v7696.toNat
def k0_dev336 (d0 : Dev nD) : Nat :=
  let c0_i32_10519 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10518 : BitVec 32 := 1#32
  let v7699 : BitVec 32 := Scalar.muli v130 c1_i32_10518
  let v7700 : BitVec 32 := Scalar.addi c0_i32_10519 v7699
  v7700.toNat
def k0_dev337 (d0 : Dev nD) : Nat :=
  let c0_i32_10571 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10570 : BitVec 32 := 1#32
  let v7738 : BitVec 32 := Scalar.muli v130 c1_i32_10570
  let v7739 : BitVec 32 := Scalar.addi c0_i32_10571 v7738
  v7739.toNat
def k0_dev338 (d0 : Dev nD) : Nat :=
  let c0_i32_10584 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10583 : BitVec 32 := 1#32
  let v7742 : BitVec 32 := Scalar.muli v194 c1_i32_10583
  let v7743 : BitVec 32 := Scalar.addi c0_i32_10584 v7742
  v7743.toNat
def k0_dev339 (d0 : Dev nD) : Nat :=
  let c0_i32_10637 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10636 : BitVec 32 := 1#32
  let v7782 : BitVec 32 := Scalar.muli v194 c1_i32_10636
  let v7783 : BitVec 32 := Scalar.addi c0_i32_10637 v7782
  v7783.toNat
def k0_dev340 (d0 : Dev nD) : Nat :=
  let c0_i32_10650 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10649 : BitVec 32 := 1#32
  let v7786 : BitVec 32 := Scalar.muli v130 c1_i32_10649
  let v7787 : BitVec 32 := Scalar.addi c0_i32_10650 v7786
  v7787.toNat
def k0_dev341 (d0 : Dev nD) : Nat :=
  let c0_i32_10702 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10701 : BitVec 32 := 1#32
  let v7825 : BitVec 32 := Scalar.muli v130 c1_i32_10701
  let v7826 : BitVec 32 := Scalar.addi c0_i32_10702 v7825
  v7826.toNat
def k0_dev342 (d0 : Dev nD) : Nat :=
  let c0_i32_10715 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10714 : BitVec 32 := 1#32
  let v7829 : BitVec 32 := Scalar.muli v194 c1_i32_10714
  let v7830 : BitVec 32 := Scalar.addi c0_i32_10715 v7829
  v7830.toNat
def k0_dev343 (d0 : Dev nD) : Nat :=
  let c0_i32_10768 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10767 : BitVec 32 := 1#32
  let v7869 : BitVec 32 := Scalar.muli v194 c1_i32_10767
  let v7870 : BitVec 32 := Scalar.addi c0_i32_10768 v7869
  v7870.toNat
def k0_dev344 (d0 : Dev nD) : Nat :=
  let c0_i32_10781 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10780 : BitVec 32 := 1#32
  let v7873 : BitVec 32 := Scalar.muli v130 c1_i32_10780
  let v7874 : BitVec 32 := Scalar.addi c0_i32_10781 v7873
  v7874.toNat
def k0_dev345 (d0 : Dev nD) : Nat :=
  let c0_i32_10833 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10832 : BitVec 32 := 1#32
  let v7912 : BitVec 32 := Scalar.muli v130 c1_i32_10832
  let v7913 : BitVec 32 := Scalar.addi c0_i32_10833 v7912
  v7913.toNat
def k0_dev346 (d0 : Dev nD) : Nat :=
  let c0_i32_10846 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10845 : BitVec 32 := 1#32
  let v7916 : BitVec 32 := Scalar.muli v194 c1_i32_10845
  let v7917 : BitVec 32 := Scalar.addi c0_i32_10846 v7916
  v7917.toNat
def k0_dev347 (d0 : Dev nD) : Nat :=
  let c0_i32_10899 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10898 : BitVec 32 := 1#32
  let v7956 : BitVec 32 := Scalar.muli v194 c1_i32_10898
  let v7957 : BitVec 32 := Scalar.addi c0_i32_10899 v7956
  v7957.toNat
def k0_dev348 (d0 : Dev nD) : Nat :=
  let c0_i32_10912 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10911 : BitVec 32 := 1#32
  let v7960 : BitVec 32 := Scalar.muli v130 c1_i32_10911
  let v7961 : BitVec 32 := Scalar.addi c0_i32_10912 v7960
  v7961.toNat
def k0_dev349 (d0 : Dev nD) : Nat :=
  let c0_i32_10964 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_10963 : BitVec 32 := 1#32
  let v7999 : BitVec 32 := Scalar.muli v130 c1_i32_10963
  let v8000 : BitVec 32 := Scalar.addi c0_i32_10964 v7999
  v8000.toNat
def k0_dev350 (d0 : Dev nD) : Nat :=
  let c0_i32_10977 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_10976 : BitVec 32 := 1#32
  let v8003 : BitVec 32 := Scalar.muli v194 c1_i32_10976
  let v8004 : BitVec 32 := Scalar.addi c0_i32_10977 v8003
  v8004.toNat
def k0_dev351 (d0 : Dev nD) : Nat :=
  let c0_i32_11030 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11029 : BitVec 32 := 1#32
  let v8043 : BitVec 32 := Scalar.muli v194 c1_i32_11029
  let v8044 : BitVec 32 := Scalar.addi c0_i32_11030 v8043
  v8044.toNat
def k0_dev352 (d0 : Dev nD) : Nat :=
  let c0_i32_11043 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11042 : BitVec 32 := 1#32
  let v8047 : BitVec 32 := Scalar.muli v130 c1_i32_11042
  let v8048 : BitVec 32 := Scalar.addi c0_i32_11043 v8047
  v8048.toNat
def k0_dev353 (d0 : Dev nD) : Nat :=
  let c0_i32_11095 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11094 : BitVec 32 := 1#32
  let v8086 : BitVec 32 := Scalar.muli v130 c1_i32_11094
  let v8087 : BitVec 32 := Scalar.addi c0_i32_11095 v8086
  v8087.toNat
def k0_dev354 (d0 : Dev nD) : Nat :=
  let c0_i32_11108 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11107 : BitVec 32 := 1#32
  let v8090 : BitVec 32 := Scalar.muli v194 c1_i32_11107
  let v8091 : BitVec 32 := Scalar.addi c0_i32_11108 v8090
  v8091.toNat
def k0_dev355 (d0 : Dev nD) : Nat :=
  let c0_i32_11161 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11160 : BitVec 32 := 1#32
  let v8130 : BitVec 32 := Scalar.muli v194 c1_i32_11160
  let v8131 : BitVec 32 := Scalar.addi c0_i32_11161 v8130
  v8131.toNat
def k0_dev356 (d0 : Dev nD) : Nat :=
  let c0_i32_11174 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11173 : BitVec 32 := 1#32
  let v8134 : BitVec 32 := Scalar.muli v130 c1_i32_11173
  let v8135 : BitVec 32 := Scalar.addi c0_i32_11174 v8134
  v8135.toNat
def k0_dev357 (d0 : Dev nD) : Nat :=
  let c0_i32_11226 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11225 : BitVec 32 := 1#32
  let v8173 : BitVec 32 := Scalar.muli v130 c1_i32_11225
  let v8174 : BitVec 32 := Scalar.addi c0_i32_11226 v8173
  v8174.toNat
def k0_dev358 (d0 : Dev nD) : Nat :=
  let c0_i32_11239 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11238 : BitVec 32 := 1#32
  let v8177 : BitVec 32 := Scalar.muli v194 c1_i32_11238
  let v8178 : BitVec 32 := Scalar.addi c0_i32_11239 v8177
  v8178.toNat
def k0_dev359 (d0 : Dev nD) : Nat :=
  let c0_i32_11292 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11291 : BitVec 32 := 1#32
  let v8217 : BitVec 32 := Scalar.muli v194 c1_i32_11291
  let v8218 : BitVec 32 := Scalar.addi c0_i32_11292 v8217
  v8218.toNat
def k0_dev360 (d0 : Dev nD) : Nat :=
  let c0_i32_11305 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11304 : BitVec 32 := 1#32
  let v8221 : BitVec 32 := Scalar.muli v130 c1_i32_11304
  let v8222 : BitVec 32 := Scalar.addi c0_i32_11305 v8221
  v8222.toNat
def k0_dev361 (d0 : Dev nD) : Nat :=
  let c0_i32_11357 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11356 : BitVec 32 := 1#32
  let v8260 : BitVec 32 := Scalar.muli v130 c1_i32_11356
  let v8261 : BitVec 32 := Scalar.addi c0_i32_11357 v8260
  v8261.toNat
def k0_dev362 (d0 : Dev nD) : Nat :=
  let c0_i32_11370 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11369 : BitVec 32 := 1#32
  let v8264 : BitVec 32 := Scalar.muli v194 c1_i32_11369
  let v8265 : BitVec 32 := Scalar.addi c0_i32_11370 v8264
  v8265.toNat
def k0_dev363 (d0 : Dev nD) : Nat :=
  let c0_i32_11423 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11422 : BitVec 32 := 1#32
  let v8304 : BitVec 32 := Scalar.muli v194 c1_i32_11422
  let v8305 : BitVec 32 := Scalar.addi c0_i32_11423 v8304
  v8305.toNat
def k0_dev364 (d0 : Dev nD) : Nat :=
  let c0_i32_11436 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11435 : BitVec 32 := 1#32
  let v8308 : BitVec 32 := Scalar.muli v130 c1_i32_11435
  let v8309 : BitVec 32 := Scalar.addi c0_i32_11436 v8308
  v8309.toNat
def k0_dev365 (d0 : Dev nD) : Nat :=
  let c0_i32_11488 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11487 : BitVec 32 := 1#32
  let v8347 : BitVec 32 := Scalar.muli v130 c1_i32_11487
  let v8348 : BitVec 32 := Scalar.addi c0_i32_11488 v8347
  v8348.toNat
def k0_dev366 (d0 : Dev nD) : Nat :=
  let c0_i32_11501 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11500 : BitVec 32 := 1#32
  let v8351 : BitVec 32 := Scalar.muli v194 c1_i32_11500
  let v8352 : BitVec 32 := Scalar.addi c0_i32_11501 v8351
  v8352.toNat
def k0_dev367 (d0 : Dev nD) : Nat :=
  let c0_i32_11554 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11553 : BitVec 32 := 1#32
  let v8391 : BitVec 32 := Scalar.muli v194 c1_i32_11553
  let v8392 : BitVec 32 := Scalar.addi c0_i32_11554 v8391
  v8392.toNat
def k0_dev368 (d0 : Dev nD) : Nat :=
  let c0_i32_11567 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11566 : BitVec 32 := 1#32
  let v8395 : BitVec 32 := Scalar.muli v130 c1_i32_11566
  let v8396 : BitVec 32 := Scalar.addi c0_i32_11567 v8395
  v8396.toNat
def k0_dev369 (d0 : Dev nD) : Nat :=
  let c0_i32_11619 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11618 : BitVec 32 := 1#32
  let v8434 : BitVec 32 := Scalar.muli v130 c1_i32_11618
  let v8435 : BitVec 32 := Scalar.addi c0_i32_11619 v8434
  v8435.toNat
def k0_dev370 (d0 : Dev nD) : Nat :=
  let c0_i32_11632 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11631 : BitVec 32 := 1#32
  let v8438 : BitVec 32 := Scalar.muli v194 c1_i32_11631
  let v8439 : BitVec 32 := Scalar.addi c0_i32_11632 v8438
  v8439.toNat
def k0_dev371 (d0 : Dev nD) : Nat :=
  let c0_i32_11685 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11684 : BitVec 32 := 1#32
  let v8478 : BitVec 32 := Scalar.muli v194 c1_i32_11684
  let v8479 : BitVec 32 := Scalar.addi c0_i32_11685 v8478
  v8479.toNat
def k0_dev372 (d0 : Dev nD) : Nat :=
  let c0_i32_11698 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11697 : BitVec 32 := 1#32
  let v8482 : BitVec 32 := Scalar.muli v130 c1_i32_11697
  let v8483 : BitVec 32 := Scalar.addi c0_i32_11698 v8482
  v8483.toNat
def k0_dev373 (d0 : Dev nD) : Nat :=
  let c0_i32_11750 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11749 : BitVec 32 := 1#32
  let v8521 : BitVec 32 := Scalar.muli v130 c1_i32_11749
  let v8522 : BitVec 32 := Scalar.addi c0_i32_11750 v8521
  v8522.toNat
def k0_dev374 (d0 : Dev nD) : Nat :=
  let c0_i32_11763 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11762 : BitVec 32 := 1#32
  let v8525 : BitVec 32 := Scalar.muli v194 c1_i32_11762
  let v8526 : BitVec 32 := Scalar.addi c0_i32_11763 v8525
  v8526.toNat
def k0_dev375 (d0 : Dev nD) : Nat :=
  let c0_i32_11816 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11815 : BitVec 32 := 1#32
  let v8565 : BitVec 32 := Scalar.muli v194 c1_i32_11815
  let v8566 : BitVec 32 := Scalar.addi c0_i32_11816 v8565
  v8566.toNat
def k0_dev376 (d0 : Dev nD) : Nat :=
  let c0_i32_11829 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11828 : BitVec 32 := 1#32
  let v8569 : BitVec 32 := Scalar.muli v130 c1_i32_11828
  let v8570 : BitVec 32 := Scalar.addi c0_i32_11829 v8569
  v8570.toNat
def k0_dev377 (d0 : Dev nD) : Nat :=
  let c0_i32_11881 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11880 : BitVec 32 := 1#32
  let v8608 : BitVec 32 := Scalar.muli v130 c1_i32_11880
  let v8609 : BitVec 32 := Scalar.addi c0_i32_11881 v8608
  v8609.toNat
def k0_dev378 (d0 : Dev nD) : Nat :=
  let c0_i32_11894 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11893 : BitVec 32 := 1#32
  let v8612 : BitVec 32 := Scalar.muli v194 c1_i32_11893
  let v8613 : BitVec 32 := Scalar.addi c0_i32_11894 v8612
  v8613.toNat
def k0_dev379 (d0 : Dev nD) : Nat :=
  let c0_i32_11947 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_11946 : BitVec 32 := 1#32
  let v8652 : BitVec 32 := Scalar.muli v194 c1_i32_11946
  let v8653 : BitVec 32 := Scalar.addi c0_i32_11947 v8652
  v8653.toNat
def k0_dev380 (d0 : Dev nD) : Nat :=
  let c0_i32_11960 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_11959 : BitVec 32 := 1#32
  let v8656 : BitVec 32 := Scalar.muli v130 c1_i32_11959
  let v8657 : BitVec 32 := Scalar.addi c0_i32_11960 v8656
  v8657.toNat
def k0_dev381 (d0 : Dev nD) : Nat :=
  let c0_i32_12012 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12011 : BitVec 32 := 1#32
  let v8695 : BitVec 32 := Scalar.muli v130 c1_i32_12011
  let v8696 : BitVec 32 := Scalar.addi c0_i32_12012 v8695
  v8696.toNat
def k0_dev382 (d0 : Dev nD) : Nat :=
  let c0_i32_12025 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12024 : BitVec 32 := 1#32
  let v8699 : BitVec 32 := Scalar.muli v194 c1_i32_12024
  let v8700 : BitVec 32 := Scalar.addi c0_i32_12025 v8699
  v8700.toNat

variable {F : FTy → Type} [FloatOps F]

def k0_dev383 (d0 : Dev nD) : Nat :=
  let c0_i32_12078 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12077 : BitVec 32 := 1#32
  let v8739 : BitVec 32 := Scalar.muli v194 c1_i32_12077
  let v8740 : BitVec 32 := Scalar.addi c0_i32_12078 v8739
  v8740.toNat
def k0_dev384 (d0 : Dev nD) : Nat :=
  let c0_i32_12091 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12090 : BitVec 32 := 1#32
  let v8743 : BitVec 32 := Scalar.muli v130 c1_i32_12090
  let v8744 : BitVec 32 := Scalar.addi c0_i32_12091 v8743
  v8744.toNat
def k0_dev385 (d0 : Dev nD) : Nat :=
  let c0_i32_12143 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12142 : BitVec 32 := 1#32
  let v8782 : BitVec 32 := Scalar.muli v130 c1_i32_12142
  let v8783 : BitVec 32 := Scalar.addi c0_i32_12143 v8782
  v8783.toNat
def k0_dev386 (d0 : Dev nD) : Nat :=
  let c0_i32_12156 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12155 : BitVec 32 := 1#32
  let v8786 : BitVec 32 := Scalar.muli v194 c1_i32_12155
  let v8787 : BitVec 32 := Scalar.addi c0_i32_12156 v8786
  v8787.toNat
def k0_dev387 (d0 : Dev nD) : Nat :=
  let c0_i32_12209 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12208 : BitVec 32 := 1#32
  let v8826 : BitVec 32 := Scalar.muli v194 c1_i32_12208
  let v8827 : BitVec 32 := Scalar.addi c0_i32_12209 v8826
  v8827.toNat
def k0_dev388 (d0 : Dev nD) : Nat :=
  let c0_i32_12222 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12221 : BitVec 32 := 1#32
  let v8830 : BitVec 32 := Scalar.muli v130 c1_i32_12221
  let v8831 : BitVec 32 := Scalar.addi c0_i32_12222 v8830
  v8831.toNat
def k0_dev389 (d0 : Dev nD) : Nat :=
  let c0_i32_12274 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12273 : BitVec 32 := 1#32
  let v8869 : BitVec 32 := Scalar.muli v130 c1_i32_12273
  let v8870 : BitVec 32 := Scalar.addi c0_i32_12274 v8869
  v8870.toNat
def k0_dev390 (d0 : Dev nD) : Nat :=
  let c0_i32_12287 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12286 : BitVec 32 := 1#32
  let v8873 : BitVec 32 := Scalar.muli v194 c1_i32_12286
  let v8874 : BitVec 32 := Scalar.addi c0_i32_12287 v8873
  v8874.toNat
def k0_dev391 (d0 : Dev nD) : Nat :=
  let c0_i32_12340 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12339 : BitVec 32 := 1#32
  let v8913 : BitVec 32 := Scalar.muli v194 c1_i32_12339
  let v8914 : BitVec 32 := Scalar.addi c0_i32_12340 v8913
  v8914.toNat
def k0_dev392 (d0 : Dev nD) : Nat :=
  let c0_i32_12353 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12352 : BitVec 32 := 1#32
  let v8917 : BitVec 32 := Scalar.muli v130 c1_i32_12352
  let v8918 : BitVec 32 := Scalar.addi c0_i32_12353 v8917
  v8918.toNat
def k0_dev393 (d0 : Dev nD) : Nat :=
  let c0_i32_12405 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12404 : BitVec 32 := 1#32
  let v8956 : BitVec 32 := Scalar.muli v130 c1_i32_12404
  let v8957 : BitVec 32 := Scalar.addi c0_i32_12405 v8956
  v8957.toNat
def k0_dev394 (d0 : Dev nD) : Nat :=
  let c0_i32_12418 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12417 : BitVec 32 := 1#32
  let v8960 : BitVec 32 := Scalar.muli v194 c1_i32_12417
  let v8961 : BitVec 32 := Scalar.addi c0_i32_12418 v8960
  v8961.toNat
def k0_dev395 (d0 : Dev nD) : Nat :=
  let c0_i32_12471 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12470 : BitVec 32 := 1#32
  let v9000 : BitVec 32 := Scalar.muli v194 c1_i32_12470
  let v9001 : BitVec 32 := Scalar.addi c0_i32_12471 v9000
  v9001.toNat
def k0_dev396 (d0 : Dev nD) : Nat :=
  let c0_i32_12484 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12483 : BitVec 32 := 1#32
  let v9004 : BitVec 32 := Scalar.muli v130 c1_i32_12483
  let v9005 : BitVec 32 := Scalar.addi c0_i32_12484 v9004
  v9005.toNat
def k0_dev397 (d0 : Dev nD) : Nat :=
  let c0_i32_12536 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12535 : BitVec 32 := 1#32
  let v9043 : BitVec 32 := Scalar.muli v130 c1_i32_12535
  let v9044 : BitVec 32 := Scalar.addi c0_i32_12536 v9043
  v9044.toNat
def k0_dev398 (d0 : Dev nD) : Nat :=
  let c0_i32_12549 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12548 : BitVec 32 := 1#32
  let v9047 : BitVec 32 := Scalar.muli v194 c1_i32_12548
  let v9048 : BitVec 32 := Scalar.addi c0_i32_12549 v9047
  v9048.toNat
def k0_dev399 (d0 : Dev nD) : Nat :=
  let c0_i32_12602 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12601 : BitVec 32 := 1#32
  let v9087 : BitVec 32 := Scalar.muli v194 c1_i32_12601
  let v9088 : BitVec 32 := Scalar.addi c0_i32_12602 v9087
  v9088.toNat
def k0_dev400 (d0 : Dev nD) : Nat :=
  let c0_i32_12615 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12614 : BitVec 32 := 1#32
  let v9091 : BitVec 32 := Scalar.muli v130 c1_i32_12614
  let v9092 : BitVec 32 := Scalar.addi c0_i32_12615 v9091
  v9092.toNat
def k0_dev401 (d0 : Dev nD) : Nat :=
  let c0_i32_12667 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12666 : BitVec 32 := 1#32
  let v9130 : BitVec 32 := Scalar.muli v130 c1_i32_12666
  let v9131 : BitVec 32 := Scalar.addi c0_i32_12667 v9130
  v9131.toNat
def k0_dev402 (d0 : Dev nD) : Nat :=
  let c0_i32_12680 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12679 : BitVec 32 := 1#32
  let v9134 : BitVec 32 := Scalar.muli v194 c1_i32_12679
  let v9135 : BitVec 32 := Scalar.addi c0_i32_12680 v9134
  v9135.toNat
def k0_dev403 (d0 : Dev nD) : Nat :=
  let c0_i32_12733 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12732 : BitVec 32 := 1#32
  let v9174 : BitVec 32 := Scalar.muli v194 c1_i32_12732
  let v9175 : BitVec 32 := Scalar.addi c0_i32_12733 v9174
  v9175.toNat
def k0_dev404 (d0 : Dev nD) : Nat :=
  let c0_i32_12746 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12745 : BitVec 32 := 1#32
  let v9178 : BitVec 32 := Scalar.muli v130 c1_i32_12745
  let v9179 : BitVec 32 := Scalar.addi c0_i32_12746 v9178
  v9179.toNat
def k0_dev405 (d0 : Dev nD) : Nat :=
  let c0_i32_12798 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12797 : BitVec 32 := 1#32
  let v9217 : BitVec 32 := Scalar.muli v130 c1_i32_12797
  let v9218 : BitVec 32 := Scalar.addi c0_i32_12798 v9217
  v9218.toNat
def k0_dev406 (d0 : Dev nD) : Nat :=
  let c0_i32_12811 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12810 : BitVec 32 := 1#32
  let v9221 : BitVec 32 := Scalar.muli v194 c1_i32_12810
  let v9222 : BitVec 32 := Scalar.addi c0_i32_12811 v9221
  v9222.toNat
def k0_dev407 (d0 : Dev nD) : Nat :=
  let c0_i32_12864 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12863 : BitVec 32 := 1#32
  let v9261 : BitVec 32 := Scalar.muli v194 c1_i32_12863
  let v9262 : BitVec 32 := Scalar.addi c0_i32_12864 v9261
  v9262.toNat
def k0_dev408 (d0 : Dev nD) : Nat :=
  let c0_i32_12877 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12876 : BitVec 32 := 1#32
  let v9265 : BitVec 32 := Scalar.muli v130 c1_i32_12876
  let v9266 : BitVec 32 := Scalar.addi c0_i32_12877 v9265
  v9266.toNat
def k0_dev409 (d0 : Dev nD) : Nat :=
  let c0_i32_12929 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_12928 : BitVec 32 := 1#32
  let v9304 : BitVec 32 := Scalar.muli v130 c1_i32_12928
  let v9305 : BitVec 32 := Scalar.addi c0_i32_12929 v9304
  v9305.toNat
def k0_dev410 (d0 : Dev nD) : Nat :=
  let c0_i32_12942 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12941 : BitVec 32 := 1#32
  let v9308 : BitVec 32 := Scalar.muli v194 c1_i32_12941
  let v9309 : BitVec 32 := Scalar.addi c0_i32_12942 v9308
  v9309.toNat
def k0_dev411 (d0 : Dev nD) : Nat :=
  let c0_i32_12995 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_12994 : BitVec 32 := 1#32
  let v9348 : BitVec 32 := Scalar.muli v194 c1_i32_12994
  let v9349 : BitVec 32 := Scalar.addi c0_i32_12995 v9348
  v9349.toNat
def k0_dev412 (d0 : Dev nD) : Nat :=
  let c0_i32_13008 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13007 : BitVec 32 := 1#32
  let v9352 : BitVec 32 := Scalar.muli v130 c1_i32_13007
  let v9353 : BitVec 32 := Scalar.addi c0_i32_13008 v9352
  v9353.toNat
def k0_dev413 (d0 : Dev nD) : Nat :=
  let c0_i32_13060 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13059 : BitVec 32 := 1#32
  let v9391 : BitVec 32 := Scalar.muli v130 c1_i32_13059
  let v9392 : BitVec 32 := Scalar.addi c0_i32_13060 v9391
  v9392.toNat
def k0_dev414 (d0 : Dev nD) : Nat :=
  let c0_i32_13073 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13072 : BitVec 32 := 1#32
  let v9395 : BitVec 32 := Scalar.muli v194 c1_i32_13072
  let v9396 : BitVec 32 := Scalar.addi c0_i32_13073 v9395
  v9396.toNat
def k0_dev415 (d0 : Dev nD) : Nat :=
  let c0_i32_13126 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13125 : BitVec 32 := 1#32
  let v9435 : BitVec 32 := Scalar.muli v194 c1_i32_13125
  let v9436 : BitVec 32 := Scalar.addi c0_i32_13126 v9435
  v9436.toNat
def k0_dev416 (d0 : Dev nD) : Nat :=
  let c0_i32_13139 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13138 : BitVec 32 := 1#32
  let v9439 : BitVec 32 := Scalar.muli v130 c1_i32_13138
  let v9440 : BitVec 32 := Scalar.addi c0_i32_13139 v9439
  v9440.toNat
def k0_dev417 (d0 : Dev nD) : Nat :=
  let c0_i32_13191 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13190 : BitVec 32 := 1#32
  let v9478 : BitVec 32 := Scalar.muli v130 c1_i32_13190
  let v9479 : BitVec 32 := Scalar.addi c0_i32_13191 v9478
  v9479.toNat
def k0_dev418 (d0 : Dev nD) : Nat :=
  let c0_i32_13204 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13203 : BitVec 32 := 1#32
  let v9482 : BitVec 32 := Scalar.muli v194 c1_i32_13203
  let v9483 : BitVec 32 := Scalar.addi c0_i32_13204 v9482
  v9483.toNat
def k0_dev419 (d0 : Dev nD) : Nat :=
  let c0_i32_13257 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13256 : BitVec 32 := 1#32
  let v9522 : BitVec 32 := Scalar.muli v194 c1_i32_13256
  let v9523 : BitVec 32 := Scalar.addi c0_i32_13257 v9522
  v9523.toNat
def k0_dev420 (d0 : Dev nD) : Nat :=
  let c0_i32_13270 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13269 : BitVec 32 := 1#32
  let v9526 : BitVec 32 := Scalar.muli v130 c1_i32_13269
  let v9527 : BitVec 32 := Scalar.addi c0_i32_13270 v9526
  v9527.toNat
def k0_dev421 (d0 : Dev nD) : Nat :=
  let c0_i32_13322 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13321 : BitVec 32 := 1#32
  let v9565 : BitVec 32 := Scalar.muli v130 c1_i32_13321
  let v9566 : BitVec 32 := Scalar.addi c0_i32_13322 v9565
  v9566.toNat
def k0_dev422 (d0 : Dev nD) : Nat :=
  let c0_i32_13335 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13334 : BitVec 32 := 1#32
  let v9569 : BitVec 32 := Scalar.muli v194 c1_i32_13334
  let v9570 : BitVec 32 := Scalar.addi c0_i32_13335 v9569
  v9570.toNat
def k0_dev423 (d0 : Dev nD) : Nat :=
  let c0_i32_13388 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13387 : BitVec 32 := 1#32
  let v9609 : BitVec 32 := Scalar.muli v194 c1_i32_13387
  let v9610 : BitVec 32 := Scalar.addi c0_i32_13388 v9609
  v9610.toNat
def k0_dev424 (d0 : Dev nD) : Nat :=
  let c0_i32_13401 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13400 : BitVec 32 := 1#32
  let v9613 : BitVec 32 := Scalar.muli v130 c1_i32_13400
  let v9614 : BitVec 32 := Scalar.addi c0_i32_13401 v9613
  v9614.toNat
def k0_dev425 (d0 : Dev nD) : Nat :=
  let c0_i32_13453 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13452 : BitVec 32 := 1#32
  let v9652 : BitVec 32 := Scalar.muli v130 c1_i32_13452
  let v9653 : BitVec 32 := Scalar.addi c0_i32_13453 v9652
  v9653.toNat
def k0_dev426 (d0 : Dev nD) : Nat :=
  let c0_i32_13466 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13465 : BitVec 32 := 1#32
  let v9656 : BitVec 32 := Scalar.muli v194 c1_i32_13465
  let v9657 : BitVec 32 := Scalar.addi c0_i32_13466 v9656
  v9657.toNat
def k0_dev427 (d0 : Dev nD) : Nat :=
  let c0_i32_13519 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13518 : BitVec 32 := 1#32
  let v9696 : BitVec 32 := Scalar.muli v194 c1_i32_13518
  let v9697 : BitVec 32 := Scalar.addi c0_i32_13519 v9696
  v9697.toNat
def k0_dev428 (d0 : Dev nD) : Nat :=
  let c0_i32_13532 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13531 : BitVec 32 := 1#32
  let v9700 : BitVec 32 := Scalar.muli v130 c1_i32_13531
  let v9701 : BitVec 32 := Scalar.addi c0_i32_13532 v9700
  v9701.toNat
def k0_dev429 (d0 : Dev nD) : Nat :=
  let c0_i32_13584 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13583 : BitVec 32 := 1#32
  let v9739 : BitVec 32 := Scalar.muli v130 c1_i32_13583
  let v9740 : BitVec 32 := Scalar.addi c0_i32_13584 v9739
  v9740.toNat
def k0_dev430 (d0 : Dev nD) : Nat :=
  let c0_i32_13597 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13596 : BitVec 32 := 1#32
  let v9743 : BitVec 32 := Scalar.muli v194 c1_i32_13596
  let v9744 : BitVec 32 := Scalar.addi c0_i32_13597 v9743
  v9744.toNat
def k0_dev431 (d0 : Dev nD) : Nat :=
  let c0_i32_13650 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13649 : BitVec 32 := 1#32
  let v9783 : BitVec 32 := Scalar.muli v194 c1_i32_13649
  let v9784 : BitVec 32 := Scalar.addi c0_i32_13650 v9783
  v9784.toNat
def k0_dev432 (d0 : Dev nD) : Nat :=
  let c0_i32_13663 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13662 : BitVec 32 := 1#32
  let v9787 : BitVec 32 := Scalar.muli v130 c1_i32_13662
  let v9788 : BitVec 32 := Scalar.addi c0_i32_13663 v9787
  v9788.toNat
def k0_dev433 (d0 : Dev nD) : Nat :=
  let c0_i32_13715 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13714 : BitVec 32 := 1#32
  let v9826 : BitVec 32 := Scalar.muli v130 c1_i32_13714
  let v9827 : BitVec 32 := Scalar.addi c0_i32_13715 v9826
  v9827.toNat
def k0_dev434 (d0 : Dev nD) : Nat :=
  let c0_i32_13728 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13727 : BitVec 32 := 1#32
  let v9830 : BitVec 32 := Scalar.muli v194 c1_i32_13727
  let v9831 : BitVec 32 := Scalar.addi c0_i32_13728 v9830
  v9831.toNat
def k0_dev435 (d0 : Dev nD) : Nat :=
  let c0_i32_13781 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13780 : BitVec 32 := 1#32
  let v9870 : BitVec 32 := Scalar.muli v194 c1_i32_13780
  let v9871 : BitVec 32 := Scalar.addi c0_i32_13781 v9870
  v9871.toNat
def k0_dev436 (d0 : Dev nD) : Nat :=
  let c0_i32_13794 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13793 : BitVec 32 := 1#32
  let v9874 : BitVec 32 := Scalar.muli v130 c1_i32_13793
  let v9875 : BitVec 32 := Scalar.addi c0_i32_13794 v9874
  v9875.toNat
def k0_dev437 (d0 : Dev nD) : Nat :=
  let c0_i32_13846 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13845 : BitVec 32 := 1#32
  let v9913 : BitVec 32 := Scalar.muli v130 c1_i32_13845
  let v9914 : BitVec 32 := Scalar.addi c0_i32_13846 v9913
  v9914.toNat
def k0_dev438 (d0 : Dev nD) : Nat :=
  let c0_i32_13859 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13858 : BitVec 32 := 1#32
  let v9917 : BitVec 32 := Scalar.muli v194 c1_i32_13858
  let v9918 : BitVec 32 := Scalar.addi c0_i32_13859 v9917
  v9918.toNat
def k0_dev439 (d0 : Dev nD) : Nat :=
  let c0_i32_13912 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13911 : BitVec 32 := 1#32
  let v9957 : BitVec 32 := Scalar.muli v194 c1_i32_13911
  let v9958 : BitVec 32 := Scalar.addi c0_i32_13912 v9957
  v9958.toNat
def k0_dev440 (d0 : Dev nD) : Nat :=
  let c0_i32_13925 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13924 : BitVec 32 := 1#32
  let v9961 : BitVec 32 := Scalar.muli v130 c1_i32_13924
  let v9962 : BitVec 32 := Scalar.addi c0_i32_13925 v9961
  v9962.toNat
def k0_dev441 (d0 : Dev nD) : Nat :=
  let c0_i32_13977 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_13976 : BitVec 32 := 1#32
  let v10000 : BitVec 32 := Scalar.muli v130 c1_i32_13976
  let v10001 : BitVec 32 := Scalar.addi c0_i32_13977 v10000
  v10001.toNat
def k0_dev442 (d0 : Dev nD) : Nat :=
  let c0_i32_13990 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_13989 : BitVec 32 := 1#32
  let v10004 : BitVec 32 := Scalar.muli v194 c1_i32_13989
  let v10005 : BitVec 32 := Scalar.addi c0_i32_13990 v10004
  v10005.toNat
def k0_dev443 (d0 : Dev nD) : Nat :=
  let c0_i32_14043 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14042 : BitVec 32 := 1#32
  let v10044 : BitVec 32 := Scalar.muli v194 c1_i32_14042
  let v10045 : BitVec 32 := Scalar.addi c0_i32_14043 v10044
  v10045.toNat
def k0_dev444 (d0 : Dev nD) : Nat :=
  let c0_i32_14056 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14055 : BitVec 32 := 1#32
  let v10048 : BitVec 32 := Scalar.muli v130 c1_i32_14055
  let v10049 : BitVec 32 := Scalar.addi c0_i32_14056 v10048
  v10049.toNat
def k0_dev445 (d0 : Dev nD) : Nat :=
  let c0_i32_14108 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14107 : BitVec 32 := 1#32
  let v10087 : BitVec 32 := Scalar.muli v130 c1_i32_14107
  let v10088 : BitVec 32 := Scalar.addi c0_i32_14108 v10087
  v10088.toNat
def k0_dev446 (d0 : Dev nD) : Nat :=
  let c0_i32_14121 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14120 : BitVec 32 := 1#32
  let v10091 : BitVec 32 := Scalar.muli v194 c1_i32_14120
  let v10092 : BitVec 32 := Scalar.addi c0_i32_14121 v10091
  v10092.toNat
def k0_dev447 (d0 : Dev nD) : Nat :=
  let c0_i32_14174 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14173 : BitVec 32 := 1#32
  let v10131 : BitVec 32 := Scalar.muli v194 c1_i32_14173
  let v10132 : BitVec 32 := Scalar.addi c0_i32_14174 v10131
  v10132.toNat
def k0_dev448 (d0 : Dev nD) : Nat :=
  let c0_i32_14187 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14186 : BitVec 32 := 1#32
  let v10135 : BitVec 32 := Scalar.muli v130 c1_i32_14186
  let v10136 : BitVec 32 := Scalar.addi c0_i32_14187 v10135
  v10136.toNat
def k0_dev449 (d0 : Dev nD) : Nat :=
  let c0_i32_14239 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14238 : BitVec 32 := 1#32
  let v10174 : BitVec 32 := Scalar.muli v130 c1_i32_14238
  let v10175 : BitVec 32 := Scalar.addi c0_i32_14239 v10174
  v10175.toNat
def k0_dev450 (d0 : Dev nD) : Nat :=
  let c0_i32_14252 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14251 : BitVec 32 := 1#32
  let v10178 : BitVec 32 := Scalar.muli v194 c1_i32_14251
  let v10179 : BitVec 32 := Scalar.addi c0_i32_14252 v10178
  v10179.toNat
def k0_dev451 (d0 : Dev nD) : Nat :=
  let c0_i32_14305 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14304 : BitVec 32 := 1#32
  let v10218 : BitVec 32 := Scalar.muli v194 c1_i32_14304
  let v10219 : BitVec 32 := Scalar.addi c0_i32_14305 v10218
  v10219.toNat
def k0_dev452 (d0 : Dev nD) : Nat :=
  let c0_i32_14318 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14317 : BitVec 32 := 1#32
  let v10222 : BitVec 32 := Scalar.muli v130 c1_i32_14317
  let v10223 : BitVec 32 := Scalar.addi c0_i32_14318 v10222
  v10223.toNat
def k0_dev453 (d0 : Dev nD) : Nat :=
  let c0_i32_14370 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14369 : BitVec 32 := 1#32
  let v10261 : BitVec 32 := Scalar.muli v130 c1_i32_14369
  let v10262 : BitVec 32 := Scalar.addi c0_i32_14370 v10261
  v10262.toNat
def k0_dev454 (d0 : Dev nD) : Nat :=
  let c0_i32_14383 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14382 : BitVec 32 := 1#32
  let v10265 : BitVec 32 := Scalar.muli v194 c1_i32_14382
  let v10266 : BitVec 32 := Scalar.addi c0_i32_14383 v10265
  v10266.toNat
def k0_dev455 (d0 : Dev nD) : Nat :=
  let c0_i32_14436 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14435 : BitVec 32 := 1#32
  let v10305 : BitVec 32 := Scalar.muli v194 c1_i32_14435
  let v10306 : BitVec 32 := Scalar.addi c0_i32_14436 v10305
  v10306.toNat
def k0_dev456 (d0 : Dev nD) : Nat :=
  let c0_i32_14449 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14448 : BitVec 32 := 1#32
  let v10309 : BitVec 32 := Scalar.muli v130 c1_i32_14448
  let v10310 : BitVec 32 := Scalar.addi c0_i32_14449 v10309
  v10310.toNat
def k0_dev457 (d0 : Dev nD) : Nat :=
  let c0_i32_14501 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14500 : BitVec 32 := 1#32
  let v10348 : BitVec 32 := Scalar.muli v130 c1_i32_14500
  let v10349 : BitVec 32 := Scalar.addi c0_i32_14501 v10348
  v10349.toNat
def k0_dev458 (d0 : Dev nD) : Nat :=
  let c0_i32_14514 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14513 : BitVec 32 := 1#32
  let v10352 : BitVec 32 := Scalar.muli v194 c1_i32_14513
  let v10353 : BitVec 32 := Scalar.addi c0_i32_14514 v10352
  v10353.toNat
def k0_dev459 (d0 : Dev nD) : Nat :=
  let c0_i32_14567 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14566 : BitVec 32 := 1#32
  let v10392 : BitVec 32 := Scalar.muli v194 c1_i32_14566
  let v10393 : BitVec 32 := Scalar.addi c0_i32_14567 v10392
  v10393.toNat
def k0_dev460 (d0 : Dev nD) : Nat :=
  let c0_i32_14580 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14579 : BitVec 32 := 1#32
  let v10396 : BitVec 32 := Scalar.muli v130 c1_i32_14579
  let v10397 : BitVec 32 := Scalar.addi c0_i32_14580 v10396
  v10397.toNat
def k0_dev461 (d0 : Dev nD) : Nat :=
  let c0_i32_14632 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14631 : BitVec 32 := 1#32
  let v10435 : BitVec 32 := Scalar.muli v130 c1_i32_14631
  let v10436 : BitVec 32 := Scalar.addi c0_i32_14632 v10435
  v10436.toNat
def k0_dev462 (d0 : Dev nD) : Nat :=
  let c0_i32_14645 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14644 : BitVec 32 := 1#32
  let v10439 : BitVec 32 := Scalar.muli v194 c1_i32_14644
  let v10440 : BitVec 32 := Scalar.addi c0_i32_14645 v10439
  v10440.toNat
def k0_dev463 (d0 : Dev nD) : Nat :=
  let c0_i32_14698 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14697 : BitVec 32 := 1#32
  let v10479 : BitVec 32 := Scalar.muli v194 c1_i32_14697
  let v10480 : BitVec 32 := Scalar.addi c0_i32_14698 v10479
  v10480.toNat
def k0_dev464 (d0 : Dev nD) : Nat :=
  let c0_i32_14711 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14710 : BitVec 32 := 1#32
  let v10483 : BitVec 32 := Scalar.muli v130 c1_i32_14710
  let v10484 : BitVec 32 := Scalar.addi c0_i32_14711 v10483
  v10484.toNat
def k0_dev465 (d0 : Dev nD) : Nat :=
  let c0_i32_14763 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14762 : BitVec 32 := 1#32
  let v10522 : BitVec 32 := Scalar.muli v130 c1_i32_14762
  let v10523 : BitVec 32 := Scalar.addi c0_i32_14763 v10522
  v10523.toNat
def k0_dev466 (d0 : Dev nD) : Nat :=
  let c0_i32_14776 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14775 : BitVec 32 := 1#32
  let v10526 : BitVec 32 := Scalar.muli v194 c1_i32_14775
  let v10527 : BitVec 32 := Scalar.addi c0_i32_14776 v10526
  v10527.toNat
def k0_dev467 (d0 : Dev nD) : Nat :=
  let c0_i32_14829 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14828 : BitVec 32 := 1#32
  let v10566 : BitVec 32 := Scalar.muli v194 c1_i32_14828
  let v10567 : BitVec 32 := Scalar.addi c0_i32_14829 v10566
  v10567.toNat
def k0_dev468 (d0 : Dev nD) : Nat :=
  let c0_i32_14842 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14841 : BitVec 32 := 1#32
  let v10570 : BitVec 32 := Scalar.muli v130 c1_i32_14841
  let v10571 : BitVec 32 := Scalar.addi c0_i32_14842 v10570
  v10571.toNat
def k0_dev469 (d0 : Dev nD) : Nat :=
  let c0_i32_14894 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14893 : BitVec 32 := 1#32
  let v10609 : BitVec 32 := Scalar.muli v130 c1_i32_14893
  let v10610 : BitVec 32 := Scalar.addi c0_i32_14894 v10609
  v10610.toNat
def k0_dev470 (d0 : Dev nD) : Nat :=
  let c0_i32_14907 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14906 : BitVec 32 := 1#32
  let v10613 : BitVec 32 := Scalar.muli v194 c1_i32_14906
  let v10614 : BitVec 32 := Scalar.addi c0_i32_14907 v10613
  v10614.toNat
def k0_dev471 (d0 : Dev nD) : Nat :=
  let c0_i32_14960 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_14959 : BitVec 32 := 1#32
  let v10653 : BitVec 32 := Scalar.muli v194 c1_i32_14959
  let v10654 : BitVec 32 := Scalar.addi c0_i32_14960 v10653
  v10654.toNat
def k0_dev472 (d0 : Dev nD) : Nat :=
  let c0_i32_14973 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_14972 : BitVec 32 := 1#32
  let v10657 : BitVec 32 := Scalar.muli v130 c1_i32_14972
  let v10658 : BitVec 32 := Scalar.addi c0_i32_14973 v10657
  v10658.toNat
def k0_dev473 (d0 : Dev nD) : Nat :=
  let c0_i32_15025 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_15024 : BitVec 32 := 1#32
  let v10696 : BitVec 32 := Scalar.muli v130 c1_i32_15024
  let v10697 : BitVec 32 := Scalar.addi c0_i32_15025 v10696
  v10697.toNat
def k0_dev474 (d0 : Dev nD) : Nat :=
  let c0_i32_15038 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_15037 : BitVec 32 := 1#32
  let v10700 : BitVec 32 := Scalar.muli v194 c1_i32_15037
  let v10701 : BitVec 32 := Scalar.addi c0_i32_15038 v10700
  v10701.toNat
def k0_dev475 (d0 : Dev nD) : Nat :=
  let c0_i32_15070 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_15069 : BitVec 32 := 1#32
  let v10729 : BitVec 32 := Scalar.muli v194 c1_i32_15069
  let v10730 : BitVec 32 := Scalar.addi c0_i32_15070 v10729
  v10730.toNat
def k0_dev476 (d0 : Dev nD) : Nat :=
  let c0_i32_15126 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_15125 : BitVec 32 := 1#32
  let v10763 : BitVec 32 := Scalar.muli v130 c1_i32_15125
  let v10764 : BitVec 32 := Scalar.addi c0_i32_15126 v10763
  v10764.toNat
def k0_dev477 (d0 : Dev nD) : Nat :=
  let c0_i32_15183 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_15182 : BitVec 32 := 1#32
  let v10798 : BitVec 32 := Scalar.muli v194 c1_i32_15182
  let v10799 : BitVec 32 := Scalar.addi c0_i32_15183 v10798
  v10799.toNat
def k0_dev478 (d0 : Dev nD) : Nat :=
  let c0_i32_15239 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_15238 : BitVec 32 := 1#32
  let v10832 : BitVec 32 := Scalar.muli v130 c1_i32_15238
  let v10833 : BitVec 32 := Scalar.addi c0_i32_15239 v10832
  v10833.toNat
def k0_dev479 (d0 : Dev nD) : Nat :=
  let c0_i32_15296 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_15295 : BitVec 32 := 1#32
  let v10867 : BitVec 32 := Scalar.muli v194 c1_i32_15295
  let v10868 : BitVec 32 := Scalar.addi c0_i32_15296 v10867
  v10868.toNat
def k0_dev480 (d0 : Dev nD) : Nat :=
  let c0_i32_15352 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_15351 : BitVec 32 := 1#32
  let v10901 : BitVec 32 := Scalar.muli v130 c1_i32_15351
  let v10902 : BitVec 32 := Scalar.addi c0_i32_15352 v10901
  v10902.toNat
def k0_dev481 (d0 : Dev nD) : Nat :=
  let c0_i32_15409 : BitVec 32 := 0#32
  let c0_i32_53 : BitVec 32 := 0#32
  let c1_i32_52 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_51 : BitVec 32 := 0#32
  let v131 : BitVec 1 := Scalar.cmpi .eq v2 c0_i32_51
  let v132 : BitVec 32 := Scalar.extui v131
  let v133 : BitVec 32 := Scalar.muli c1_i32_52 v132
  let v134 : BitVec 32 := Scalar.addi c0_i32_53 v133
  let c5_i32_55 : BitVec 32 := 5#32
  let c1_i32_54 : BitVec 32 := 1#32
  let v135 : BitVec 1 := Scalar.cmpi .eq v2 c1_i32_54
  let v136 : BitVec 32 := Scalar.extui v135
  let v137 : BitVec 32 := Scalar.muli c5_i32_55 v136
  let v138 : BitVec 32 := Scalar.addi v134 v137
  let c3_i32_57 : BitVec 32 := 3#32
  let c2_i32_56 : BitVec 32 := 2#32
  let v139 : BitVec 1 := Scalar.cmpi .eq v2 c2_i32_56
  let v140 : BitVec 32 := Scalar.extui v139
  let v141 : BitVec 32 := Scalar.muli c3_i32_57 v140
  let v142 : BitVec 32 := Scalar.addi v138 v141
  let c7_i32_59 : BitVec 32 := 7#32
  let c3_i32_58 : BitVec 32 := 3#32
  let v143 : BitVec 1 := Scalar.cmpi .eq v2 c3_i32_58
  let v144 : BitVec 32 := Scalar.extui v143
  let v145 : BitVec 32 := Scalar.muli c7_i32_59 v144
  let v146 : BitVec 32 := Scalar.addi v142 v145
  let c0_i32_61 : BitVec 32 := 0#32
  let c4_i32_60 : BitVec 32 := 4#32
  let v147 : BitVec 1 := Scalar.cmpi .eq v2 c4_i32_60
  let v148 : BitVec 32 := Scalar.extui v147
  let v149 : BitVec 32 := Scalar.muli c0_i32_61 v148
  let v150 : BitVec 32 := Scalar.addi v146 v149
  let c9_i32_63 : BitVec 32 := 9#32
  let c5_i32_62 : BitVec 32 := 5#32
  let v151 : BitVec 1 := Scalar.cmpi .eq v2 c5_i32_62
  let v152 : BitVec 32 := Scalar.extui v151
  let v153 : BitVec 32 := Scalar.muli c9_i32_63 v152
  let v154 : BitVec 32 := Scalar.addi v150 v153
  let c2_i32_65 : BitVec 32 := 2#32
  let c6_i32_64 : BitVec 32 := 6#32
  let v155 : BitVec 1 := Scalar.cmpi .eq v2 c6_i32_64
  let v156 : BitVec 32 := Scalar.extui v155
  let v157 : BitVec 32 := Scalar.muli c2_i32_65 v156
  let v158 : BitVec 32 := Scalar.addi v154 v157
  let c11_i32_67 : BitVec 32 := 11#32
  let c7_i32_66 : BitVec 32 := 7#32
  let v159 : BitVec 1 := Scalar.cmpi .eq v2 c7_i32_66
  let v160 : BitVec 32 := Scalar.extui v159
  let v161 : BitVec 32 := Scalar.muli c11_i32_67 v160
  let v162 : BitVec 32 := Scalar.addi v158 v161
  let c4_i32_69 : BitVec 32 := 4#32
  let c8_i32_68 : BitVec 32 := 8#32
  let v163 : BitVec 1 := Scalar.cmpi .eq v2 c8_i32_68
  let v164 : BitVec 32 := Scalar.extui v163
  let v165 : BitVec 32 := Scalar.muli c4_i32_69 v164
  let v166 : BitVec 32 := Scalar.addi v162 v165
  let c13_i32_71 : BitVec 32 := 13#32
  let c9_i32_70 : BitVec 32 := 9#32
  let v167 : BitVec 1 := Scalar.cmpi .eq v2 c9_i32_70
  let v168 : BitVec 32 := Scalar.extui v167
  let v169 : BitVec 32 := Scalar.muli c13_i32_71 v168
  let v170 : BitVec 32 := Scalar.addi v166 v169
  let c6_i32_73 : BitVec 32 := 6#32
  let c10_i32_72 : BitVec 32 := 10#32
  let v171 : BitVec 1 := Scalar.cmpi .eq v2 c10_i32_72
  let v172 : BitVec 32 := Scalar.extui v171
  let v173 : BitVec 32 := Scalar.muli c6_i32_73 v172
  let v174 : BitVec 32 := Scalar.addi v170 v173
  let c15_i32_75 : BitVec 32 := 15#32
  let c11_i32_74 : BitVec 32 := 11#32
  let v175 : BitVec 1 := Scalar.cmpi .eq v2 c11_i32_74
  let v176 : BitVec 32 := Scalar.extui v175
  let v177 : BitVec 32 := Scalar.muli c15_i32_75 v176
  let v178 : BitVec 32 := Scalar.addi v174 v177
  let c8_i32_77 : BitVec 32 := 8#32
  let c12_i32_76 : BitVec 32 := 12#32
  let v179 : BitVec 1 := Scalar.cmpi .eq v2 c12_i32_76
  let v180 : BitVec 32 := Scalar.extui v179
  let v181 : BitVec 32 := Scalar.muli c8_i32_77 v180
  let v182 : BitVec 32 := Scalar.addi v178 v181
  let c14_i32_79 : BitVec 32 := 14#32
  let c13_i32_78 : BitVec 32 := 13#32
  let v183 : BitVec 1 := Scalar.cmpi .eq v2 c13_i32_78
  let v184 : BitVec 32 := Scalar.extui v183
  let v185 : BitVec 32 := Scalar.muli c14_i32_79 v184
  let v186 : BitVec 32 := Scalar.addi v182 v185
  let c10_i32_81 : BitVec 32 := 10#32
  let c14_i32_80 : BitVec 32 := 14#32
  let v187 : BitVec 1 := Scalar.cmpi .eq v2 c14_i32_80
  let v188 : BitVec 32 := Scalar.extui v187
  let v189 : BitVec 32 := Scalar.muli c10_i32_81 v188
  let v190 : BitVec 32 := Scalar.addi v186 v189
  let c12_i32_83 : BitVec 32 := 12#32
  let c15_i32_82 : BitVec 32 := 15#32
  let v191 : BitVec 1 := Scalar.cmpi .eq v2 c15_i32_82
  let v192 : BitVec 32 := Scalar.extui v191
  let v193 : BitVec 32 := Scalar.muli c12_i32_83 v192
  let v194 : BitVec 32 := Scalar.addi v190 v193
  let c1_i32_15408 : BitVec 32 := 1#32
  let v10936 : BitVec 32 := Scalar.muli v194 c1_i32_15408
  let v10937 : BitVec 32 := Scalar.addi c0_i32_15409 v10936
  v10937.toNat
def k0_dev482 (d0 : Dev nD) : Nat :=
  let c0_i32_15465 : BitVec 32 := 0#32
  let c0_i32_20 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_18 : BitVec 32 := 0#32
  let v67 : BitVec 1 := Scalar.cmpi .eq v2 c0_i32_18
  let v68 : BitVec 32 := Scalar.extui v67
  let v69 : BitVec 32 := Scalar.muli c4_i32_19 v68
  let v70 : BitVec 32 := Scalar.addi c0_i32_20 v69
  let c0_i32_22 : BitVec 32 := 0#32
  let c1_i32_21 : BitVec 32 := 1#32
  let v71 : BitVec 1 := Scalar.cmpi .eq v2 c1_i32_21
  let v72 : BitVec 32 := Scalar.extui v71
  let v73 : BitVec 32 := Scalar.muli c0_i32_22 v72
  let v74 : BitVec 32 := Scalar.addi v70 v73
  let c6_i32_24 : BitVec 32 := 6#32
  let c2_i32_23 : BitVec 32 := 2#32
  let v75 : BitVec 1 := Scalar.cmpi .eq v2 c2_i32_23
  let v76 : BitVec 32 := Scalar.extui v75
  let v77 : BitVec 32 := Scalar.muli c6_i32_24 v76
  let v78 : BitVec 32 := Scalar.addi v74 v77
  let c2_i32_26 : BitVec 32 := 2#32
  let c3_i32_25 : BitVec 32 := 3#32
  let v79 : BitVec 1 := Scalar.cmpi .eq v2 c3_i32_25
  let v80 : BitVec 32 := Scalar.extui v79
  let v81 : BitVec 32 := Scalar.muli c2_i32_26 v80
  let v82 : BitVec 32 := Scalar.addi v78 v81
  let c8_i32_28 : BitVec 32 := 8#32
  let c4_i32_27 : BitVec 32 := 4#32
  let v83 : BitVec 1 := Scalar.cmpi .eq v2 c4_i32_27
  let v84 : BitVec 32 := Scalar.extui v83
  let v85 : BitVec 32 := Scalar.muli c8_i32_28 v84
  let v86 : BitVec 32 := Scalar.addi v82 v85
  let c1_i32_30 : BitVec 32 := 1#32
  let c5_i32_29 : BitVec 32 := 5#32
  let v87 : BitVec 1 := Scalar.cmpi .eq v2 c5_i32_29
  let v88 : BitVec 32 := Scalar.extui v87
  let v89 : BitVec 32 := Scalar.muli c1_i32_30 v88
  let v90 : BitVec 32 := Scalar.addi v86 v89
  let c10_i32_32 : BitVec 32 := 10#32
  let c6_i32_31 : BitVec 32 := 6#32
  let v91 : BitVec 1 := Scalar.cmpi .eq v2 c6_i32_31
  let v92 : BitVec 32 := Scalar.extui v91
  let v93 : BitVec 32 := Scalar.muli c10_i32_32 v92
  let v94 : BitVec 32 := Scalar.addi v90 v93
  let c3_i32_34 : BitVec 32 := 3#32
  let c7_i32_33 : BitVec 32 := 7#32
  let v95 : BitVec 1 := Scalar.cmpi .eq v2 c7_i32_33
  let v96 : BitVec 32 := Scalar.extui v95
  let v97 : BitVec 32 := Scalar.muli c3_i32_34 v96
  let v98 : BitVec 32 := Scalar.addi v94 v97
  let c12_i32_36 : BitVec 32 := 12#32
  let c8_i32_35 : BitVec 32 := 8#32
  let v99 : BitVec 1 := Scalar.cmpi .eq v2 c8_i32_35
  let v100 : BitVec 32 := Scalar.extui v99
  let v101 : BitVec 32 := Scalar.muli c12_i32_36 v100
  let v102 : BitVec 32 := Scalar.addi v98 v101
  let c5_i32_38 : BitVec 32 := 5#32
  let c9_i32_37 : BitVec 32 := 9#32
  let v103 : BitVec 1 := Scalar.cmpi .eq v2 c9_i32_37
  let v104 : BitVec 32 := Scalar.extui v103
  let v105 : BitVec 32 := Scalar.muli c5_i32_38 v104
  let v106 : BitVec 32 := Scalar.addi v102 v105
  let c14_i32_40 : BitVec 32 := 14#32
  let c10_i32_39 : BitVec 32 := 10#32
  let v107 : BitVec 1 := Scalar.cmpi .eq v2 c10_i32_39
  let v108 : BitVec 32 := Scalar.extui v107
  let v109 : BitVec 32 := Scalar.muli c14_i32_40 v108
  let v110 : BitVec 32 := Scalar.addi v106 v109
  let c7_i32_42 : BitVec 32 := 7#32
  let c11_i32_41 : BitVec 32 := 11#32
  let v111 : BitVec 1 := Scalar.cmpi .eq v2 c11_i32_41
  let v112 : BitVec 32 := Scalar.extui v111
  let v113 : BitVec 32 := Scalar.muli c7_i32_42 v112
  let v114 : BitVec 32 := Scalar.addi v110 v113
  let c15_i32_44 : BitVec 32 := 15#32
  let c12_i32_43 : BitVec 32 := 12#32
  let v115 : BitVec 1 := Scalar.cmpi .eq v2 c12_i32_43
  let v116 : BitVec 32 := Scalar.extui v115
  let v117 : BitVec 32 := Scalar.muli c15_i32_44 v116
  let v118 : BitVec 32 := Scalar.addi v114 v117
  let c9_i32_46 : BitVec 32 := 9#32
  let c13_i32_45 : BitVec 32 := 13#32
  let v119 : BitVec 1 := Scalar.cmpi .eq v2 c13_i32_45
  let v120 : BitVec 32 := Scalar.extui v119
  let v121 : BitVec 32 := Scalar.muli c9_i32_46 v120
  let v122 : BitVec 32 := Scalar.addi v118 v121
  let c13_i32_48 : BitVec 32 := 13#32
  let c14_i32_47 : BitVec 32 := 14#32
  let v123 : BitVec 1 := Scalar.cmpi .eq v2 c14_i32_47
  let v124 : BitVec 32 := Scalar.extui v123
  let v125 : BitVec 32 := Scalar.muli c13_i32_48 v124
  let v126 : BitVec 32 := Scalar.addi v122 v125
  let c11_i32_50 : BitVec 32 := 11#32
  let c15_i32_49 : BitVec 32 := 15#32
  let v127 : BitVec 1 := Scalar.cmpi .eq v2 c15_i32_49
  let v128 : BitVec 32 := Scalar.extui v127
  let v129 : BitVec 32 := Scalar.muli c11_i32_50 v128
  let v130 : BitVec 32 := Scalar.addi v126 v129
  let c1_i32_15464 : BitVec 32 := 1#32
  let v10970 : BitVec 32 := Scalar.muli v130 c1_i32_15464
  let v10971 : BitVec 32 := Scalar.addi c0_i32_15465 v10970
  v10971.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x12288 : Shape := ⟨2, ![1536, 12288]⟩
abbrev S12288x1536 : Shape := ⟨2, ![12288, 1536]⟩
abbrev S1536x1536 : Shape := ⟨2, ![1536, 1536]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1536x12288, .f32⟩
  | .hbm, ⟨1, _⟩ => ⟨S12288x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | .hbm, ⟨6, _⟩ => ⟨S_, .f32⟩
  | .hbm, ⟨7, _⟩ => ⟨S1536x1536, .f32⟩
  | .hbm, ⟨8, _⟩ => ⟨S1536x1536, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S_, .f32⟩
  | .hbm, ⟨13, _⟩ => ⟨S1536x1536, .f32⟩
  | .hbm, ⟨14, _⟩ => ⟨S1536x1536, .f32⟩
  | .hbm, ⟨15, _⟩ => ⟨S1536x1536, .f32⟩
  | .hbm, ⟨16, _⟩ => ⟨S_, .f32⟩
  | .hbm, ⟨17, _⟩ => ⟨S1536x1536, .f32⟩
  | .hbm, ⟨18, _⟩ => ⟨S1536x1536, .f32⟩
  | .hbm, ⟨19, _⟩ => ⟨S1536x1536, .f32⟩
  | _, _ => ⟨S1536x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Kernel.BodyEq.lean ====
/- The kernel's body as printed is the body written out by its structure. -/
module
public import proofs.«01_k».proof.Proof.Kernel.Model
public import Idealize.ShloMosaic.Lib.Pipeline.Regions
@[expose] public section
noncomputable section
namespace Cert.Kernel.Ring
open Idealize.ShloMosaic Idealize.ShloMosaic.TcCoe Idealize.ShloMosaic.Pipeline
open Idealize.SL Idealize.SL.Sem
variable {F : FTy → Type} [FloatOps F]
variable [Facts]
open Facts₀ Facts
theorem body_eq (arg0 : Memref sig .tc .vmem S1536x768 .f32) (harg0 : arg0.IsWhole) (arg1 : Memref sig .tc .vmem S768x1536 .f32) (harg1 : arg1.IsWhole) (arg2 : Memref sig .tc .vmem S1536x1536 .f32) (harg2 : arg2.IsWhole) (arg3 : Memref sig .tc .vmem S8x2x48x384 .f32) (harg3 : arg3.IsWhole) (arg4 : Memref sig .tc .vmem S8x2x48x384 .f32) (harg4 : arg4.IsWhole) (arg5 : DmaSems sig S8x2) (arg6 : DmaSems sig S8x2) (arg7 : Sems sig S8) :
    cc0_body (F := F) arg0 harg0 arg1 harg1 arg2 harg2 arg3 harg3 arg4 harg4 arg5 arg6 arg7
      = body arg0 arg1 arg2 arg3 arg4 arg5 arg6 arg7 := by
  chain_rfl
end Cert.Kernel.Ring
-- ==== Proof.KernelIdeal.Model.lean ====
/- The kernel's body written out by its structure: eight streams of tiles, thirty hops of each around the ring. -/
module

public import proofs.«01_k».proof.KernelIdeal

@[expose] public section

noncomputable section

namespace Cert.KernelIdeal.Ring

open Idealize.ShloMosaic Idealize.ShloMosaic.TcCoe
open Idealize.SL Idealize.SL.Sem

variable {F : FTy → Type} [FloatOps F]
variable [Facts]
open Facts₀ Facts

/-- Which of a stream's two slots hop `h` uses. -/
def par (h : ℕ) : Fin 2 := ⟨h % 2, Nat.mod_lt _ (by decide)⟩

theorem slot_inb (k : Fin 8) (s : Fin 2) :
    ∀ a, (![k.val, s.val, 0, 0] : Fin 4 → ℕ) a + S1x1x48x384.size a ≤ S8x2x48x384.size a := by
  revert k s; decide

theorem cell_inb (k : Fin 8) (s : Fin 2) : ∀ a, (![k.val, s.val] : Fin 2 → ℕ) a + S1x1.size a ≤ S8x2.size a := by
  revert k s; decide

theorem one_inb (k : Fin 8) : ∀ a, (![k.val] : Fin 1 → ℕ) a + S1.size a ≤ S8.size a := by
  revert k; decide

/-- Slot `s` of stream `k`, as a rectangle of a scratch buffer. -/
abbrev slotRect (k : Fin 8) (s : Fin 2) : Rect S8x2x48x384 :=
  Rect.unit (s := S8x2x48x384) ![k.val, s.val, 0, 0] S1x1x48x384.size (slot_inb k s)

/-- The device a stream's tiles are sent to. -/
def dst (d : Dev nD) (k : Fin 8) : Dev nD :=
  match k.val % 2 with
  | 0 => ⟨k0_dev3 d, k0_dev3_lt d⟩
  | _ => ⟨k0_dev4 d, k0_dev4_lt d⟩

/-- The device a stream's tiles come from. -/
def src (d : Dev nD) (k : Fin 8) : Dev nD :=
  match k.val % 2 with
  | 0 => ⟨k0_dev4 d, k0_dev4_lt d⟩
  | _ => ⟨k0_dev3 d, k0_dev3_lt d⟩

/-- Where stream `k`'s tile of the chunk `r` steps up the stream lies in the result. -/
def tileOff (d : Dev nD) (k : Fin 8) (r : Fin 15) : Fin 2 → ℕ :=
  match k with
  | 0 => k0_off3 d (BitVec.ofNat 32 r.val) (BitVec.ofNat 32 (48 * (0 : Fin 2).val))
  | 1 => k0_off4 d (BitVec.ofNat 32 r.val) (BitVec.ofNat 32 (48 * (0 : Fin 2).val))
  | 2 => k0_off3 d (BitVec.ofNat 32 r.val) (BitVec.ofNat 32 (48 * (1 : Fin 2).val))
  | 3 => k0_off4 d (BitVec.ofNat 32 r.val) (BitVec.ofNat 32 (48 * (1 : Fin 2).val))
  | 4 => k0_off5 d (BitVec.ofNat 32 r.val) (BitVec.ofNat 32 (48 * (0 : Fin 2).val))
  | 5 => k0_off6 d (BitVec.ofNat 32 r.val) (BitVec.ofNat 32 (48 * (0 : Fin 2).val))
  | 6 => k0_off5 d (BitVec.ofNat 32 r.val) (BitVec.ofNat 32 (48 * (1 : Fin 2).val))
  | 7 => k0_off6 d (BitVec.ofNat 32 r.val) (BitVec.ofNat 32 (48 * (1 : Fin 2).val))

theorem tileOff_inb (d : Dev nD) (k : Fin 8) (r : Fin 15) :
    ∀ a, tileOff d k r a + S48x384.size a ≤ S1536x1536.size a :=
  match k with
  | 0 => k0_off3_inb d r 0
  | 1 => k0_off4_inb d r 0
  | 2 => k0_off3_inb d r 1
  | 3 => k0_off4_inb d r 1
  | 4 => k0_off5_inb d r 0
  | 5 => k0_off6_inb d r 0
  | 6 => k0_off5_inb d r 1
  | 7 => k0_off6_inb d r 1

/-- Where the tile of stream `k` lies that this device is the one to finish. -/
def ownOff (d : Dev nD) (k : Fin 8) : Fin 2 → ℕ :=
  match k with
  | 0 => k0_off11 d (BitVec.ofNat 32 (48 * (0 : Fin 2).val))
  | 1 => k0_off12 d (BitVec.ofNat 32 (48 * (0 : Fin 2).val))
  | 2 => k0_off11 d (BitVec.ofNat 32 (48 * (1 : Fin 2).val))
  | 3 => k0_off12 d (BitVec.ofNat 32 (48 * (1 : Fin 2).val))
  | 4 => k0_off13 d (BitVec.ofNat 32 (48 * (0 : Fin 2).val))
  | 5 => k0_off14 d (BitVec.ofNat 32 (48 * (0 : Fin 2).val))
  | 6 => k0_off13 d (BitVec.ofNat 32 (48 * (1 : Fin 2).val))
  | 7 => k0_off14 d (BitVec.ofNat 32 (48 * (1 : Fin 2).val))

theorem ownOff_inb (d : Dev nD) (k : Fin 8) :
    ∀ a, ownOff d k a + S48x384.size a ≤ S1536x1536.size a :=
  match k with
  | 0 => k0_off11_inb d 0
  | 1 => k0_off12_inb d 0
  | 2 => k0_off11_inb d 1
  | 3 => k0_off12_inb d 1
  | 4 => k0_off13_inb d 0
  | 5 => k0_off14_inb d 0
  | 6 => k0_off13_inb d 1
  | 7 => k0_off14_inb d 1

/-- The finished entry: the sum through the activation. -/
def act (x : FVec F S48x384 .f32) : FVec F S48x384 .f32 :=
  mulf (mulf (broadcast S48x384 (Scalar.ofBits .f32 0x3F000000#32)) x)
    (addf (broadcast S48x384 (Scalar.ofBits .f32 0x3F800000#32))
      (tanh (mulf (broadcast S48x384 (Scalar.ofBits .f32 0x3F4C422A#32))
        (addf x (mulf (mulf (mulf (broadcast S48x384 (Scalar.ofBits .f32 0x3D372713#32)) x) x) x)))))

/-- A slot's contents as a tile. -/
abbrev tileOf (v : FVec F S1x1x48x384 .f32) : FVec F S48x384 .f32 :=
  shapeCast S48x384 v shapeCasts_S1x1x48x384_S48x384

/-- A tile as a slot's contents. -/
abbrev slotOf (v : FVec F S48x384 .f32) : FVec F S1x1x48x384 .f32 :=
  shapeCast S1x1x48x384 v shapeCasts_S48x384_S1x1x48x384

/-- A chunk of the product. -/
def chunkOf (a : FVec F S96x768 .f32) (b : FVec F S768x1536 .f32) : FVec F S96x1536 .f32 :=
  matmul dot_S96x768_S768x1536_S96x1536_1_0_0_1_n_n none
    (shapeCast S96x768 a shapeCasts_S96x768_S96x768)
    (shapeCast S768x1536 b shapeCasts_S768x1536_S768x1536)
    (constant S96x1536 .f32 0x00000000#32)

/-- A TensorCore's program. -/
abbrev Code (F : FTy → Type) [FloatOps F] : Type 1 := Prog (TpuEff nD τ sig (Elt F) Λ₀ .tc) PUnit

section Steps

variable (arg0 : Memref sig .tc .vmem S1536x768 .f32) (arg1 : Memref sig .tc .vmem S768x1536 .f32)
  (arg2 : Memref sig .tc .vmem S1536x1536 .f32) (arg3 arg4 : Memref sig .tc .vmem S8x2x48x384 .f32)
  (arg5 arg6 : DmaSems sig S8x2) (arg7 : Sems sig S8) (d : Dev nD)

/-- A slot of a scratch buffer, as the tile a copy moves. -/
abbrev slotRef (m : Memref sig .tc .vmem S8x2x48x384 .f32) (k : Fin 8) (s : Fin 2) : Memref sig .tc .vmem S48x384 .f32 :=
  (m.slice (slotRect k s) (fun _ => rfl)).squeeze S48x384 squeezes_S1x1x48x384_S48x384

/-- The semaphore of a slot. -/
abbrev slotSem (m : DmaSems sig S8x2) (k : Fin 8) (s : Fin 2) : DmaSem sig :=
  ((m.slice (Rect.unit (s := S8x2) ![k.val, s.val] S1x1.size (cell_inb k s))).squeeze S_ squeezes_S1x1_S_).sem

/-- A stream's credit semaphore. -/
abbrev creditSem (k : Fin 8) : Sem sig :=
  ((arg7.slice (Rect.unit (s := S8) ![k.val] S1.size (one_inb k))).squeeze S_ squeezes_S1_S_).sem

/-- One chunk of this device's partial product, into the result's rows. -/
def compute (offA offO : Fin 2 → ℕ) (hA : ∀ a, offA a + S96x768.size a ≤ S1536x768.size a)
    (hO : ∀ a, offO a + S96x1536.size a ≤ S1536x1536.size a) (K : Code F) : Code F :=
  .op (β := Vec F S96x768 .f32) (.load arg0 (Rect.unit (s := S1536x768) offA S96x768.size hA).toLoadRect (View.loadsAt_vmem h_S96x768)) fun a =>
  .op (β := Vec F S768x1536 .f32) (.load arg1 (Rect.unit (s := S768x1536) ![0, 0] S768x1536.size inb_S768x1536_S768x1536_0_0).toLoadRect (View.loadsAt_vmem h_S768x1536)) fun b =>
  .op (β := Vec F S96x1536 .f32) (.load arg2 (Rect.unit (s := S1536x1536) offO S96x1536.size hO).toLoadRect (View.loadsAt_vmem h_S96x1536)) fun _ =>
  .op (.store arg2 (Rect.unit (s := S1536x1536) offO S96x1536.size hO) (chunkOf a b) Finset.univ
    (View.stores_vmem_bits_univ h_S96x1536 rfl) (.inl rfl)) fun _ => K

/-- A tile into a send slot (its old contents are read first). -/
def putSend (k : Fin 8) (s : Fin 2) (v : FVec F S48x384 .f32) (K : Code F) : Code F :=
  .op (β := Vec F S1x1x48x384 .f32) (.load arg3 (slotRect k s).toLoadRect (View.loadsAt_vmem h_S1x1x48x384)) fun _ =>
  .op (.store arg3 (slotRect k s) (slotOf v) Finset.univ (View.stores_vmem_bits_univ h_S1x1x48x384 rfl) (.inl rfl)) fun _ => K

/-- A receive slot's tile. -/
def getRecv (k : Fin 8) (s : Fin 2) (K : FVec F S48x384 .f32 → Code F) : Code F :=
  .op (β := Vec F S1x1x48x384 .f32) (.load arg4 (slotRect k s).toLoadRect (View.loadsAt_vmem h_S1x1x48x384)) fun v => K (tileOf v)

/-- A tile of the result. -/
def getOut (off : Fin 2 → ℕ) (h : ∀ a, off a + S48x384.size a ≤ S1536x1536.size a) (K : FVec F S48x384 .f32 → Code F) : Code F :=
  .op (β := Vec F S48x384 .f32) (.load arg2 (Rect.unit (s := S1536x1536) off S48x384.size h).toLoadRect (View.loadsAt_vmem h_S48x384)) K

/-- A tile into the result (its old contents are read first). -/
def putOut (off : Fin 2 → ℕ) (h : ∀ a, off a + S48x384.size a ≤ S1536x1536.size a) (v : FVec F S48x384 .f32) (K : Code F) : Code F :=
  .op (β := Vec F S48x384 .f32) (.load arg2 (Rect.unit (s := S1536x1536) off S48x384.size h).toLoadRect (View.loadsAt_vmem h_S48x384)) fun _ =>
  .op (.store arg2 (Rect.unit (s := S1536x1536) off S48x384.size h) v Finset.univ
    (View.stores_vmem_bits_univ h_S48x384 rfl) (.inl rfl)) fun _ => K

/-- Send hop `h`'s tile. -/
def start (k : Fin 8) (s : Fin 2) (K : Code F) : Code F :=
  .op (.enqueueDma (slotRef arg3 k s) (.remote (Dev.tc (dst d k)) (slotRef arg4 k s) (.dma (slotSem arg5 k s)))
    (.dma (slotSem arg6 k s)) ((View.wordExact_bits rfl).reshape _ _) ((View.wordExact_bits rfl).reshape _ _)
    ⟨⟨rfl, Or.inl rfl⟩, trivial⟩) fun _ => K

/-- Wait until a slot's own copy has left. -/
def waitSend (k : Fin 8) (s : Fin 2) (K : Code F) : Code F :=
  .op (.waitDma2 (slotSem arg5 k s) (slotRef arg4 k s) (slotRef arg3 k s)
    ((View.wordExact_bits rfl).reshape _ _) ((View.wordExact_bits rfl).reshape _ _)) fun _ => K

/-- Wait until a slot has been filled. -/
def waitRecv (k : Fin 8) (s : Fin 2) (K : Code F) : Code F :=
  .op (.waitDma2 (slotSem arg6 k s) (slotRef arg3 k s) (slotRef arg4 k s)
    ((View.wordExact_bits rfl).reshape _ _) ((View.wordExact_bits rfl).reshape _ _)) fun _ => K

/-- Tell the stream's sender that a slot is free again. -/
def credit (k : Fin 8) (K : Code F) : Code F :=
  .op (.semSignal (src d k, Proc.tc) (creditSem arg7 k) (1#32 : BitVec 32).toInt) fun _ => K

/-- Wait for credits. -/
def waitCredit (k : Fin 8) (n : BitVec 32) (K : Code F) : Code F :=
  .op (.semWait (creditSem arg7 k) n.toInt) fun _ => K

/-- What hop `h` of stream `k` sends: at first this device's own tile, then the tile received with this device's own
part added, then — the sum being whole — its activation, and from there on what was received. -/
def stage (k : Fin 8) (h : ℕ) (K : Code F) : Code F :=
  if h0 : h = 0 then
    getOut arg2 (tileOff d k 0) (tileOff_inb d k 0) fun w =>
    putSend arg3 k (par h) (shapeCast S48x384 w shapeCasts_S48x384_S48x384) K
  else if hr : h < 15 then
    getRecv arg4 k (par (h - 1)) fun v =>
    getOut arg2 (tileOff d k ⟨h, hr⟩) (tileOff_inb d k ⟨h, hr⟩) fun w =>
    putSend arg3 k (par h) (addf v (shapeCast S48x384 w shapeCasts_S48x384_S48x384)) K
  else if h = 15 then
    getRecv arg4 k (par (h - 1)) fun v =>
    getOut arg2 (ownOff d k) (ownOff_inb d k) fun w =>
    putOut arg2 (ownOff d k) (ownOff_inb d k) (act (addf v (shapeCast S48x384 w shapeCasts_S48x384_S48x384))) <|
    putSend arg3 k (par h) (act (addf v (shapeCast S48x384 w shapeCasts_S48x384_S48x384))) K
  else
    getRecv arg4 k (par (h - 1)) fun v => putSend arg3 k (par h) v K

/-- A finished tile received at hop `h` goes into the result. -/
def keep (k : Fin 8) (h : ℕ) (K : Code F) : Code F :=
  if hk : 15 ≤ h ∧ h < 30 then
    getRecv arg4 k (par h) fun v =>
    putOut arg2 (tileOff d k ⟨h - 15, by omega⟩) (tileOff_inb d k ⟨h - 15, by omega⟩) v K
  else K

/-- Hop `h` of stream `k`, but for the first. -/
def hop (k : Fin 8) (h : ℕ) (K : Code F) : Code F :=
  (fun K => if 2 ≤ h then waitSend arg3 arg4 arg5 k (par h) K else K) <|
  waitRecv arg3 arg4 arg6 k (par (h - 1)) <|
  keep arg2 arg4 d k (h - 1) <|
  stage arg2 arg3 arg4 d k h <|
  credit arg7 d k <|
  (fun K => if 2 ≤ h then waitCredit arg7 k 1#32 K else K) <|
  start arg3 arg4 arg5 arg6 d k (par h) K

/-- The first hop of stream `k`. -/
def hop0 (k : Fin 8) (K : Code F) : Code F :=
  stage arg2 arg3 arg4 d k 0 <| start arg3 arg4 arg5 arg6 d k (par 0) K

/-- The chunks computed while hop `h` is on its way. -/
def chunks (h : ℕ) (K : Code F) : Code F :=
  (fun K => if hd : 1 ≤ h ∧ h ≤ 8 then
    compute arg0 arg1 arg2 (k0_off7 d (BitVec.ofNat 32 (1 + (⟨h - 1, by omega⟩ : Fin 8).val)))
      (k0_off8 d (BitVec.ofNat 32 (1 + (⟨h - 1, by omega⟩ : Fin 8).val))) (k0_off7_inb d ⟨h - 1, by omega⟩) (k0_off8_inb d ⟨h - 1, by omega⟩) K
    else K) <|
  (fun K => if hu : 1 ≤ h ∧ h ≤ 7 then
    compute arg0 arg1 arg2 (k0_off9 d (BitVec.ofNat 32 (1 + (⟨h - 1, by omega⟩ : Fin 7).val)))
      (k0_off10 d (BitVec.ofNat 32 (1 + (⟨h - 1, by omega⟩ : Fin 7).val))) (k0_off9_inb d ⟨h - 1, by omega⟩) (k0_off10_inb d ⟨h - 1, by omega⟩) K
    else K) K

/-- What stream `k` does after its last hop. -/
def finish (k : Fin 8) (K : Code F) : Code F :=
  waitRecv arg3 arg4 arg6 k (par 29) <|
  keep arg2 arg4 d k 29 <|
  credit arg7 d k <|
  waitSend arg3 arg4 arg5 k (par 28) <|
  waitSend arg3 arg4 arg5 k (par 29) <|
  waitCredit arg7 k 2#32 K

/-- All streams in turn. -/
def each (f : Fin 8 → Code F → Code F) (K : Code F) : Code F :=
  f 0 <| f 1 <| f 2 <| f 3 <| f 4 <| f 5 <| f 6 <| f 7 K

/-- Hop `h` of all streams. -/
def row (h : ℕ) (K : Code F) : Code F :=
  chunks arg0 arg1 arg2 d h <| each (fun k K => hop arg2 arg3 arg4 arg5 arg6 arg7 d k h K) K

/-- `n` hops of all streams, from hop `h` on. -/
def rows : ℕ → ℕ → Code F → Code F
  | 0, _, K => K
  | n + 1, h, K => row arg0 arg1 arg2 arg3 arg4 arg5 arg6 arg7 d h (rows n (h + 1) K)

/-- Both neighbours are told that this device has started, and told by it so. -/
def meet (K : Code F) : Code F :=
  .op (.semSignal ((⟨k0_dev1 d, k0_dev1_lt d⟩ : Dev nD), Proc.tc) (SemArray.scalar (sig.barrier 0 rfl) : Sems sig S_).sem (1#32 : BitVec 32).toInt) fun _ =>
  .op (.semSignal ((⟨k0_dev2 d, k0_dev2_lt d⟩ : Dev nD), Proc.tc) (SemArray.scalar (sig.barrier 0 rfl) : Sems sig S_).sem (1#32 : BitVec 32).toInt) fun _ =>
  .op (.semWait (SemArray.scalar (sig.barrier 0 rfl) : Sems sig S_).sem (2#32 : BitVec 32).toInt) fun _ => K

end Steps

/-- The whole body. -/
def body (arg0 : Memref sig .tc .vmem S1536x768 .f32) (arg1 : Memref sig .tc .vmem S768x1536 .f32)
    (arg2 : Memref sig .tc .vmem S1536x1536 .f32) (arg3 arg4 : Memref sig .tc .vmem S8x2x48x384 .f32)
    (arg5 arg6 : DmaSems sig S8x2) (arg7 : Sems sig S8) : Code F :=
  .op .deviceId fun d =>
  meet d <|
  compute arg0 arg1 arg2 (k0_off1 d) (k0_off2 d) (k0_off1_inb d) (k0_off2_inb d) <|
  each (fun k K => hop0 arg2 arg3 arg4 arg5 arg6 d k K) <|
  rows arg0 arg1 arg2 arg3 arg4 arg5 arg6 arg7 d 29 1 <|
  each (fun k K => finish arg2 arg3 arg4 arg5 arg6 arg7 d k K) <|
  .ret ⟨⟩

end Cert.KernelIdeal.Ring
-- ==== Proof.KernelIdeal.Geo.lean ====
/- The ring the devices form, and where a stream's tiles lie in the result. -/
module

public import proofs.«01_k».proof.Proof.KernelIdeal.Model
public import proofs.«01_k».proof.Proof.Gen.KernelIdeal

@[expose] public section

noncomputable section

namespace Cert.KernelIdeal.Ring

open Idealize.ShloMosaic Idealize.ShloMosaic.TcCoe
open Idealize.SL Idealize.SL.Sem
open Cert.KernelIdeal.Gen

/-- A device's place on the ring. -/
def pos (d : Dev nD) : Fin 16 := (![0, 15, 8, 7, 1, 14, 9, 6, 2, 13, 10, 5, 3, 12, 11, 4] : Fin 16 → Fin 16) d

/-- The device at a place. -/
def ring (p : Fin 16) : Dev nD := (![0, 4, 8, 12, 15, 11, 7, 3, 2, 6, 10, 14, 13, 9, 5, 1] : Fin 16 → Fin 16) p

theorem pos_ring : ∀ p, pos (ring p) = p := by decide
theorem ring_pos : ∀ d, ring (pos d) = d := by decide

/-- The next device and the one before. -/
def nxt (d : Dev nD) : Dev nD := ring (pos d + 1)
def prv (d : Dev nD) : Dev nD := ring (pos d - 1)

theorem nxt_prv : ∀ d, nxt (prv d) = d := by decide
theorem prv_nxt : ∀ d, prv (nxt d) = d := by decide

theorem dev1_eq : ∀ d : Dev nD, (⟨k0_dev1 d, k0_dev1_lt d⟩ : Dev nD) = prv d := by decide +kernel
theorem dev2_eq : ∀ d : Dev nD, (⟨k0_dev2 d, k0_dev2_lt d⟩ : Dev nD) = nxt d := by decide +kernel
theorem dev3_eq : ∀ d : Dev nD, (⟨k0_dev3 d, k0_dev3_lt d⟩ : Dev nD) = nxt d := by decide +kernel
theorem dev4_eq : ∀ d : Dev nD, (⟨k0_dev4 d, k0_dev4_lt d⟩ : Dev nD) = prv d := by decide +kernel

/-- Where a stream's tiles go to and come from. -/
def fro (k : Fin 8) (d : Dev nD) : Dev nD := if k.val % 2 = 0 then nxt d else prv d
def bck (k : Fin 8) (d : Dev nD) : Dev nD := if k.val % 2 = 0 then prv d else nxt d

theorem fro_bck (k : Fin 8) (d : Dev nD) : fro k (bck k d) = d := by
  unfold fro bck; split
  · exact nxt_prv d
  · exact prv_nxt d
theorem bck_fro (k : Fin 8) (d : Dev nD) : bck k (fro k d) = d := by
  unfold fro bck; split
  · exact prv_nxt d
  · exact nxt_prv d

theorem dst_eq (d : Dev nD) (k : Fin 8) : dst d k = fro k d := by
  unfold dst fro
  rcases Nat.mod_two_eq_zero_or_one k.val with h | h
  · rw [h]; exact dev3_eq d
  · rw [h]; exact dev4_eq d
theorem src_eq (d : Dev nD) (k : Fin 8) : src d k = bck k d := by
  unfold src bck
  rcases Nat.mod_two_eq_zero_or_one k.val with h | h
  · rw [h]; exact dev4_eq d
  · rw [h]; exact dev3_eq d

/-- The chunk of the result `r` steps up stream `k` from device `d`. -/
def chunk (d : Dev nD) (k : Fin 8) (r : Fin 16) : Fin 16 := if k.val % 2 = 0 then pos d - r else pos d + r

/-- A stream's rows within a chunk, and its columns. -/
def rowOf (k : Fin 8) : ℕ := 48 * (k.val / 2 % 2)
def colOf (k : Fin 8) : ℕ := 768 * (k.val % 2) + 384 * (k.val / 4)

/-- Where stream `k`'s tile of chunk `q` starts. -/
def tileAt (k : Fin 8) (q : Fin 16) : Fin 2 → ℕ := ![96 * q.val + rowOf k, colOf k]

theorem tileAt_inb (k : Fin 8) (q : Fin 16) : ∀ a, tileAt k q a + S48x384.size a ≤ S1536x1536.size a := by
  have h1 : rowOf k ≤ 48 := by unfold rowOf; omega
  have h2 : colOf k ≤ 1152 := by have := k.isLt; unfold colOf; omega
  have := q.isLt
  intro a; fin_cases a
  · show 96 * q.val + rowOf k + 48 ≤ 1536; omega
  · show colOf k + 384 ≤ 1536; omega

theorem off3_eq : ∀ (d : Dev nD) (r : Fin 15) (b : Fin 2), k0_off3 d (BitVec.ofNat 32 r.val) (BitVec.ofNat 32 (48 * b.val))
    = ![96 * (pos d - r.castSucc : Fin 16).val + 48 * b.val, 0] := by decide +kernel
theorem off4_eq : ∀ (d : Dev nD) (r : Fin 15) (b : Fin 2), k0_off4 d (BitVec.ofNat 32 r.val) (BitVec.ofNat 32 (48 * b.val))
    = ![96 * (pos d + r.castSucc : Fin 16).val + 48 * b.val, 768] := by decide +kernel
theorem off5_eq : ∀ (d : Dev nD) (r : Fin 15) (b : Fin 2), k0_off5 d (BitVec.ofNat 32 r.val) (BitVec.ofNat 32 (48 * b.val))
    = ![96 * (pos d - r.castSucc : Fin 16).val + 48 * b.val, 384] := by decide +kernel
theorem off6_eq : ∀ (d : Dev nD) (r : Fin 15) (b : Fin 2), k0_off6 d (BitVec.ofNat 32 r.val) (BitVec.ofNat 32 (48 * b.val))
    = ![96 * (pos d + r.castSucc : Fin 16).val + 48 * b.val, 1152] := by decide +kernel
theorem off11_eq : ∀ (d : Dev nD) (b : Fin 2), k0_off11 d (BitVec.ofNat 32 (48 * b.val))
    = ![96 * (pos d - 15 : Fin 16).val + 48 * b.val, 0] := by decide +kernel
theorem off12_eq : ∀ (d : Dev nD) (b : Fin 2), k0_off12 d (BitVec.ofNat 32 (48 * b.val))
    = ![96 * (pos d + 15 : Fin 16).val + 48 * b.val, 768] := by decide +kernel
theorem off13_eq : ∀ (d : Dev nD) (b : Fin 2), k0_off13 d (BitVec.ofNat 32 (48 * b.val))
    = ![96 * (pos d - 15 : Fin 16).val + 48 * b.val, 384] := by decide +kernel
theorem off14_eq : ∀ (d : Dev nD) (b : Fin 2), k0_off14 d (BitVec.ofNat 32 (48 * b.val))
    = ![96 * (pos d + 15 : Fin 16).val + 48 * b.val, 1152] := by decide +kernel

theorem tileOff_eq (d : Dev nD) (k : Fin 8) (r : Fin 15) : tileOff d k r = tileAt k (chunk d k r.castSucc) :=
  match k with
  | 0 => off3_eq d r 0
  | 1 => off4_eq d r 0
  | 2 => off3_eq d r 1
  | 3 => off4_eq d r 1
  | 4 => off5_eq d r 0
  | 5 => off6_eq d r 0
  | 6 => off5_eq d r 1
  | 7 => off6_eq d r 1

theorem ownOff_eq (d : Dev nD) (k : Fin 8) : ownOff d k = tileAt k (chunk d k 15) :=
  match k with
  | 0 => off11_eq d 0
  | 1 => off12_eq d 0
  | 2 => off11_eq d 1
  | 3 => off12_eq d 1
  | 4 => off13_eq d 0
  | 5 => off14_eq d 0
  | 6 => off13_eq d 1
  | 7 => off14_eq d 1

/-- Where chunk `q`'s rows start. -/
def rowsAt (q : Fin 16) : Fin 2 → ℕ := ![96 * q.val, 0]

theorem rowsAt_inbA (q : Fin 16) : ∀ a, rowsAt q a + S96x768.size a ≤ S1536x768.size a := by
  have := q.isLt
  intro a; fin_cases a
  · show 96 * q.val + 96 ≤ 1536; omega
  · show 0 + 768 ≤ 768; omega
theorem rowsAt_inbO (q : Fin 16) : ∀ a, rowsAt q a + S96x1536.size a ≤ S1536x1536.size a := by
  have := q.isLt
  intro a; fin_cases a
  · show 96 * q.val + 96 ≤ 1536; omega
  · show 0 + 1536 ≤ 1536; omega

theorem off1_eq : ∀ d : Dev nD, k0_off1 d = rowsAt (pos d) := by decide +kernel
theorem off2_eq : ∀ d : Dev nD, k0_off2 d = rowsAt (pos d) := by decide +kernel
theorem off7_eq : ∀ (d : Dev nD) (r : Fin 8), k0_off7 d (BitVec.ofNat 32 (1 + r.val)) = rowsAt (pos d - ⟨r.val + 1, by omega⟩) := by decide +kernel
theorem off8_eq : ∀ (d : Dev nD) (r : Fin 8), k0_off8 d (BitVec.ofNat 32 (1 + r.val)) = rowsAt (pos d - ⟨r.val + 1, by omega⟩) := by decide +kernel
theorem off9_eq : ∀ (d : Dev nD) (r : Fin 7), k0_off9 d (BitVec.ofNat 32 (1 + r.val)) = rowsAt (pos d + ⟨r.val + 1, by omega⟩) := by decide +kernel
theorem off10_eq : ∀ (d : Dev nD) (r : Fin 7), k0_off10 d (BitVec.ofNat 32 (1 + r.val)) = rowsAt (pos d + ⟨r.val + 1, by omega⟩) := by decide +kernel

end Cert.KernelIdeal.Ring
-- ==== Proof.KernelIdeal.Content.lean ====
/- What the tiles hold at each hop, and the result array while it is being filled. -/
module

public import proofs.«01_k».proof.Proof.KernelIdeal.Geo

@[expose] public section

noncomputable section

namespace Cert.KernelIdeal.Ring

open Idealize.ShloMosaic Idealize.ShloMosaic.TcCoe
open Idealize.SL Idealize.SL.Sem
open Cert.KernelIdeal.Gen

variable {F : FTy → Type} [FloatOps F]

/-- The body's buffers, whole. -/
abbrev aM : Memref sig .tc .vmem S1536x768 .f32 := Memref.whole cc0_stg0_0
abbrev bM : Memref sig .tc .vmem S768x1536 .f32 := Memref.whole cc0_stg1_0
abbrev oM : Memref sig .tc .vmem S1536x1536 .f32 := Memref.whole cc0_stg2_0
abbrev sM : Memref sig .tc .vmem S8x2x48x384 .f32 := Memref.whole cc0_scratch0
abbrev rM : Memref sig .tc .vmem S8x2x48x384 .f32 := Memref.whole cc0_scratch1

/-- The contents of the three windows' buffers. -/
abbrev AC (F : FTy → Type) : Type := (cc0_stg0_0 : Ref sig .tc).ty.Contents (Elt F)
abbrev BC (F : FTy → Type) : Type := (cc0_stg1_0 : Ref sig .tc).ty.Contents (Elt F)
abbrev OC (F : FTy → Type) : Type := (cc0_stg2_0 : Ref sig .tc).ty.Contents (Elt F)

abbrev tileRect (k : Fin 8) (q : Fin 16) : Rect S1536x1536 := Rect.unit (s := S1536x1536) (tileAt k q) S48x384.size (tileAt_inb k q)
abbrev rowsRect (q : Fin 16) : Rect S1536x1536 := Rect.unit (s := S1536x1536) (rowsAt q) S96x1536.size (rowsAt_inbO q)

/-- A tile of the result array. -/
def tileRead (f : OC F) (k : Fin 8) (q : Fin 16) : FVec F S48x384 .f32 :=
  (oM : Memref sig .tc .vmem S1536x1536 .f32).view.readAt (Elt F) (tileRect k q).toLoadRect f

/-- The result array with a tile written. -/
def tileWrite (f : OC F) (k : Fin 8) (q : Fin 16) (v : FVec F S48x384 .f32) : OC F :=
  ((oM : Memref sig .tc .vmem S1536x1536 .f32).access (tileRect k q)).write (Elt F) f v Finset.univ

/-- The result array with a chunk's rows written. -/
def rowsWrite (f : OC F) (q : Fin 16) (v : FVec F S96x1536 .f32) : OC F :=
  ((oM : Memref sig .tc .vmem S1536x1536 .f32).access (rowsRect q)).write (Elt F) f v Finset.univ

theorem tile_in_rows (k : Fin 8) : ∀ a, (![rowOf k, colOf k] : Fin 2 → ℕ) a + S48x384.size a ≤ S96x1536.size a := by
  have h1 : rowOf k ≤ 48 := by unfold rowOf; omega
  have h2 : colOf k ≤ 1152 := by have := k.isLt; unfold colOf; omega
  intro a; fin_cases a
  · show rowOf k + 48 ≤ 96; omega
  · show colOf k + 384 ≤ 1536; omega

/-- A stream's tile within a chunk's rows. -/
abbrev inRows (k : Fin 8) : Rect S96x1536 := Rect.unit (s := S96x1536) ![rowOf k, colOf k] S48x384.size (tile_in_rows k)

omit [FloatOps F] in
theorem tileRead_same (f : OC F) (k : Fin 8) (q : Fin 16) (v : FVec F S48x384 .f32) : tileRead (tileWrite f k q v) k q = v :=
  View.read_write_univ (v := (oM : Memref sig .tc .vmem S1536x1536 .f32).access (tileRect k q)) f v

theorem tiles_apart {k k' : Fin 8} {q q' : Fin 16} (h : ¬ (k = k' ∧ q = q')) : Disjoint (tileRect k q).set (tileRect k' q').set := by
  rw [Finset.disjoint_left]
  intro i h1 h2
  rw [Rect.mem_set_unit] at h1 h2
  have a0 := h1 0; have b0 := h2 0; have a1 := h1 1; have b1 := h2 1
  simp only [tileAt, Matrix.cons_val_zero, Matrix.cons_val_one] at a0 b0 a1 b1
  change _ ∧ _ < _ + 48 at a0 b0
  change _ ∧ _ < _ + 384 at a1 b1
  unfold rowOf at a0 b0; unfold colOf at a1 b1
  apply h
  have hk := k.isLt; have hk' := k'.isLt
  have e1 : k.val % 2 = k'.val % 2 := by omega
  have e2 : k.val / 4 = k'.val / 4 := by omega
  have e3 : q.val = q'.val := by omega
  have e4 : k.val / 2 % 2 = k'.val / 2 % 2 := by omega
  exact ⟨Fin.ext (by omega), Fin.ext e3⟩

theorem set_sub (r : Rect S1536x1536) : ((oM : Memref sig .tc .vmem S1536x1536 .f32).access r).set = r.set := View.set_slice_whole _ _

omit [FloatOps F] in
theorem tileRead_other (f : OC F) {k k' : Fin 8} {q q' : Fin 16} (v : FVec F S48x384 .f32) (h : ¬ (k = k' ∧ q = q')) :
    tileRead (tileWrite f k' q' v) k q = tileRead f k q := by
  unfold tileRead tileWrite
  refine View.read_slice_write_slice_of_disjoint (v := (oM : Memref sig .tc .vmem S1536x1536 .f32).view) (tileRect k q) (tileRect k' q') f v Finset.univ ?_
  have := tiles_apart h
  rw [← set_sub, ← set_sub] at this
  exact this

omit [FloatOps F] in
theorem tileRead_rows (f : OC F) (k : Fin 8) (q : Fin 16) (v : FVec F S96x1536 .f32) :
    tileRead (rowsWrite f q v) k q = fun x => v ((inRows k).emb x) := by
  funext x
  have he : (tileRect k q).emb x = (rowsRect q).emb ((inRows k).emb x) := by
    funext a; apply Fin.ext
    fin_cases a
    · show 96 * q.val + rowOf k + 1 * (x 0).val = 96 * q.val + 1 * (rowOf k + 1 * (x 0).val); omega
    · show colOf k + 1 * (x 1).val = 0 + 1 * (colOf k + 1 * (x 1).val); omega
  show (oM : Memref sig .tc .vmem S1536x1536 .f32).view.read (Elt F) (rowsWrite f q v) ((tileRect k q).emb x) = _
  rw [he]
  exact View.read_slice_write_emb (v := (oM : Memref sig .tc .vmem S1536x1536 .f32).view) (rowsRect q) f v (Finset.mem_univ _)

omit [FloatOps F] in
theorem tileRead_rows_other (f : OC F) {k : Fin 8} {q q' : Fin 16} (v : FVec F S96x1536 .f32) (h : q ≠ q') :
    tileRead (rowsWrite f q' v) k q = tileRead f k q := by
  unfold tileRead rowsWrite
  refine View.read_slice_write_slice_of_disjoint (v := (oM : Memref sig .tc .vmem S1536x1536 .f32).view) (tileRect k q) (rowsRect q') f v Finset.univ ?_
  have hd : Disjoint (tileRect k q).set (rowsRect q').set := by
    rw [Finset.disjoint_left]
    intro i h1 h2
    rw [Rect.mem_set_unit] at h1 h2
    have a0 := h1 0; have b0 := h2 0
    simp only [tileAt, rowsAt, Matrix.cons_val_zero] at a0 b0
    change _ ∧ _ < _ + 48 at a0
    change _ ∧ _ < _ + 96 at b0
    have : rowOf k ≤ 48 := by unfold rowOf; omega
    exact h (Fin.ext (by omega))
  rw [← set_sub, ← set_sub] at hd
  exact hd

section Values

variable (A : Dev nD → AC F) (B : Dev nD → BC F)

/-- Chunk `q` of device `d`'s partial product, -/
def part (d : Dev nD) (q : Fin 16) : FVec F S96x1536 .f32 :=
  chunkOf ((aM : Memref sig .tc .vmem S1536x768 .f32).view.readAt (Elt F) (Rect.unit (s := S1536x768) (rowsAt q) S96x768.size (rowsAt_inbA q)).toLoadRect (A d))
    ((bM : Memref sig .tc .vmem S768x1536 .f32).view.readAt (Elt F) (Rect.unit (s := S768x1536) ![0, 0] S768x1536.size inb_S768x1536_S768x1536_0_0).toLoadRect (B d))

/-- and a stream's tile of it. -/
def ptile (d : Dev nD) (k : Fin 8) (q : Fin 16) : FVec F S48x384 .f32 := fun x => part A B d q ((inRows k).emb x)

/-- The tile device `d` sends on stream `k` at hop `h`. -/
def val : ℕ → Dev nD → Fin 8 → FVec F S48x384 .f32
  | 0, d, k => shapeCast S48x384 (ptile A B d k (chunk d k 0)) shapeCasts_S48x384_S48x384
  | h + 1, d, k =>
    if hr : h + 1 < 15 then
      addf (val h (bck k d) k) (shapeCast S48x384 (ptile A B d k (chunk d k ⟨h + 1, by omega⟩)) shapeCasts_S48x384_S48x384)
    else if h + 1 = 15 then
      act (addf (val h (bck k d) k) (shapeCast S48x384 (ptile A B d k (chunk d k 15)) shapeCasts_S48x384_S48x384))
    else val h (bck k d) k

/-- The finished tile of the chunk `r` steps up stream `k`. -/
def fin (d : Dev nD) (k : Fin 8) (r : Fin 16) : FVec F S48x384 .f32 :=
  if r = 15 then val A B 15 d k else val A B (r.val + 15) (bck k d) k

/-- Whether the tile `r` steps up has been finished after `n` hops of its stream. -/
def done (r : Fin 16) (n : ℕ) : Prop := if r = 15 then 16 ≤ n else r.val + 17 ≤ n

/-- The result array on device `d` after `n k` hops of each stream `k`, the chunks in `C` computed. -/
def Good (d : Dev nD) (C : Fin 16 → Prop) (n : Fin 8 → ℕ) (f : OC F) : Prop :=
  ∀ k r, (done r (n k) → tileRead f k (chunk d k r) = fin A B d k r)
    ∧ (¬ done r (n k) → C (chunk d k r) → tileRead f k (chunk d k r) = ptile A B d k (chunk d k r))

theorem chunk_inj (d : Dev nD) (k : Fin 8) {r r' : Fin 16} (h : chunk d k r = chunk d k r') : r = r' := by
  have h1 : ∀ p r r' : Fin 16, p - r = p - r' → r = r' := by decide +kernel
  have h2 : ∀ p r r' : Fin 16, p + r = p + r' → r = r' := by decide +kernel
  unfold chunk at h; split at h
  · exact h1 _ _ _ h
  · exact h2 _ _ _ h

variable {A B}

/-- A chunk computed. -/
theorem Good.rows {d : Dev nD} {C : Fin 16 → Prop} {n : Fin 8 → ℕ} {f : OC F} (h : Good A B d C n f) (q : Fin 16) (hn : ∀ k, n k < 16) :
    Good A B d (fun p => C p ∨ p = q) n (rowsWrite f q (part A B d q)) := by
  intro k r
  have hd : ¬ done r (n k) := by have := hn k; unfold done; split <;> omega
  refine ⟨fun h' => absurd h' hd, fun _ hC => ?_⟩
  by_cases hq : chunk d k r = q
  · rw [hq, tileRead_rows]; rfl
  · rw [tileRead_rows_other _ _ hq]; exact (h k r).2 hd (hC.resolve_right hq)

theorem Good.mono {d : Dev nD} {C C' : Fin 16 → Prop} {n : Fin 8 → ℕ} {f : OC F} (h : Good A B d C n f) (hC : ∀ q, C' q → C q) :
    Good A B d C' n f := fun k r => ⟨(h k r).1, fun h1 h2 => (h k r).2 h1 (hC _ h2)⟩

/-- A hop that finishes no tile. -/
theorem Good.skip {d : Dev nD} {C : Fin 16 → Prop} {n : Fin 8 → ℕ} {f : OC F} (h : Good A B d C n f) (k : Fin 8)
    (hk : ∀ r, done r (n k + 1) → done r (n k)) : Good A B d C (Function.update n k (n k + 1)) f := by
  intro k' r
  by_cases e : k' = k
  · subst e; rw [Function.update_self]
    exact ⟨fun h' => (h k' r).1 (hk r h'), fun h' => (h k' r).2 fun h'' => h' (by unfold done at h'' ⊢; split <;> simp_all <;> omega)⟩
  · rw [Function.update_of_ne e]; exact h k' r

/-- A hop that finishes one. -/
theorem Good.put {d : Dev nD} {C : Fin 16 → Prop} {n : Fin 8 → ℕ} {f : OC F} (h : Good A B d C n f) (k : Fin 8) (r : Fin 16)
    (hk : ∀ r', done r' (n k + 1) → r' = r ∨ done r' (n k)) (hr : done r (n k + 1)) :
    Good A B d C (Function.update n k (n k + 1)) (tileWrite f k (chunk d k r) (fin A B d k r)) := by
  intro k' r'
  by_cases e : k' = k
  · subst e; rw [Function.update_self]
    by_cases er : r' = r
    · subst er; exact ⟨fun _ => tileRead_same _ _ _ _, fun h' => absurd hr h'⟩
    · have hne : ¬ (k' = k' ∧ chunk d k' r' = chunk d k' r) := fun ⟨_, h2⟩ => er (chunk_inj d k' h2)
      rw [tileRead_other _ _ hne]
      exact ⟨fun h' => (h k' r').1 ((hk r' h').resolve_left er), fun h' => (h k' r').2 fun h'' => h' (by unfold done at h'' ⊢; split <;> simp_all <;> omega)⟩
  · have hne : ¬ (k' = k ∧ chunk d k' r' = chunk d k r) := fun ⟨h1, _⟩ => e h1
    rw [Function.update_of_ne e, tileRead_other _ _ hne]; exact h k' r'

/-- The chunks computed by hop `h`. -/
def Got (d : Dev nD) (h : ℕ) (q : Fin 16) : Prop := ∃ j : Fin 9, j.val ≤ h ∧ (q = pos d - j.castLE (by decide) ∨ q = pos d + j.castLE (by decide))

theorem got_chunk (d : Dev nD) (k : Fin 8) (r : Fin 16) : Got d r.val (chunk d k r) := by
  have h1 : ∀ p r : Fin 16, ∃ j : Fin 9, j.val ≤ r.val ∧ (p - r = p - j.castLE (by decide) ∨ p - r = p + j.castLE (by decide)) := by decide
  have h2 : ∀ p r : Fin 16, ∃ j : Fin 9, j.val ≤ r.val ∧ (p + r = p - j.castLE (by decide) ∨ p + r = p + j.castLE (by decide)) := by decide
  unfold Got chunk; split
  · exact h1 _ _
  · exact h2 _ _

end Values

end Cert.KernelIdeal.Ring
-- ==== Proof.KernelIdeal.Proto.lean ====
/- The protocol of the ring: which semaphore of which device pays for what, in what order, and what each payment carries. -/
module

public import proofs.«01_k».proof.Proof.KernelIdeal.Content
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-! ## Ghost state -/

/-- A receive slot of a device. -/
abbrev Key : Type := Dev nD × Fin 8 × Fin 2

abbrev UB : Type := URounds (GSem nD τ sig) ℕ
abbrev UC : Type := UB × USlots Key
abbrev UU : Type := UR sig nD τ × UC

local notation "𝕄" => MT nD τ sig ℕ (Elt F) ℕ UU ℕ

abbrev EP : Emb (UR sig nD τ) (MT nD τ sig ℕ (Elt F) ℕ UU ℕ) := embL
abbrev EC : Emb UC (MT nD τ sig ℕ (Elt F) ℕ UU ℕ) := embR

def ER : Emb UB (MT nD τ sig ℕ (Elt F) ℕ UU ℕ) := (Emb.inl : Emb UB UC).trans EC
def ES : Emb (USlots Key) (MT nD τ sig ℕ (Elt F) ℕ UU ℕ) := (Emb.inr : Emb (USlots Key) UC).trans EC

instance ER_landsIn : (ER : Emb UB 𝕄).LandsIn (upEmb : UEmb _ 𝕄) := by unfold ER; infer_instance
instance ES_landsIn : (ES : Emb (USlots Key) 𝕄).LandsIn (upEmb : UEmb _ 𝕄) := by unfold ES; infer_instance

/-! ## Cells -/

/-- A device's cells: sends, receives, credits, and the neighbours' signal. -/
abbrev CK : Type := ((Fin 8 × Fin 2) ⊕ (Fin 8 × Fin 2)) ⊕ (Fin 8 ⊕ Unit)

abbrev sendS (k : Fin 8) (s : Fin 2) : DmaSem sig := slotSem cc0_scratch2 k s
abbrev recvS (k : Fin 8) (s : Fin 2) : DmaSem sig := slotSem cc0_scratch3 k s
abbrev credS (k : Fin 8) : Sem sig := creditSem cc0_scratch4 k
abbrev barS : Sem sig := (SemArray.scalar (sig.barrier 0 rfl) : Sems sig S_).sem

abbrev kSend (k : Fin 8) (s : Fin 2) : CK := .inl (.inl (k, s))
abbrev kRecv (k : Fin 8) (s : Fin 2) : CK := .inl (.inr (k, s))
abbrev kCred (k : Fin 8) : CK := .inr (.inl k)
abbrev kBar : CK := .inr (.inr ())

def csem : CK → SemLoc sig
  | .inl (.inl x) => .dma (sendS x.1 x.2)
  | .inl (.inr x) => .dma (recvS x.1 x.2)
  | .inr (.inl k) => .reg (credS k)
  | .inr (.inr _) => .reg barS

theorem csem_inj : Function.Injective csem := by
  have : ∀ x y : CK, csem x = csem y → x = y := by decide +kernel
  exact fun x y h => this x y h

abbrev kcell (x : Dev nD × CK) : GSem nD τ sig := ((x.1 : Thread nD τ), csem x.2)
abbrev sendCell (c : Dev nD) (k : Fin 8) (s : Fin 2) : GSem nD τ sig := ((c : Thread nD τ), .dma (sendS k s))
abbrev recvCell (c : Dev nD) (k : Fin 8) (s : Fin 2) : GSem nD τ sig := ((c : Thread nD τ), .dma (recvS k s))
abbrev credCell (c : Dev nD) (k : Fin 8) : GSem nD τ sig := ((c : Thread nD τ), .reg (credS k))
abbrev barCell (c : Dev nD) : GSem nD τ sig := ((c : Thread nD τ), .reg barS)

/-- Which of the ring's cells a semaphore of the machine is, if any. -/
def kindOf (g : GSem nD τ sig) : Option CK := if g.1.2 = .tc then Function.partialInv csem g.2 else none

theorem kindOf_kcell (c : Dev nD) (x : CK) : kindOf (kcell (c, x)) = some x :=
  (if_pos rfl).trans (Function.partialInv_left csem_inj x)
theorem kind_send (c : Dev nD) (k : Fin 8) (s : Fin 2) : kindOf (sendCell c k s) = some (kSend k s) := kindOf_kcell c (kSend k s)
theorem kind_recv (c : Dev nD) (k : Fin 8) (s : Fin 2) : kindOf (recvCell c k s) = some (kRecv k s) := kindOf_kcell c (kRecv k s)
theorem kind_cred (c : Dev nD) (k : Fin 8) : kindOf (credCell c k) = some (kCred k) := kindOf_kcell c (kCred k)
theorem kind_bar (c : Dev nD) : kindOf (barCell c) = some kBar := kindOf_kcell c kBar

/-- What one tile's copy counts. -/
abbrev N : ℕ := (slotRef rM 0 0).view.dmaCredit

theorem N_pos : 0 < N := View.dmaCredit_pos _ (by decide)

/-! ## Slots -/

abbrev sloc (m : Memref sig .tc .vmem S8x2x48x384 .f32) (c : Dev nD) (k : Fin 8) (s : Fin 2) : Loc nD τ sig :=
  (slotRef m k s).view.loc (c : Thread nD τ)

/-- A slot holding a tile, -/
def hold (m : Memref sig .tc .vmem S8x2x48x384 .f32) (c : Dev nD) (k : Fin 8) (s : Fin 2) (v : FVec F S48x384 .f32) : sProp 𝕄 :=
  iprop(∃ f : Buf (Elt F) (sloc m c k s), ⌜(slotRef m k s).view.read (Elt F) f = v⌝ ∗ sloc m c k s ↦[(slotRef m k s).view.set]{fullShare} f)

/-- and one holding anything. -/
abbrev free (m : Memref sig .tc .vmem S8x2x48x384 .f32) (c : Dev nD) (k : Fin 8) (s : Fin 2) : sProp 𝕄 :=
  slot (sloc m c k s) (slotRef m k s).view.set

instance hold_storable (m : Memref sig .tc .vmem S8x2x48x384 .f32) (c : Dev nD) (k : Fin 8) (s : Fin 2) (v : FVec F S48x384 .f32) :
    Storable (upEmb : UEmb _ 𝕄) (hold m c k s v) := by unfold hold; infer_instance

omit [FloatOps F] in
theorem hold_free (m : Memref sig .tc .vmem S8x2x48x384 .f32) (c : Dev nD) (k : Fin 8) (s : Fin 2) (v : FVec F S48x384 .f32) :
    hold m c k s v ⊢ free (F := F) m c k s := by
  unfold hold free slot
  iintro ⟨%f, -, H⟩
  iexists f; iexact H

/-- The slot hop `h` on stream `k` fills on device `c` is free for it, and device `c` waits for that hop. -/
def free1 (c : Dev nD) (k : Fin 8) (h : ℕ) : sProp 𝕄 :=
  iprop(released ES (c, k, par h) (h / 2 + 1) ∗ reached ER (recvCell c k (par h)) (h / 2))

/-- The slots of the hops below `n`. -/
def ready (c : Dev nD) (k : Fin 8) (n : ℕ) : sProp 𝕄 := bigSep (Finset.range n) (free1 c k)

instance free1_persistent (c : Dev nD) (k : Fin 8) (h : ℕ) : BI.Persistent (free1 (F := F) c k h) := by unfold free1; infer_instance
instance free1_storable (c : Dev nD) (k : Fin 8) (h : ℕ) : Storable (upEmb : UEmb _ 𝕄) (free1 (F := F) c k h) := by unfold free1; infer_instance
instance ready_persistent (c : Dev nD) (k : Fin 8) (n : ℕ) : BI.Persistent (ready (F := F) c k n) := by unfold ready; infer_instance
instance ready_storable (c : Dev nD) (k : Fin 8) (n : ℕ) : Storable (upEmb : UEmb _ 𝕄) (ready (F := F) c k n) := by unfold ready; infer_instance

omit [FloatOps F] in
theorem ready_at (c : Dev nD) (k : Fin 8) {n h : ℕ} (hh : h < n) : ready (F := F) c k n ⊢ free1 c k h :=
  bigSep_elim (Finset.mem_range.mpr hh)

omit [FloatOps F] in
theorem ready_mono (c : Dev nD) (k : Fin 8) {n n' : ℕ} (h : n ≤ n') : ready (F := F) c k n' ⊢ ready c k n :=
  bigSep_subset (Finset.range_mono h)

omit [FloatOps F] in
theorem ready_succ (c : Dev nD) (k : Fin 8) (n : ℕ) : ready (F := F) c k (n + 1) = iprop(free1 c k n ∗ ready c k n) := by
  unfold ready; rw [Finset.range_add_one, bigSep_insert Finset.notMem_range_self]; rfl

/-! ## The schedule -/

section Schedule

variable (A : Dev nD → AC F) (B : Dev nD → BC F)

def pay (c : Dev nD) (r d : ℕ) : Option CK → sProp 𝕄
  | some (.inl (.inl (k, s))) => free sM c k s
  | some (.inl (.inr (k, s))) => hold rM c k s (val A B (2 * r + s.val) (bck k c) k)
  | some (.inr (.inl k)) => ready (fro k c) k (min (d + 2) 30)
  | some (.inr (.inr _)) => bigSep Finset.univ fun k : Fin 8 => ready (if d = 0 then nxt c else prv c) k 2
  | none => iprop(emp)

instance pay_storable (c : Dev nD) (r d : ℕ) (x : Option CK) : Storable (upEmb : UEmb _ 𝕄) (pay A B c r d x) := by
  rcases x with - | ((⟨k, s⟩ | ⟨k, s⟩) | (k | u)) <;> (unfold pay; infer_instance)

def duty (r : ℕ) : Option CK → Finset ℕ
  | some (.inl _) => if r < 15 then {0} else ∅
  | some (.inr (.inl _)) => if r = 0 then Finset.Icc 1 30 else ∅
  | some (.inr (.inr _)) => if r = 0 then {0, 1} else ∅
  | none => ∅

def amt : Option CK → ℕ
  | some (.inl _) => N
  | _ => 1

def Rd : Schedule (GSem nD τ sig) ℕ 𝕄 where
  duties g r := duty r (kindOf g)
  unitless _ := False
  amount g _ _ := amt (kindOf g)
  payload g r d := pay A B g.1.1 r d (kindOf g)
  amount_pos g _ _ _ := by
    rcases kindOf g with - | (x | x)
    · exact Nat.one_pos
    · exact N_pos
    · exact Nat.one_pos

instance Rd_storable (g : GSem nD τ sig) (r d : ℕ) : Storable (upEmb : UEmb _ 𝕄) ((Rd A B).payload g r d) := pay_storable A B _ _ _ _

variable (c : Dev nD) (k : Fin 8) (s : Fin 2)

theorem duties_send {r : ℕ} (h : r < 15) : (Rd A B).duties (sendCell c k s) r = {0} := by
  show duty r (kindOf _) = _; rw [kind_send]; exact if_pos h
theorem duties_recv {r : ℕ} (h : r < 15) : (Rd A B).duties (recvCell c k s) r = {0} := by
  show duty r (kindOf _) = _; rw [kind_recv]; exact if_pos h
theorem duties_cred : (Rd A B).duties (credCell c k) 0 = Finset.Icc 1 30 := by
  show duty 0 (kindOf _) = _; rw [kind_cred]; rfl
theorem duties_bar : (Rd A B).duties (barCell c) 0 = {0, 1} := by
  show duty 0 (kindOf _) = _; rw [kind_bar]; rfl
theorem duties_send_later : ∀ r, 15 ≤ r → (Rd A B).duties (sendCell c k s) r = ∅ := fun r hr => by
  show duty r (kindOf _) = _; rw [kind_send]; exact if_neg (by omega)
theorem duties_recv_later : ∀ r, 15 ≤ r → (Rd A B).duties (recvCell c k s) r = ∅ := fun r hr => by
  show duty r (kindOf _) = _; rw [kind_recv]; exact if_neg (by omega)
theorem duties_cred_later : ∀ r, 1 ≤ r → (Rd A B).duties (credCell c k) r = ∅ := fun r hr => by
  show duty r (kindOf _) = _; rw [kind_cred]; exact if_neg (by omega)
theorem duties_bar_later : ∀ r, 1 ≤ r → (Rd A B).duties (barCell c) r = ∅ := fun r hr => by
  show duty r (kindOf _) = _; rw [kind_bar]; exact if_neg (by omega)

theorem amount_send (r d : ℕ) : (Rd A B).amount (sendCell c k s) r d = N := by show amt (kindOf _) = _; rw [kind_send]; rfl
theorem amount_recv (r d : ℕ) : (Rd A B).amount (recvCell c k s) r d = N := by show amt (kindOf _) = _; rw [kind_recv]; rfl
theorem amount_cred (r d : ℕ) : (Rd A B).amount (credCell c k) r d = 1 := by show amt (kindOf _) = _; rw [kind_cred]; rfl
theorem amount_bar (r d : ℕ) : (Rd A B).amount (barCell c) r d = 1 := by show amt (kindOf _) = _; rw [kind_bar]; rfl

theorem payload_send (r d : ℕ) : (Rd A B).payload (sendCell c k s) r d = free sM c k s := by show pay A B c r d (kindOf _) = _; rw [kind_send]; rfl
theorem payload_recv (r d : ℕ) : (Rd A B).payload (recvCell c k s) r d = hold rM c k s (val A B (2 * r + s.val) (bck k c) k) := by
  show pay A B c r d (kindOf _) = _; rw [kind_recv]; rfl
theorem payload_cred (r d : ℕ) : (Rd A B).payload (credCell c k) r d = ready (fro k c) k (min (d + 2) 30) := by
  show pay A B c r d (kindOf _) = _; rw [kind_cred]; rfl
theorem payload_bar (r d : ℕ) : (Rd A B).payload (barCell c) r d
    = bigSep Finset.univ fun k : Fin 8 => ready (if d = 0 then nxt c else prv c) k 2 := by
  show pay A B c r d (kindOf _) = _; rw [kind_bar]; rfl

theorem expect_send {r : ℕ} (h : r < 15) : (Rd A B).expect (sendCell c k s) r = N := by
  unfold Schedule.expect Schedule.amountOf; rw [duties_send A B c k s h, Finset.sum_singleton, amount_send]
theorem expect_recv {r : ℕ} (h : r < 15) : (Rd A B).expect (recvCell c k s) r = N := by
  unfold Schedule.expect Schedule.amountOf; rw [duties_recv A B c k s h, Finset.sum_singleton, amount_recv]
theorem expect_cred : (Rd A B).expect (credCell c k) 0 = 30 := by
  unfold Schedule.expect Schedule.amountOf
  rw [duties_cred, Finset.sum_congr rfl fun d _ => amount_cred A B c k 0 d, Finset.sum_const]; rfl
theorem expect_bar : (Rd A B).expect (barCell c) 0 = 2 := by
  unfold Schedule.expect Schedule.amountOf
  rw [duties_bar, Finset.sum_congr rfl fun d _ => amount_bar A B c 0 d, Finset.sum_const]; rfl

end Schedule

/-! ## What is owed, and the levels -/

theorem ico_step {a b : ℕ} (h : a < b) : Finset.Ico a b = insert a (Finset.Ico (a + 1) b) := by
  ext x; simp only [Finset.mem_Ico, Finset.mem_insert]; omega
theorem ico_not {a b : ℕ} : a ∉ Finset.Ico (a + 1) b := by simp only [Finset.mem_Ico]; omega

/-- What stream `k` of device `c` still owes before its hop `n`. -/
def owedT (c : Dev nD) (k : Fin 8) (n : ℕ) : CellTallies nD τ sig ℕ :=
  (∑ h ∈ Finset.Ico n 30, tallyAt (recvCell (fro k c) k (par h)) h N) + ∑ d ∈ Finset.Ico (max n 1) 31, tallyAt (credCell (bck k c) k) d 1

/-- What all streams owe together. -/
def owedAll (c : Dev nD) (n : Fin 8 → ℕ) : CellTallies nD τ sig ℕ := ∑ k, owedT c k (n k)

/-- What a device owes at the start. -/
def O₀ (c : Dev nD) : CellTallies nD τ sig ℕ :=
  owedAll c (fun _ => 0) + tallyAt (barCell (nxt c)) 0 1 + tallyAt (barCell (prv c)) 0 1

def L (g : GSem nD τ sig) : Finset ℕ := if g.1.2 = .tc then Finset.range 31 else ∅

/-- The order of the waits: the neighbours' signal, then hop by hop; the last credits stream by stream. -/
def lvK (i : ℕ) : Option CK → ℕ
  | some (.inl (.inr _)) => i + 2
  | some (.inr (.inl k)) => if i = 30 then 32 + k.val else i + 2
  | some (.inr (.inr _)) => 1
  | _ => 0

def lv (g : GSem nD τ sig) (i : ℕ) : ℕ := lvK i (kindOf g)

theorem L_tc (c : Dev nD) (sm : SemLoc sig) : L ((c : Thread nD τ), sm) = Finset.range 31 := if_pos rfl
theorem L_of_ne (g : GSem nD τ sig) (h : g.1.2 ≠ .tc) : L g = ∅ := if_neg h

theorem lv_send (c : Dev nD) (k : Fin 8) (s : Fin 2) (i : ℕ) : lv (sendCell c k s) i = 0 := by unfold lv; rw [kind_send]; rfl
theorem lv_recv (c : Dev nD) (k : Fin 8) (s : Fin 2) (i : ℕ) : lv (recvCell c k s) i = i + 2 := by unfold lv; rw [kind_recv]; rfl
theorem lv_cred (c : Dev nD) (k : Fin 8) (i : ℕ) : lv (credCell c k) i = if i = 30 then 32 + k.val else i + 2 := by unfold lv; rw [kind_cred]; rfl
theorem lv_bar (c : Dev nD) (i : ℕ) : lv (barCell c) i = 1 := by unfold lv; rw [kind_bar]; rfl

/-- Everything owed lies at level `ℓ` or above. -/
def Above (ℓ : ℕ) (O : CellTallies nD τ sig ℕ) : Prop := ∀ g i, 0 < O g i → i ∈ L g ∧ ℓ ≤ lv g i

theorem Above.zero (ℓ : ℕ) : Above ℓ 0 := fun _ _ h => absurd h (Nat.lt_irrefl 0)

theorem Above.mono {ℓ ℓ' : ℕ} (h : ℓ' ≤ ℓ) {O : CellTallies nD τ sig ℕ} (hO : Above ℓ O) : Above ℓ' O :=
  fun g i hg => ⟨(hO g i hg).1, h.trans (hO g i hg).2⟩

theorem Above.add {ℓ : ℕ} {O O' : CellTallies nD τ sig ℕ} (h : Above ℓ O) (h' : Above ℓ O') : Above ℓ (O + O') := by
  intro g i hg
  rw [Pi.add_apply, Finsupp.add_apply] at hg
  rcases Nat.eq_zero_or_pos (O g i) with e | e
  · rw [e, Nat.zero_add] at hg; exact h' g i hg
  · exact h g i e

theorem Above.sum {ι : Type} {ℓ : ℕ} (S : Finset ι) {O : ι → CellTallies nD τ sig ℕ} (h : ∀ j ∈ S, Above ℓ (O j)) : Above ℓ (∑ j ∈ S, O j) := by
  classical
  induction S using Finset.induction_on with
  | empty => rw [Finset.sum_empty]; exact Above.zero ℓ
  | insert j S hj ih =>
    rw [Finset.sum_insert hj]
    exact (h j (Finset.mem_insert_self _ _)).add (ih fun j' hj' => h j' (Finset.mem_insert_of_mem hj'))

theorem Above.tally {ℓ : ℕ} {g : GSem nD τ sig} {i n : ℕ} (hL : i ∈ L g) (hl : ℓ ≤ lv g i) : Above ℓ (tallyAt g i n) := by
  intro g' i' hg
  rw [tallyAt_apply] at hg
  by_cases e : g' = g ∧ i' = i
  · rw [e.1, e.2]; exact ⟨hL, hl⟩
  · rw [if_neg e] at hg; exact absurd hg (Nat.lt_irrefl 0)

theorem above_owedT (c : Dev nD) (k : Fin 8) (n : ℕ) : Above (n + 2) (owedT c k n) := by
  refine Above.add (Above.sum _ fun h hh => Above.tally ?_ ?_) (Above.sum _ fun d hd => Above.tally ?_ ?_)
  · rw [L_tc]; have := Finset.mem_Ico.mp hh; exact Finset.mem_range.mpr (by omega)
  · rw [lv_recv]; have := Finset.mem_Ico.mp hh; omega
  · rw [L_tc]; have := Finset.mem_Ico.mp hd; exact Finset.mem_range.mpr (by omega)
  · rw [lv_cred]; have := Finset.mem_Ico.mp hd; split <;> omega

/-- The last credit of a stream. -/
theorem owedT_30 (c : Dev nD) (k : Fin 8) : owedT c k 30 = tallyAt (credCell (bck k c) k) 30 1 := by
  unfold owedT; rw [Finset.Ico_self, Finset.sum_empty, zero_add]
  rw [show Finset.Ico (max 30 1) 31 = {30} from rfl, Finset.sum_singleton]
theorem owedT_31 (c : Dev nD) (k : Fin 8) : owedT c k 31 = 0 := by
  unfold owedT; rw [Finset.Ico_eq_empty (by omega), Finset.Ico_eq_empty (by omega), Finset.sum_empty, Finset.sum_empty, add_zero]

theorem owedT_0 (c : Dev nD) (k : Fin 8) : owedT c k 0 = owedT c k 1 + tallyAt (recvCell (fro k c) k (par 0)) 0 N := by
  unfold owedT
  rw [ico_step (by omega : 0 < 30), Finset.sum_insert ico_not]
  rw [show max 0 1 = max 1 1 from rfl]; ac_rfl

theorem owedT_hop (c : Dev nD) (k : Fin 8) {h : ℕ} (h1 : 1 ≤ h) (h2 : h < 30) :
    owedT c k h = owedT c k (h + 1) + tallyAt (recvCell (fro k c) k (par h)) h N + tallyAt (credCell (bck k c) k) h 1 := by
  unfold owedT
  rw [ico_step (by omega : h < 30), Finset.sum_insert ico_not, show max h 1 = h by omega, show max (h + 1) 1 = h + 1 by omega,
    ico_step (by omega : h < 31), Finset.sum_insert ico_not]
  ac_rfl

/-- One stream's part of what is owed. -/
theorem owedAll_at (c : Dev nD) (n : Fin 8 → ℕ) (k : Fin 8) :
    owedAll c n = (∑ k' ∈ Finset.univ.erase k, owedT c k' (n k')) + owedT c k (n k) := by
  unfold owedAll; rw [← Finset.sum_erase_add _ _ (Finset.mem_univ k)]

theorem owedAll_update (c : Dev nD) (n : Fin 8 → ℕ) (k : Fin 8) (x : ℕ) :
    owedAll c (Function.update n k x) = (∑ k' ∈ Finset.univ.erase k, owedT c k' (n k')) + owedT c k x := by
  rw [owedAll_at c _ k, Function.update_self]
  congr 1
  exact Finset.sum_congr rfl fun k' hk' => by rw [Function.update_of_ne (Finset.ne_of_mem_erase hk')]

omit [FloatOps F] in
/-- A wait below everything owed. -/
theorem may_wait {c : Dev nD} {sm : SemLoc sig} {i : ℕ} {O : CellTallies nD τ sig ℕ} (hi : i < 31) {ℓ : ℕ} (hl : lv ((c : Thread nD τ), sm) i < ℓ)
    (hO : Above ℓ O) : (levAts L lv : sProp 𝕄) ⊢ MayWait (c : Thread nD τ) sm i O :=
  Pipeline.mayWait_of_levAts (by rw [L_tc]; exact Finset.mem_range.mpr hi) fun g j hg => ⟨(hO g j hg).1, lt_of_lt_of_le hl (hO g j hg).2⟩

end Cert.KernelIdeal.Ring
-- ==== Proof.KernelIdeal.Steps.lean ====
/- The steps of the kernel, each as a rule: what it needs and what it leaves. -/
module

public import proofs.«01_k».proof.Proof.KernelIdeal.Proto
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

abbrev 𝒱₀ : Variants := Variants.none

/-- Device `c` runs a program to a postcondition. -/
abbrev wpc (c : Dev nD) (p : Code F) (Q : PUnit → sProp 𝕄) : sProp 𝕄 :=
  wp frame (wpE (defs₀ (F := F)) 𝒱₀ (c : Thread nD τ) none) Set.univ p Q

/-- What device `c` owes, whatever it has waited for. -/
def ow (c : Dev nD) (O : CellTallies nD τ sig ℕ) : sProp 𝕄 := iprop(∃ W, owes (c : Thread nD τ) O W)

variable (A : Dev nD → AC F) (B : Dev nD → BC F) (K : Dev nD × CK → ℕ) (Ks : Key → ℕ)

/-- The levels' record. -/
@[irreducible] def levs : sProp 𝕄 := levAts L lv
instance levs_persistent : BI.Persistent (levs (F := F)) := by unfold levs; infer_instance

omit [FloatOps F] in
theorem levs_wait {c : Dev nD} {sm : SemLoc sig} {i : ℕ} {O : CellTallies nD τ sig ℕ} (hi : i < 31) {ℓ : ℕ} (hl : lv ((c : Thread nD τ), sm) i < ℓ)
    (hO : Above ℓ O) : (levs (F := F)) ⊢ MayWait (c : Thread nD τ) sm i O := by
  unfold levs; exact may_wait hi hl hO

/-- What every device knows of every cell and every slot. -/
def records : sProp 𝕄 :=
  iprop((bigSep Finset.univ fun x : Dev nD × CK => cellInv ER (Rd A B) (K x) (kcell x))
    ∗ (bigSep Finset.univ fun x : Dev nD × CK => reached ER (kcell x) 0)
    ∗ (bigSep Finset.univ fun y : Key => slotInv ES (Ks y) y (free rM y.1 y.2.1 y.2.2))
    ∗ levs)

instance records_persistent : BI.Persistent (records A B K Ks) := by unfold records; infer_instance

theorem records_cell (x : Dev nD × CK) : records A B K Ks ⊢ cellInv ER (Rd A B) (K x) (kcell x) := by
  have h : (bigSep Finset.univ fun x : Dev nD × CK => cellInv ER (Rd A B) (K x) (kcell x)) ⊢ cellInv ER (Rd A B) (K x) (kcell x) :=
    bigSep_elim (Finset.mem_univ x)
  unfold records; iintro ⟨H, -, -, -⟩; iapply h; iexact H
theorem records_zero (x : Dev nD × CK) : records A B K Ks ⊢ reached ER (kcell x) 0 := by
  have h : (bigSep Finset.univ fun x : Dev nD × CK => (reached ER (kcell x) 0 : sProp 𝕄)) ⊢ reached ER (kcell x) 0 :=
    bigSep_elim (Finset.mem_univ x)
  unfold records; iintro ⟨-, H, -, -⟩; iapply h; iexact H
theorem records_slot (y : Key) : records A B K Ks ⊢ slotInv ES (Ks y) y (free rM y.1 y.2.1 y.2.2) := by
  have h : (bigSep Finset.univ fun y : Key => (slotInv ES (Ks y) y (free rM y.1 y.2.1 y.2.2) : sProp 𝕄)) ⊢ slotInv ES (Ks y) y (free rM y.1 y.2.1 y.2.2) :=
    bigSep_elim (Finset.mem_univ y)
  unfold records; iintro ⟨-, -, H, -⟩; iapply h; iexact H
theorem records_lev : records A B K Ks ⊢ levs := by
  unfold records; iintro ⟨-, -, -, H⟩; iexact H

/-! ## Loads and stores -/

def aPts (c : Dev nD) (f : AC F) : sProp 𝕄 := (aM : Memref sig .tc .vmem S1536x768 .f32).view.loc (c : Thread nD τ) ↦{fullShare} f
def bPts (c : Dev nD) (f : BC F) : sProp 𝕄 := (bM : Memref sig .tc .vmem S768x1536 .f32).view.loc (c : Thread nD τ) ↦{fullShare} f
def oPts (c : Dev nD) (f : OC F) : sProp 𝕄 := (oM : Memref sig .tc .vmem S1536x1536 .f32).view.loc (c : Thread nD τ) ↦{fullShare} f

omit [FloatOps F] in
theorem slot_set (m : Memref sig .tc .vmem S8x2x48x384 .f32) (k : Fin 8) (s : Fin 2) :
    (slotRef m k s).view.set = (m.access (slotRect k s)).set := View.set_reshape _ _

theorem wp_compute (c : Dev nD) (q : Fin 16) {offA offO : Fin 2 → ℕ} {hA : ∀ a, offA a + S96x768.size a ≤ S1536x768.size a}
    {hO : ∀ a, offO a + S96x1536.size a ≤ S1536x1536.size a} (eA : offA = rowsAt q) (eO : offO = rowsAt q) (f : OC F)
    (p : Code F) (Q : PUnit → sProp 𝕄) :
    iprop(aPts c (A c) ∗ bPts c (B c) ∗ oPts c f)
      ⊢ iprop((aPts c (A c) ∗ bPts c (B c) ∗ oPts c (rowsWrite f q (part A B c q)) -∗ wpc c p Q) -∗ wpc c (compute aM bM oM offA offO hA hO p) Q) := by
  subst eA eO
  unfold compute aPts bPts oPts
  iintro ⟨Ha, Hb, Ho⟩ Hk
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := rowsRect q) (Mk := Finset.univ) (Finset.subset_univ _)) $$ Ho; iintro Ho
  iapply Hk
  isplitl [Ha]; · iexact Ha
  isplitl [Hb]; · iexact Hb
  iexact Ho

theorem wp_putSend (c : Dev nD) (k : Fin 8) (s : Fin 2) (v : FVec F S48x384 .f32) (p : Code F) (Q : PUnit → sProp 𝕄) :
    free sM c k s ⊢ iprop((hold sM c k s v -∗ wpc c p Q) -∗ wpc c (putSend sM k s v p) Q) := by
  unfold putSend free slot hold
  iintro ⟨%f, H⟩ Hk
  iapply (wp_load 𝒱₀ (c : Thread nD τ) none Set.univ (m := sM) (by rw [slot_set]; exact subset_of_eq (View.set_slice _ _).symm)) $$ H; iintro H
  iapply (wp_store 𝒱₀ (c : Thread nD τ) none Set.univ (m := sM) (r := slotRect k s) (Mk := Finset.univ) (by rw [slot_set]; exact subset_rfl)) $$ H; iintro H
  iapply Hk
  iexists _
  isplitr
  swap
  · iexact H
  ipureintro
  have h1 := View.read_write_univ (Val := Elt F) (v := sM.access (slotRect k s)) f (slotOf v)
  refine Eq.trans ?_ (shapeCast_shapeCast v shapeCasts_S48x384_S1x1x48x384 shapeCasts_S1x1x48x384_S48x384)
  funext x
  exact congrFun h1 (Shape.reshapeEquiv _ x)

theorem wp_getRecv (c : Dev nD) (k : Fin 8) (s : Fin 2) (v : FVec F S48x384 .f32) (p : FVec F S48x384 .f32 → Code F) (Q : PUnit → sProp 𝕄) :
    hold rM c k s v ⊢ iprop((hold rM c k s v -∗ wpc c (p v) Q) -∗ wpc c (getRecv rM k s p) Q) := by
  unfold getRecv hold
  iintro ⟨%f, %hf, H⟩ Hk
  iapply (wp_load 𝒱₀ (c : Thread nD τ) none Set.univ (m := rM) (by rw [slot_set]; exact subset_of_eq (View.set_slice _ _).symm)) $$ H; iintro H
  have e : tileOf (rM.view.readAt (Elt F) (slotRect k s).toLoadRect f) = v := by
    rw [← hf]; rfl
  rw [e]
  iapply Hk
  iexists f
  isplitr; · ipureintro; exact hf
  iexact H

theorem wp_getOut (c : Dev nD) (k : Fin 8) (q : Fin 16) {off : Fin 2 → ℕ} {h : ∀ a, off a + S48x384.size a ≤ S1536x1536.size a}
    (e : off = tileAt k q) (f : OC F) (p : FVec F S48x384 .f32 → Code F) (Q : PUnit → sProp 𝕄) :
    oPts c f ⊢ iprop((oPts c f -∗ wpc c (p (tileRead f k q)) Q) -∗ wpc c (getOut oM off h p) Q) := by
  subst e
  unfold getOut oPts
  iintro H Hk
  iapply (wp_load 𝒱₀ (c : Thread nD τ) none Set.univ (m := oM) (Finset.subset_univ _)) $$ H; iintro H
  iapply Hk; iexact H

theorem wp_putOut (c : Dev nD) (k : Fin 8) (q : Fin 16) {off : Fin 2 → ℕ} {h : ∀ a, off a + S48x384.size a ≤ S1536x1536.size a}
    (e : off = tileAt k q) (f : OC F) (v : FVec F S48x384 .f32) (p : Code F) (Q : PUnit → sProp 𝕄) :
    oPts c f ⊢ iprop((oPts c (tileWrite f k q v) -∗ wpc c p Q) -∗ wpc c (putOut oM off h v p) Q) := by
  subst e
  unfold putOut oPts
  iintro H Hk
  iapply (wp_load 𝒱₀ (c : Thread nD τ) none Set.univ (m := oM) (Finset.subset_univ _)) $$ H; iintro H
  iapply (wp_store 𝒱₀ (c : Thread nD τ) none Set.univ (m := oM) (r := tileRect k q) (Mk := Finset.univ) (Finset.subset_univ _)) $$ H; iintro H
  iapply Hk; iexact H

/-! ## Copies -/

/-- The tokens hop `h` of stream `k` is sent with. -/
def sendTk (c : Dev nD) (k : Fin 8) (h : ℕ) : sProp 𝕄 :=
  iprop(dutyTok ER (recvCell (fro k c) k (par h)) (h / 2) 0 ∗ dutyTok ER (sendCell c k (par h)) (h / 2) 0
    ∗ writeTok ES (fro k c, k, par h) (h / 2 + 1))

theorem par_div (h : ℕ) : 2 * (h / 2) + (par h).val = h := by show 2 * (h / 2) + h % 2 = h; omega

theorem wp_sendTo (c n : Dev nD) (k : Fin 8) (hn : n = fro k c) (h : ℕ) (hh : h < 30) (O : CellTallies nD τ sig ℕ)
    {hsc : (slotRef rM k (par h) : Memref sig (Dev.tc n : Thread nD τ).2.kind .vmem S48x384 .f32).view.ref.isScScratch = false}
    {hsrc : (slotRef sM k (par h)).view.WordExact} {hdst : (slotRef rM k (par h)).view.WordExact}
    {hsem : DmaTarget.Typed .vmem (.dma (recvS k (par h))) (.remote (Dev.tc n : Thread nD τ) (slotRef rM k (par h)) (.dma (sendS k (par h))) hsc)}
    (p : Code F) (Q : PUnit → sProp 𝕄) :
    iprop(records A B K Ks ∗ hold sM c k (par h) (val A B h c k) ∗ sendTk c k h ∗ free1 (fro k c) k h
        ∗ reached ER (sendCell c k (par h)) (h / 2) ∗ ow c (O + tallyAt (recvCell (fro k c) k (par h)) h N))
      ⊢ iprop((cred (tallyAt (sendCell c k (par h)) 0 N) ∗ ow c O -∗ wpc c p Q)
          -∗ wpc c (.op (.enqueueDma (slotRef sM k (par h)) (.remote (Dev.tc n : Thread nD τ) (slotRef rM k (par h)) (.dma (sendS k (par h))) hsc)
              (.dma (recvS k (par h))) hsrc hdst hsem) fun _ => p) Q) := by
  subst hn
  unfold hold sendTk free1 ow
  iintro ⟨#Hrec, ⟨%fs, %hfs, Hsrc⟩, ⟨HtV, HtS, Hwt⟩, ⟨#Hrel, #HrV⟩, #HrS, ⟨%W, HO⟩⟩ Hk
  ihave #HIs := (records_cell A B K Ks (c, kSend k (par h))) $$ Hrec
  ihave #HIr := (records_cell A B K Ks (fro k c, kRecv k (par h))) $$ Hrec
  ihave #Hsl := (records_slot A B K Ks (fro k c, k, par h)) $$ Hrec
  imod (slot_take ES (Set.mem_univ (Ks (fro k c, k, par h))) (h / 2 + 1)) $$ [Hwt] with Hfree
  · isplitr; · iexact Hsl
    isplitr; · iexact Hrel
    iexact Hwt
  unfold free slot
  icases Hfree with ⟨%fd, Hdst⟩
  iapply (Rounds.wp_send_pointsTo 𝒱₀ ER (Rd A B) (c : Thread nD τ) none (κ₁ := K (c, kSend k (par h))) (κ₂ := K (fro k c, kRecv k (par h)))
    (r₁ := h / 2) (r₂ := h / 2) (d₁ := 0) (d₂ := 0) (fs := fs) (fd := fd)
    (by rw [duties_send A B c k _ (by omega)]; exact Finset.mem_singleton_self _)
    (by rw [duties_recv A B _ k _ (by omega)]; exact Finset.mem_singleton_self _)
    h 0 N rfl (amount_send A B c k _ _ 0) (amount_recv A B _ k _ _ 0) O rfl (W := W)
    (by rw [payload_send]; unfold free slot; iintro H; iexists fs; iexact H)
    (by
      rw [payload_recv, par_div, bck_fro]; unfold hold
      iintro H
      iexists _
      isplitr
      swap
      · iexact H
      ipureintro
      rw [← hfs]; exact View.read_write_univ _ _)) $$ [Hsrc Hdst HO HtS HtV]
  · isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

theorem wp_start (c : Dev nD) (k : Fin 8) (h : ℕ) (hh : h < 30) (O : CellTallies nD τ sig ℕ) (p : Code F) (Q : PUnit → sProp 𝕄) :
    iprop(records A B K Ks ∗ hold sM c k (par h) (val A B h c k) ∗ sendTk c k h ∗ free1 (fro k c) k h
        ∗ reached ER (sendCell c k (par h)) (h / 2) ∗ ow c (O + tallyAt (recvCell (fro k c) k (par h)) h N))
      ⊢ iprop((cred (tallyAt (sendCell c k (par h)) 0 N) ∗ ow c O -∗ wpc c p Q)
          -∗ wpc c (start sM rM cc0_scratch2 cc0_scratch3 c k (par h) p) Q) :=
  wp_sendTo A B K Ks c _ k (dst_eq c k) h hh O p Q

/-! ## Waits for copies -/

theorem rest_send (c : Dev nD) (k : Fin 8) (s : Fin 2) {r : ℕ} (hr : r < 15) :
    (bigSep ((Rd A B).duties (sendCell c k s) r \ ∅) fun d => (Rd A B).payload (sendCell c k s) r d) ⊢ free sM c k s := by
  rw [Finset.sdiff_empty, duties_send A B c k s hr, bigSep_singleton, payload_send]

theorem rest_recv (c : Dev nD) (k : Fin 8) (h : ℕ) (hh : h < 30) :
    (bigSep ((Rd A B).duties (recvCell c k (par h)) (h / 2) \ ∅) fun d => (Rd A B).payload (recvCell c k (par h)) (h / 2) d)
      ⊢ hold rM c k (par h) (val A B h (bck k c) k) := by
  rw [Finset.sdiff_empty, duties_recv A B c k _ (by omega), bigSep_singleton, payload_recv, par_div]

theorem wp_waitSend (c : Dev nD) (k : Fin 8) (h : ℕ) (hh : h < 30) (O : CellTallies nD τ sig ℕ) (hO : Above 1 O) (p : Code F) (Q : PUnit → sProp 𝕄) :
    iprop(records A B K Ks ∗ cred (tallyAt (sendCell c k (par h)) 0 N) ∗ atPos ER (sendCell c k (par h)) (h / 2) ∅ 0 ∗ ow c O)
      ⊢ iprop((atPos ER (sendCell c k (par h)) (h / 2 + 1) ∅ 0 ∗ reached ER (sendCell c k (par h)) (h / 2 + 1) ∗ free sM c k (par h) ∗ ow c O -∗ wpc c p Q)
          -∗ wpc c (waitSend sM rM cc0_scratch2 k (par h) p) Q) := by
  unfold ow waitSend
  iintro ⟨#Hrec, Hc, Hat, ⟨%W, HO⟩⟩ Hk
  ihave #HI := (records_cell A B K Ks (c, kSend k (par h))) $$ Hrec
  ihave #Hlev := (records_lev A B K Ks) $$ Hrec
  iapply (Rounds.wp_wait_rest_token 𝒱₀ ER (Rd A B) (c : Thread nD τ) none (κ := K (c, kSend k (par h)))
      (wpE_waitDma2_eq 𝒱₀ (c : Thread nD τ) none Set.univ) (Set.mem_univ _) 0 (O := O) (W := W) (R := h / 2) (m := 0) (T := ∅)
      (by rw [Nat.zero_add, expect_send A B c k _ (by omega)])) $$ [Hc HO Hat]
  · isplitr; · iexact HI
    isplitl [Hc]; · iexact Hc
    isplitl [HO]; · iexact HO
    isplitr; · iapply (levs_wait (by omega) (by rw [lv_send]; omega) hO); iexact Hlev
    iexact Hat
  iintro ⟨HO, Hat, Hr, Hpay⟩
  ihave Hpay := (rest_send A B c k _ (show h / 2 < 15 by omega)) $$ Hpay
  iapply Hk
  isplitl [Hat]; · iexact Hat
  isplitl [Hr]; · iexact Hr
  isplitl [Hpay]; · iexact Hpay
  iexists _; iexact HO

theorem wp_waitRecv (c : Dev nD) (k : Fin 8) (h : ℕ) (hh : h < 30) (O : CellTallies nD τ sig ℕ) (hO : Above (h + 3) O) (p : Code F) (Q : PUnit → sProp 𝕄) :
    iprop(records A B K Ks ∗ cred (tallyAt (recvCell c k (par h)) h N) ∗ atPos ER (recvCell c k (par h)) (h / 2) ∅ 0 ∗ ow c O)
      ⊢ iprop((atPos ER (recvCell c k (par h)) (h / 2 + 1) ∅ 0 ∗ reached ER (recvCell c k (par h)) (h / 2 + 1)
            ∗ hold rM c k (par h) (val A B h (bck k c) k) ∗ ow c O -∗ wpc c p Q)
          -∗ wpc c (waitRecv sM rM cc0_scratch3 k (par h) p) Q) := by
  unfold ow waitRecv
  iintro ⟨#Hrec, Hc, Hat, ⟨%W, HO⟩⟩ Hk
  ihave #HI := (records_cell A B K Ks (c, kRecv k (par h))) $$ Hrec
  ihave #Hlev := (records_lev A B K Ks) $$ Hrec
  iapply (Rounds.wp_wait_rest_token 𝒱₀ ER (Rd A B) (c : Thread nD τ) none (κ := K (c, kRecv k (par h)))
      (wpE_waitDma2_eq 𝒱₀ (c : Thread nD τ) none Set.univ) (Set.mem_univ _) h (O := O) (W := W) (R := h / 2) (m := 0) (T := ∅)
      (by rw [Nat.zero_add, expect_recv A B c k _ (by omega)])) $$ [Hc HO Hat]
  · isplitr; · iexact HI
    isplitl [Hc]; · iexact Hc
    isplitl [HO]; · iexact HO
    isplitr; · iapply (levs_wait (by omega) (by rw [lv_recv]; omega) hO); iexact Hlev
    iexact Hat
  iintro ⟨HO, Hat, Hr, Hpay⟩
  ihave Hpay := (rest_recv A B c k h hh) $$ Hpay
  iapply Hk
  isplitl [Hat]; · iexact Hat
  isplitl [Hr]; · iexact Hr
  isplitl [Hpay]; · iexact Hpay
  iexists _; iexact HO

/-! ## Credits -/

theorem wp_creditTo (c n : Dev nD) (k : Fin 8) (hn : n = bck k c) (h : ℕ) (h1 : 1 ≤ h) (h2 : h ≤ 30) (O : CellTallies nD τ sig ℕ) (p : Code F) (Q : PUnit → sProp 𝕄) :
    iprop(records A B K Ks ∗ dutyTok ER (credCell (bck k c) k) 0 h ∗ ready c k (min (h + 2) 30) ∗ ow c (O + tallyAt (credCell (bck k c) k) h 1))
      ⊢ iprop((ow c O -∗ wpc c p Q) -∗ wpc c (.op (.semSignal (n, Proc.tc) (credS k) (1#32 : BitVec 32).toInt) fun _ => p) Q) := by
  subst hn
  unfold ow
  iintro ⟨#Hrec, Htok, #Hrd, ⟨%W, HO⟩⟩ Hk
  ihave #HI := (records_cell A B K Ks (bck k c, kCred k)) $$ Hrec
  ihave #Hz := (records_zero A B K Ks (bck k c, kCred k)) $$ Hrec
  iapply (Rounds.wp_signal 𝒱₀ ER (Rd A B) (c : Thread nD τ) none (dst := (bck k c : Thread nD τ)) (κ := K (bck k c, kCred k)) (r := 0)
      (d := h) (by rw [duties_cred]; exact Finset.mem_Icc.mpr ⟨h1, h2⟩) ((amount_cred A B (bck k c) k 0 h).trans (by decide)) h O rfl) $$ [HO Htok]
  · isplitr; · iexact HI
    isplitl [HO]; · iexact HO
    isplitl [Htok]; · iexact Htok
    isplitr
    · rw [payload_cred, fro_bck]; iexact Hrd
    iexact Hz
  iintro HO
  iapply Hk
  iexists W; iexact HO

theorem wp_credit (c : Dev nD) (k : Fin 8) (h : ℕ) (h1 : 1 ≤ h) (h2 : h ≤ 30) (O : CellTallies nD τ sig ℕ) (p : Code F) (Q : PUnit → sProp 𝕄) :
    iprop(records A B K Ks ∗ dutyTok ER (credCell (bck k c) k) 0 h ∗ ready c k (min (h + 2) 30) ∗ ow c (O + tallyAt (credCell (bck k c) k) h 1))
      ⊢ iprop((ow c O -∗ wpc c p Q) -∗ wpc c (credit cc0_scratch4 c k p) Q) :=
  wp_creditTo A B K Ks c _ k (src_eq c k) h h1 h2 O p Q

/-- The credits heard by a stream after `t` waits. -/
def heardC (c : Dev nD) (k : Fin 8) (t : ℕ) : sProp 𝕄 :=
  iprop(∃ T : Finset ℕ, ⌜T ⊆ Finset.Icc 1 30⌝ ∗ atPos ER (credCell c k) 0 T t ∗ bigSep T fun d => ready (fro k c) k (min (d + 2) 30))

/-- Of the first `h - 1` credits heard one is late enough. -/
theorem late {S : Finset ℕ} {t : ℕ} (hS : S ⊆ Finset.Icc 1 30) (hc : t + 1 + (Finset.Icc 1 30 \ S).card ≤ 30) : ∃ d ∈ S, t + 1 ≤ d := by
  by_contra hn
  push Not at hn
  have h1 : S ⊆ Finset.Icc 1 t := fun d hd => Finset.mem_Icc.mpr ⟨(Finset.mem_Icc.mp (hS hd)).1, by have := hn d hd; omega⟩
  have h2 := Finset.card_le_card h1
  have h3 := Finset.card_sdiff_add_card_eq_card hS
  rw [Nat.card_Icc] at h2 h3
  omega

theorem wp_waitCredit (c : Dev nD) (k : Fin 8) (t : ℕ) (ht : t < 28) (O : CellTallies nD τ sig ℕ) (hO : Above (t + 4) O) (p : Code F) (Q : PUnit → sProp 𝕄) :
    iprop(records A B K Ks ∗ cred (tallyAt (credCell c k) (t + 1) 1) ∗ heardC c k t ∗ ow c O)
      ⊢ iprop((heardC c k (t + 1) ∗ free1 (fro k c) k (t + 2) ∗ ow c O -∗ wpc c p Q) -∗ wpc c (waitCredit cc0_scratch4 k 1#32 p) Q) := by
  unfold ow heardC waitCredit
  iintro ⟨#Hrec, Hc, ⟨%T, %hT, Hat, #HT⟩, ⟨%W, HO⟩⟩ Hk
  ihave #HI := (records_cell A B K Ks (c, kCred k)) $$ Hrec
  ihave #Hlev := (records_lev A B K Ks) $$ Hrec
  iapply (Rounds.wp_wait 𝒱₀ ER (Rd A B) (c : Thread nD τ) none (κ := K (c, kCred k))
      (wpE_semWait_eq 𝒱₀ (c : Thread nD τ) none Set.univ) (Set.mem_univ _) (cr := Finsupp.single (t + 1) 1) (O := O) (W := W)
      {((SemLoc.reg (credS k) : SemLoc sig), t + 1)} (R := 0) (m := t) (T := T)
      (by rw [Util.total_single]; decide) (image_single_subset _ _ _)) $$ [Hc HO Hat]
  · isplitr; · iexact HI
    isplitl [Hc]; · iexact Hc
    isplitl [HO]; · iexact HO
    isplitr
    · iapply (levs_wait (by omega) (by rw [lv_cred, if_neg (by omega)]; omega) hO); iexact Hlev
    iexact Hat
  iintro %S ⟨%hS, HO, Hat, Hpay⟩
  obtain ⟨hTS, hSd, hcard⟩ := hS
  rw [duties_cred] at hSd hcard
  rw [expect_cred] at hcard
  obtain ⟨d, hd, hdt⟩ := late (t := t) hSd hcard
  have hpay : bigSep (S \ T) (fun d => (Rd A B).payload (credCell c k) 0 d) ⊢ bigSep (S \ T) fun d => ready (F := F) (fro k c) k (min (d + 2) 30) :=
    bigSep_mono fun d _ => Entails.of_eq (payload_cred A B c k 0 d)
  have hel : bigSep S (fun d => ready (F := F) (fro k c) k (min (d + 2) 30)) ⊢ ready (fro k c) k (min (d + 2) 30) := bigSep_elim hd
  have hsp : iprop(bigSep T (fun d => ready (F := F) (fro k c) k (min (d + 2) 30)) ∗ bigSep (S \ T) fun d => ready (F := F) (fro k c) k (min (d + 2) 30))
      ⊢ bigSep S fun d => ready (F := F) (fro k c) k (min (d + 2) 30) := Entails.of_eq (bigSep_sdiff_split hTS).symm
  ihave #Hp := hpay $$ Hpay
  ihave #HS : bigSep S (fun d => ready (F := F) (fro k c) k (min (d + 2) 30)) $$ []
  · iapply hsp
    isplitr; · iexact HT
    iexact Hp
  iapply Hk
  isplitl [Hat]
  · iexists S
    isplitr; · ipureintro; exact hSd
    isplitl [Hat]; · iexact Hat
    iexact HS
  isplitr
  · ihave #H1 := hel $$ HS
    iapply (ready_at (fro k c) k (h := t + 2) (n := min (d + 2) 30) (by omega)); iexact H1
  iexists _; iexact HO

omit [FloatOps F] in
theorem levs_two (c : Dev nD) (k : Fin 8) (O : CellTallies nD τ sig ℕ) (hO : Above (33 + k.val) O) : (levs (F := F))
    ⊢ MayOwe (c : Thread nD τ) {((SemLoc.reg (credS k) : SemLoc sig), 29), ((SemLoc.reg (credS k) : SemLoc sig), 30)} O := by
  unfold levs
  refine MayOwe.of_levAts (L := L) (lev := lv) (fun q hq => ?_) (fun g i hg => (hO g i hg).1) (fun g i hg q hq => ?_)
  · rw [L_tc]
    rcases Finset.mem_insert.mp hq with e | e
    · rw [e]; exact Finset.mem_range.mpr (by omega)
    · rw [Finset.mem_singleton.mp e]; exact Finset.mem_range.mpr (by omega)
  · have := (hO g i hg).2
    rcases Finset.mem_insert.mp hq with e | e
    · rw [e]; show lv (credCell c k) 29 < _; rw [lv_cred, if_neg (by omega)]; omega
    · rw [Finset.mem_singleton.mp e]; show lv (credCell c k) 30 < _; rw [lv_cred, if_pos rfl]; omega

theorem wp_lastCredit (c : Dev nD) (k : Fin 8) (O : CellTallies nD τ sig ℕ) (hO : Above (33 + k.val) O) (p : Code F) (Q : PUnit → sProp 𝕄) :
    iprop(records A B K Ks ∗ cred (tallyAt (credCell c k) 29 1) ∗ cred (tallyAt (credCell c k) 30 1) ∗ heardC c k 28 ∗ ow c O)
      ⊢ iprop((atPos ER (credCell c k) 1 ∅ 0 ∗ ow c O -∗ wpc c p Q) -∗ wpc c (waitCredit cc0_scratch4 k 2#32 p) Q) := by
  unfold ow heardC waitCredit
  iintro ⟨#Hrec, Hc1, Hc2, ⟨%T, %hT, Hat, -⟩, ⟨%W, HO⟩⟩ Hk
  ihave #HI := (records_cell A B K Ks (c, kCred k)) $$ Hrec
  ihave #Hlev := (records_lev A B K Ks) $$ Hrec
  ihave Hc : cred (tallyOn (credCell c k) (Finsupp.single 29 1 + Finsupp.single 30 1)) $$ [Hc1 Hc2]
  · rw [tallyOn_add]
    iapply (cred_add _ _).2
    isplitl [Hc1]; · iexact Hc1
    iexact Hc2
  iapply (Rounds.wp_wait_rest 𝒱₀ ER (Rd A B) (c : Thread nD τ) none (κ := K (c, kCred k))
      (wpE_semWait_eq 𝒱₀ (c : Thread nD τ) none Set.univ) (Set.mem_univ _) (cr := Finsupp.single 29 1 + Finsupp.single 30 1) (O := O) (W := W)
      {((SemLoc.reg (credS k) : SemLoc sig), 29), ((SemLoc.reg (credS k) : SemLoc sig), 30)} (R := 0) (m := 28) (T := T)
      (by rw [expect_cred]; decide) (by rw [Util.total_add, Util.total_single, Util.total_single]; decide)
      (by
        intro x hx
        obtain ⟨i, hi, rfl⟩ := Finset.mem_image.mp hx
        have h := Finsupp.support_add hi
        rcases Finset.mem_union.mp h with h | h
        · have := Finsupp.support_single_subset h; rw [Finset.mem_singleton.mp this]; exact Finset.mem_insert_self _ _
        · have := Finsupp.support_single_subset h; rw [Finset.mem_singleton.mp this]; exact Finset.mem_insert_of_mem (Finset.mem_singleton_self _))) $$ [Hc HO Hat]
  · isplitr; · iexact HI
    isplitl [Hc]; · iexact Hc
    isplitl [HO]; · iexact HO
    isplitr
    · iapply (levs_two c k O hO)
      iexact Hlev
    iexact Hat
  iintro ⟨HO, Hat, -, -⟩
  iapply Hk
  isplitl [Hat]; · iexact Hat
  iexists _; iexact HO

end Cert.KernelIdeal.Ring
-- ==== Proof.KernelIdeal.Stream.lean ====
/- One stream of tiles: what a device holds for it before each hop, and one hop of it. -/
module

public import proofs.«01_k».proof.Proof.KernelIdeal.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## The state of a stream -/

/-- To receive hop `h`, and to acknowledge it. -/
def recvTk (c : Dev nD) (k : Fin 8) (h : ℕ) : sProp 𝕄 :=
  iprop(cred (tallyAt (recvCell c k (par h)) h N) ∗ dutyTok ER (credCell (bck k c) k) 0 (h + 1))

/-- To wait for a credit. -/
def credTk (c : Dev nD) (k : Fin 8) (t : ℕ) : sProp 𝕄 := cred (tallyAt (credCell c k) (t + 1) 1)

/-- The send slot of hop `h`, free; -/
def sslot (c : Dev nD) (k : Fin 8) (h : ℕ) : sProp 𝕄 :=
  iprop(free sM c k (par h) ∗ atPos ER (sendCell c k (par h)) (h / 2) ∅ 0 ∗ reached ER (sendCell c k (par h)) (h / 2))

/-- on its way; -/
def sfly (c : Dev nD) (k : Fin 8) (h : ℕ) : sProp 𝕄 :=
  iprop(cred (tallyAt (sendCell c k (par h)) 0 N) ∗ atPos ER (sendCell c k (par h)) (h / 2) ∅ 0)

/-- and as hop `h` finds it. -/
def sAt (c : Dev nD) (k : Fin 8) (h : ℕ) : sProp 𝕄 := if h < 2 then sslot c k h else sfly c k (h - 2)

/-- The receive slot of hop `n`, before that hop is waited for. -/
def rAt (c : Dev nD) (k : Fin 8) (n : ℕ) : sProp 𝕄 :=
  iprop(atPos ER (recvCell c k (par n)) (n / 2) ∅ 0 ∗ if n < 30 then readerAt ES (c, k, par n) (n / 2 + 1) else free rM c k (par n))

/-- A stream before its hop `n`. -/
def stream (c : Dev nD) (k : Fin 8) (n : ℕ) : sProp 𝕄 :=
  iprop(bigSep (Finset.Ico n 30) (sendTk c k) ∗ bigSep (Finset.Ico (n - 1) 30) (recvTk c k) ∗ bigSep (Finset.Ico (n - 2) 30) (credTk c k)
    ∗ sAt c k n ∗ sAt c k (n + 1) ∗ rAt c k (n - 1) ∗ rAt c k (n - 1 + 1)
    ∗ ready c k (min (n - 1 + 2) 30) ∗ heardC c k (n - 2) ∗ ready (fro k c) k 2)

/-- A stream after its end. -/
def ended (c : Dev nD) (k : Fin 8) : sProp 𝕄 :=
  iprop((free sM c k (par 28) ∗ atPos ER (sendCell c k (par 28)) 15 ∅ 0) ∗ (free sM c k (par 29) ∗ atPos ER (sendCell c k (par 29)) 15 ∅ 0)
    ∗ rAt c k 30 ∗ rAt c k 31 ∗ atPos ER (credCell c k) 1 ∅ 0)

omit [FloatOps F] in
theorem ico_take (Φ : ℕ → sProp 𝕄) {a b : ℕ} (h : a < b) : bigSep (Finset.Ico a b) Φ ⊢ iprop(Φ a ∗ bigSep (Finset.Ico (a + 1) b) Φ) := by
  rw [ico_step h]; exact Entails.of_eq (bigSep_insert ico_not)

theorem par_add (h : ℕ) : par (h + 2) = par h := Fin.ext (by show (h + 2) % 2 = h % 2; omega)
theorem div_add (h : ℕ) : (h + 2) / 2 = h / 2 + 1 := by omega

variable (A : Dev nD → AC F) (B : Dev nD → BC F) (K : Dev nD × CK → ℕ) (Ks : Key → ℕ)

/-- The result array with the chunks in `C` computed and `n k` hops done of each stream `k`. -/
def outs (c : Dev nD) (C : Fin 16 → Prop) (n : Fin 8 → ℕ) : sProp 𝕄 := iprop(∃ f, ⌜Good A B c C n f⌝ ∗ oPts c f)

/-! ## A hop's parts -/

omit [FloatOps F] in
theorem slot_excl (c : Dev nD) (k : Fin 8) (s : Fin 2) : iprop(free (F := F) rM c k s ∗ free rM c k s) ⊢ (False : sProp 𝕄) := by
  refine slot_slot_false ?_
  rw [slot_set]
  exact ⟨_, Finset.mem_map_of_mem _ (Finset.mem_univ (fun a => ⟨0, (by decide : ∀ a, 0 < S1x1x48x384.size a) a⟩))⟩

/-- A receive slot given back, after hop `m` was read. -/
theorem give_back (c : Dev nD) (k : Fin 8) (m : ℕ) (hm : m < 30) (v : FVec F S48x384 .f32) :
    iprop(records A B K Ks ∗ atPos ER (recvCell c k (par m)) (m / 2 + 1) ∅ 0 ∗ reached ER (recvCell c k (par m)) (m / 2 + 1)
        ∗ readerAt ES (c, k, par m) (m / 2 + 1) ∗ hold rM c k (par m) v ∗ ready c k (min (m + 2) 30))
      ⊢ |={Set.univ}=> iprop(rAt c k (m + 2) ∗ ready c k (min (m + 3) 30)) := by
  unfold rAt
  rw [par_add, div_add]
  iintro ⟨#Hrec, Hat, #Hr, Hrd, Hh, #Hready⟩
  ihave Hfree := (hold_free rM c k (par m) v) $$ Hh
  by_cases h : m + 2 < 30
  · rw [if_pos h, show min (m + 3) 30 = m + 2 + 1 by omega, show min (m + 2) 30 = m + 2 by omega]
    ihave #Hsl := (records_slot A B K Ks (c, k, par m)) $$ Hrec
    imod (slot_release ES (Set.mem_univ (Ks (c, k, par m))) (slot_excl c k (par m)) (m / 2 + 1)) $$ [Hrd Hfree] with ⟨Hrd, #Hrel⟩
    · isplitr; · iexact Hsl
      isplitl [Hrd] <;> iassumption
    imodintro
    isplitl [Hat Hrd]
    · isplitl [Hat] <;> iassumption
    iapply (Entails.of_eq (ready_succ c k (m + 2)).symm)
    isplitr
    · unfold free1; rw [par_add, div_add]
      isplitr; · iexact Hrel
      iexact Hr
    iexact Hready
  · rw [if_neg h, show min (m + 3) 30 = 30 by omega, show min (m + 2) 30 = 30 by omega]
    imodintro
    isplitl [Hat Hfree]
    · isplitl [Hat] <;> iassumption
    iexact Hready

/-- The send slot, free again. -/
theorem wp_takeSend (c : Dev nD) (k : Fin 8) (h : ℕ) (hh : h < 30) (O : CellTallies nD τ sig ℕ) (hO : Above 1 O) (p : Code F) (Q : PUnit → sProp 𝕄) :
    iprop(records A B K Ks ∗ sAt c k h ∗ ow c O)
      ⊢ iprop((sslot c k h ∗ ow c O -∗ wpc c p Q) -∗ wpc c (if 2 ≤ h then waitSend sM rM cc0_scratch2 k (par h) p else p) Q) := by
  unfold sAt
  by_cases h2 : h < 2
  · rw [if_pos h2, if_neg (by omega)]
    iintro ⟨-, Hs, HO⟩ Hk
    iapply Hk
    isplitl [Hs] <;> iassumption
  · obtain ⟨m, rfl⟩ : ∃ m, h = m + 2 := ⟨h - 2, by omega⟩
    rw [if_neg h2, if_pos (by omega)]
    unfold sslot sfly
    rw [Nat.add_sub_cancel, par_add, div_add]
    iintro ⟨#Hrec, ⟨Hc, Hat⟩, HO⟩ Hk
    iapply (wp_waitSend A B K Ks c k m (by omega) O hO p Q) $$ [Hc Hat HO]
    · isplitr; · iexact Hrec
      isplitl [Hc]; · iexact Hc
      isplitl [Hat] <;> iassumption
    iintro ⟨Hat, Hr, Hf, HO⟩
    iapply Hk
    isplitl [Hat Hr Hf]
    · isplitl [Hf]; · iexact Hf
      isplitl [Hat] <;> iassumption
    iexact HO

/-- The receiver's word that hop `h` may be sent. -/
theorem wp_hear (c : Dev nD) (k : Fin 8) (h : ℕ) (h1 : 1 ≤ h) (hh : h < 30) (O : CellTallies nD τ sig ℕ) (hO : Above (h + 2) O) (p : Code F) (Q : PUnit → sProp 𝕄) :
    iprop(records A B K Ks ∗ bigSep (Finset.Ico (h - 2) 30) (credTk c k) ∗ heardC c k (h - 2) ∗ ready (fro k c) k 2 ∗ ow c O)
      ⊢ iprop((bigSep (Finset.Ico (h + 1 - 2) 30) (credTk c k) ∗ heardC c k (h + 1 - 2) ∗ free1 (fro k c) k h ∗ ow c O -∗ wpc c p Q)
          -∗ wpc c (if 2 ≤ h then waitCredit cc0_scratch4 k 1#32 p else p) Q) := by
  by_cases h2 : 2 ≤ h
  · obtain ⟨m, rfl⟩ : ∃ m, h = m + 2 := ⟨h - 2, by omega⟩
    rw [if_pos h2, Nat.add_sub_cancel, show m + 2 + 1 - 2 = m + 1 by omega]
    iintro ⟨#Hrec, Hcs, Hh, -, HO⟩ Hk
    ihave Hcs' := (ico_take (credTk c k) (show m < 30 by omega)) $$ Hcs
    icases Hcs' with ⟨Hc, Hcs⟩
    unfold credTk
    iapply (wp_waitCredit A B K Ks c k m (by omega) O hO p Q) $$ [Hc Hh HO]
    · isplitr; · iexact Hrec
      isplitl [Hc]; · iexact Hc
      isplitl [Hh] <;> iassumption
    iintro ⟨Hh, Hf, HO⟩
    iapply Hk
    isplitl [Hcs]; · iexact Hcs
    isplitl [Hh]; · iexact Hh
    isplitl [Hf] <;> iassumption
  · obtain rfl : h = 1 := by omega
    rw [if_neg h2]
    iintro ⟨-, Hcs, Hh, #Hrd, HO⟩ Hk
    iapply Hk
    isplitl [Hcs]; · iexact Hcs
    isplitl [Hh]; · iexact Hh
    isplitr; · iapply (ready_at (fro k c) k (n := 2) (h := 1) (by omega)); iexact Hrd
    iexact HO

/-- A finished tile kept. -/
theorem wp_keep (c : Dev nD) (k : Fin 8) (h : ℕ) (h1 : 16 ≤ h) (h2 : h ≤ 30) (C : Fin 16 → Prop) (n : Fin 8 → ℕ) (hn : n k = h) (p : Code F) (Q : PUnit → sProp 𝕄) :
    iprop(hold rM c k (par (h - 1)) (val A B (h - 1) (bck k c) k) ∗ outs A B c C n)
      ⊢ iprop((hold rM c k (par (h - 1)) (val A B (h - 1) (bck k c) k) ∗ outs A B c C (Function.update n k (h + 1)) -∗ wpc c p Q)
          -∗ wpc c (keep oM rM c k (h - 1) p) Q) := by
  unfold keep outs
  rw [dif_pos ⟨by omega, by omega⟩]
  iintro ⟨Hr, ⟨%f, %hf, Ho⟩⟩ Hk
  iapply (wp_getRecv c k (par (h - 1)) _ _ Q) $$ Hr; iintro Hr
  iapply (wp_putOut c k _ (tileOff_eq c k _) f _ p Q) $$ Ho; iintro Ho
  iapply Hk
  isplitl [Hr]; · iexact Hr
  iexists _
  isplitr
  swap
  · iexact Ho
  ipureintro
  subst hn
  have hv : fin A B c k (Fin.castSucc ⟨n k - 1 - 15, by omega⟩) = val A B (n k - 1) (bck k c) k := by
    unfold fin
    rw [if_neg (fun e => by have := congrArg Fin.val e; simp at this; omega)]
    congr 1
    show n k - 1 - 15 + 15 = _; omega
  rw [← hv]
  refine hf.put k _ (fun r' hr' => ?_) ?_
  · unfold done at hr' ⊢
    by_cases e : r' = 15
    · right; rw [if_pos e]; omega
    · rw [if_neg e] at hr' ⊢
      by_cases e' : r'.val = n k - 16
      · left; apply Fin.ext; show r'.val = n k - 1 - 15; omega
      · right; omega
  · unfold done
    rw [if_neg (fun e => by have := congrArg Fin.val e; simp at this; omega)]
    show n k - 1 - 15 + 17 ≤ _; omega

/-- A hop's tile made ready, what was received being kept if it is finished. -/
theorem wp_keepStage (c : Dev nD) (k : Fin 8) (h : ℕ) (h1 : 1 ≤ h) (hh : h < 30) (C : Fin 16 → Prop) (hC : ∀ r : Fin 16, r.val ≤ h → C (chunk c k r))
    (n : Fin 8 → ℕ) (hn : n k = h) (p : Code F) (Q : PUnit → sProp 𝕄) :
    iprop(hold rM c k (par (h - 1)) (val A B (h - 1) (bck k c) k) ∗ free sM c k (par h) ∗ outs A B c C n)
      ⊢ iprop((hold rM c k (par (h - 1)) (val A B (h - 1) (bck k c) k) ∗ hold sM c k (par h) (val A B h c k)
            ∗ outs A B c C (Function.update n k (h + 1)) -∗ wpc c p Q)
          -∗ wpc c (keep oM rM c k (h - 1) (stage oM sM rM c k h p)) Q) := by
  rcases Nat.lt_trichotomy h 15 with h15 | h15 | h15
  · unfold keep stage outs
    rw [dif_neg (by omega), dif_neg (by omega), dif_pos h15]
    iintro ⟨Hr, Hs, ⟨%f, %hf, Ho⟩⟩ Hk
    iapply (wp_getRecv c k (par (h - 1)) _ _ Q) $$ Hr; iintro Hr
    iapply (wp_getOut c k _ (tileOff_eq c k ⟨h, h15⟩) f _ Q) $$ Ho; iintro Ho
    iapply (wp_putSend c k (par h) _ p Q) $$ Hs; iintro Hs
    have hv : addf (val A B (h - 1) (bck k c) k) (shapeCast S48x384 (tileRead f k (chunk c k (Fin.castSucc ⟨h, h15⟩))) shapeCasts_S48x384_S48x384)
        = val A B h c k := by
      have hd : ¬ done (Fin.castSucc (⟨h, h15⟩ : Fin 15)) (n k) := by
        unfold done; rw [if_neg (fun e => by have := congrArg Fin.val e; simp at this; omega)]
        show ¬ h + 17 ≤ n k; omega
      rw [((hf k _).2 hd) (hC _ (by show h ≤ h; omega))]
      obtain ⟨m, rfl⟩ : ∃ m, h = m + 1 := ⟨h - 1, by omega⟩
      conv_rhs => rw [val]
      rw [dif_pos h15]; rfl
    rw [hv]
    iapply Hk
    isplitl [Hr]; · iexact Hr
    isplitl [Hs]; · iexact Hs
    iexists f
    isplitr
    swap
    · iexact Ho
    ipureintro
    subst hn
    exact hf.skip k fun r hr => by unfold done at hr ⊢; split at hr <;> omega
  · subst h15
    unfold keep stage outs
    rw [dif_neg (by omega), dif_neg (by omega), dif_neg (by omega), if_pos rfl]
    iintro ⟨Hr, Hs, ⟨%f, %hf, Ho⟩⟩ Hk
    iapply (wp_getRecv c k (par (15 - 1)) _ _ Q) $$ Hr; iintro Hr
    iapply (wp_getOut c k _ (ownOff_eq c k) f _ Q) $$ Ho; iintro Ho
    have hv : act (addf (val A B (15 - 1) (bck k c) k) (shapeCast S48x384 (tileRead f k (chunk c k 15)) shapeCasts_S48x384_S48x384))
        = val A B 15 c k := by
      have hd : ¬ done 15 (n k) := by unfold done; rw [if_pos rfl]; omega
      rw [((hf k _).2 hd) (hC _ (by decide))]
      conv_rhs => rw [val]
      rw [dif_neg (by omega), if_pos (by rfl)]
    rw [hv]
    iapply (wp_putOut c k _ (ownOff_eq c k) f _ _ Q) $$ Ho; iintro Ho
    iapply (wp_putSend c k (par 15) _ p Q) $$ Hs; iintro Hs
    iapply Hk
    isplitl [Hr]; · iexact Hr
    isplitl [Hs]; · iexact Hs
    iexists _
    isplitr
    swap
    · iexact Ho
    ipureintro
    rw [show val A B 15 c k = fin A B c k 15 by unfold fin; rw [if_pos rfl], show Function.update n k (15 + 1) = Function.update n k (n k + 1) by rw [hn]]
    exact hf.put k 15 (fun r' hr' => by
      unfold done at hr'
      by_cases e : r' = 15
      · exact .inl e
      · rw [if_neg e] at hr'; omega) (by unfold done; rw [if_pos rfl]; omega)
  · iintro ⟨Hr, Hs, Ho⟩ Hk
    iapply (wp_keep A B c k h (by omega) (by omega) C n hn _ Q) $$ [Hr Ho]
    · isplitl [Hr] <;> iassumption
    iintro ⟨Hr, Ho⟩
    unfold stage
    rw [dif_neg (by omega), dif_neg (by omega), if_neg (by omega)]
    iapply (wp_getRecv c k (par (h - 1)) _ _ Q) $$ Hr; iintro Hr
    iapply (wp_putSend c k (par h) _ p Q) $$ Hs; iintro Hs
    have hv : val A B (h - 1) (bck k c) k = val A B h c k := by
      obtain ⟨m, rfl⟩ : ∃ m, h = m + 1 := ⟨h - 1, by omega⟩
      conv_rhs => rw [val]
      rw [dif_neg (by omega), if_neg (by omega)]; rfl
    iapply Hk
    isplitl [Hr]; · iexact Hr
    isplitl [Hs]
    · rw [← hv]; iexact Hs
    iexact Ho

end Cert.KernelIdeal.Ring
-- ==== Proof.KernelIdeal.Hop.lean ====
/- A whole hop of a stream, and a stream's end. -/
module

public import proofs.«01_k».proof.Proof.KernelIdeal.Stream

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (A : Dev nD → AC F) (B : Dev nD → BC F) (K : Dev nD × CK → ℕ) (Ks : Key → ℕ)

/-- What the other streams owe lies above hop `h`. -/
theorem above_rest (c : Dev nD) (k : Fin 8) (n : Fin 8 → ℕ) (h : ℕ) (hn : ∀ k', h ≤ n k') :
    Above (h + 2) (∑ k' ∈ Finset.univ.erase k, owedT c k' (n k')) :=
  Above.sum _ fun k' _ => (above_owedT c k' (n k')).mono (by have := hn k'; omega)

omit [FloatOps F] in
theorem sAt_slot (c : Dev nD) (k : Fin 8) {h : ℕ} (hh : h < 2) : sAt (F := F) c k h = sslot c k h := if_pos hh
omit [FloatOps F] in
theorem sAt_fly (c : Dev nD) (k : Fin 8) (h : ℕ) : sAt (F := F) c k (h + 2) = sfly c k h :=
  (if_neg (by omega)).trans (by rw [Nat.add_sub_cancel])

theorem wp_hop (c : Dev nD) (k : Fin 8) (h : ℕ) (h1 : 1 ≤ h) (hh : h < 30) (C : Fin 16 → Prop) (hC : ∀ r : Fin 16, r.val ≤ h → C (chunk c k r))
    (n : Fin 8 → ℕ) (hn : n k = h) (hn' : ∀ k', h ≤ n k') (p : Code F) (Q : PUnit → sProp 𝕄) :
    iprop(records A B K Ks ∗ stream c k h ∗ outs A B c C n ∗ ow c (owedAll c n))
      ⊢ iprop((stream c k (h + 1) ∗ outs A B c C (Function.update n k (h + 1)) ∗ ow c (owedAll c (Function.update n k (h + 1))) -∗ wpc c p Q)
          -∗ wpc c (hop oM sM rM cc0_scratch2 cc0_scratch3 cc0_scratch4 c k h p) Q) := by
  have hrest := above_rest c k n h hn'
  have hall : Above (h + 2) (owedAll c n) := Above.sum _ fun k' _ => (above_owedT c k' (n k')).mono (by have := hn' k'; omega)
  have hall' : Above (h - 1 + 3) (owedAll c n) := hall.mono (by omega)
  have hsplit : owedAll c n = ((∑ k' ∈ Finset.univ.erase k, owedT c k' (n k')) + owedT c k (h + 1) + tallyAt (recvCell (fro k c) k (par h)) h N)
      + tallyAt (credCell (bck k c) k) h 1 := by
    rw [owedAll_at c n k, hn, owedT_hop c k h1 hh]; ac_rfl
  have hmid : Above (h + 2) ((∑ k' ∈ Finset.univ.erase k, owedT c k' (n k')) + owedT c k (h + 1) + tallyAt (recvCell (fro k c) k (par h)) h N) :=
    (hrest.add ((above_owedT c k (h + 1)).mono (by omega))).add
      (Above.tally (by rw [L_tc]; exact Finset.mem_range.mpr (by omega)) (by rw [lv_recv]))
  unfold hop stream
  iintro ⟨#Hrec, ⟨Hst, Hrt, Hct, Hs, Hs1, Hr, Hr1, #Hrd, Hhd, #Hfro⟩, Ho, HO⟩ Hk
  iapply (wp_takeSend A B K Ks c k h hh (owedAll c n) (hall.mono (by omega)) _ Q) $$ [Hs HO]
  · isplitr; · iexact Hrec
    isplitl [Hs] <;> iassumption
  iintro ⟨Hs, HO⟩
  ihave Hrt' := (ico_take (recvTk c k) (show h - 1 < 30 by omega)) $$ Hrt
  icases Hrt' with ⟨Ht, Hrt⟩
  unfold recvTk rAt
  rw [if_pos (show h - 1 < 30 by omega)]
  icases Ht with ⟨Hcr, Htok⟩
  icases Hr with ⟨Hat, Hrdr⟩
  iapply (wp_waitRecv A B K Ks c k (h - 1) (by omega) (owedAll c n) hall' _ Q) $$ [Hcr Hat HO]
  · isplitr; · iexact Hrec
    isplitl [Hcr]; · iexact Hcr
    isplitl [Hat] <;> iassumption
  iintro ⟨Hat, #Hre, Hhold, HO⟩
  unfold sslot
  icases Hs with ⟨Hf, Hsat, #Hsr⟩
  iapply (wp_keepStage A B c k h h1 hh C hC n hn _ Q) $$ [Hhold Hf Ho]
  · isplitl [Hhold]; · iexact Hhold
    isplitl [Hf] <;> iassumption
  iintro ⟨Hhold, Hsh, Ho⟩
  imod (give_back A B K Ks c k (h - 1) (by omega) (val A B (h - 1) (bck k c) k)) $$ [Hat Hrdr Hhold] with ⟨Hr, #Hrd'⟩
  · isplitr; · iexact Hrec
    isplitl [Hat]; · iexact Hat
    isplitr; · iexact Hre
    isplitl [Hrdr]; · iexact Hrdr
    isplitl [Hhold]; · iexact Hhold
    iexact Hrd
  rw [hsplit]
  iapply (wp_credit A B K Ks c k h h1 (by omega) _ _ Q) $$ [Htok HO]
  · isplitr; · iexact Hrec
    isplitl [Htok]
    · rw [show h - 1 + 1 = h by omega]; iexact Htok
    isplitr
    · rw [show h + 2 = h - 1 + 3 by omega]; iexact Hrd'
    iexact HO
  iintro HO
  iapply (wp_hear A B K Ks c k h h1 hh _ hmid _ Q) $$ [Hct Hhd HO]
  · isplitr; · iexact Hrec
    isplitl [Hct]; · iexact Hct
    isplitl [Hhd]; · iexact Hhd
    isplitr; · iexact Hfro
    iexact HO
  iintro ⟨Hct, Hhd, #Hfree, HO⟩
  ihave Hst' := (ico_take (sendTk c k) hh) $$ Hst
  icases Hst' with ⟨Htk, Hst⟩
  iapply (wp_start A B K Ks c k h hh _ p Q) $$ [Hsh Htk HO]
  · isplitr; · iexact Hrec
    isplitl [Hsh]; · iexact Hsh
    isplitl [Htk]; · iexact Htk
    isplitr; · iexact Hfree
    isplitr; · iexact Hsr
    iexact HO
  iintro ⟨Hcs, HO⟩
  iapply Hk
  isplitr [Ho HO]
  · rw [show h + 1 - 1 = h by omega]
    isplitl [Hst]; · iexact Hst
    isplitl [Hrt]
    · rw [show h - 1 + 1 = h by omega]; iexact Hrt
    isplitl [Hct]; · iexact Hct
    isplitl [Hs1]; · iexact Hs1
    isplitl [Hcs Hsat]
    · unfold sAt sfly
      rw [if_neg (by omega), show h + 1 + 1 - 2 = h by omega]
      isplitl [Hcs] <;> iassumption
    isplitl [Hr1]
    · rw [show h - 1 + 1 = h by omega]; iexact Hr1
    isplitl [Hr]
    · unfold rAt; rw [show h - 1 + 2 = h + 1 by omega]; iexact Hr
    isplitr
    · rw [show h + 2 = h - 1 + 3 by omega]; iexact Hrd'
    isplitl [Hhd]; · iexact Hhd
    iexact Hfro
  isplitl [Ho]; · iexact Ho
  rw [owedAll_update]; iexact HO

theorem wp_hop0 (c : Dev nD) (k : Fin 8) (C : Fin 16 → Prop) (hC : C (chunk c k 0))
    (n : Fin 8 → ℕ) (hn : n k = 0) (p : Code F) (Q : PUnit → sProp 𝕄) :
    iprop(records A B K Ks ∗ stream c k 0 ∗ outs A B c C n ∗ ow c (owedAll c n))
      ⊢ iprop((stream c k 1 ∗ outs A B c C (Function.update n k 1) ∗ ow c (owedAll c (Function.update n k 1)) -∗ wpc c p Q)
          -∗ wpc c (hop0 oM sM rM cc0_scratch2 cc0_scratch3 c k p) Q) := by
  have hsplit : owedAll c n = ((∑ k' ∈ Finset.univ.erase k, owedT c k' (n k')) + owedT c k 1) + tallyAt (recvCell (fro k c) k (par 0)) 0 N := by
    rw [owedAll_at c n k, hn, owedT_0]; ac_rfl
  unfold hop0 stream stage outs
  rw [dif_pos rfl, hsplit]
  iintro ⟨#Hrec, ⟨Hst, Hrt, Hct, Hs, Hs1, Hr, Hr1, #Hrd, Hhd, #Hfro⟩, ⟨%f, %hf, Ho⟩, HO⟩ Hk
  ihave Hs' : iprop(sslot c k 0) $$ [Hs]
  · iapply (Entails.of_eq (sAt_slot c k (show 0 < 2 by omega))); iexact Hs
  unfold sslot
  icases Hs' with ⟨Hf, Hsat, #Hsr⟩
  iapply (wp_getOut c k _ (tileOff_eq c k 0) f _ Q) $$ Ho; iintro Ho
  have hv : shapeCast S48x384 (tileRead f k (chunk c k (Fin.castSucc 0))) shapeCasts_S48x384_S48x384 = val A B 0 c k := by
    have hd : ¬ done (Fin.castSucc (0 : Fin 15)) (n k) := by unfold done; rw [if_neg (by decide), hn]; decide
    rw [((hf k _).2 hd) hC]; rfl
  rw [hv]
  iapply (wp_putSend c k (par 0) _ _ Q) $$ Hf; iintro Hsh
  ihave Hst' := (ico_take (sendTk c k) (show 0 < 30 by omega)) $$ Hst
  icases Hst' with ⟨Htk, Hst⟩
  iapply (wp_start A B K Ks c k 0 (by omega) _ p Q) $$ [Hsh Htk HO]
  · isplitr; · iexact Hrec
    isplitl [Hsh]; · iexact Hsh
    isplitl [Htk]; · iexact Htk
    isplitr
    · iapply (ready_at (fro k c) k (n := 2) (h := 0) (by omega)); iexact Hfro
    isplitr; · iexact Hsr
    iexact HO
  iintro ⟨Hcs, HO⟩
  iapply Hk
  isplitr [Ho HO]
  · isplitl [Hst]; · iexact Hst
    isplitl [Hrt]; · iexact Hrt
    isplitl [Hct]; · iexact Hct
    isplitl [Hs1]; · iexact Hs1
    isplitl [Hcs Hsat]
    · unfold sAt
      rw [if_neg (by omega)]
      unfold sfly
      isplitl [Hcs] <;> iassumption
    isplitl [Hr]; · iexact Hr
    isplitl [Hr1]; · iexact Hr1
    isplitr; · iexact Hrd
    isplitl [Hhd]; · iexact Hhd
    iexact Hfro
  isplitl [Ho]
  · iexists f
    isplitr
    swap
    · iexact Ho
    ipureintro
    have := hf.skip k fun r hr => by unfold done at hr ⊢; rw [hn] at hr; split at hr <;> omega
    rw [hn] at this; exact this
  rw [owedAll_update]; iexact HO

theorem wp_finish (c : Dev nD) (k : Fin 8) (C : Fin 16 → Prop) (n : Fin 8 → ℕ) (hn : n k = 30) (hn' : ∀ k', 30 ≤ n k') (hlt : ∀ k' < k, n k' = 31)
    (p : Code F) (Q : PUnit → sProp 𝕄) :
    iprop(records A B K Ks ∗ stream c k 30 ∗ outs A B c C n ∗ ow c (owedAll c n))
      ⊢ iprop((ended c k ∗ outs A B c C (Function.update n k 31) ∗ ow c (owedAll c (Function.update n k 31)) -∗ wpc c p Q)
          -∗ wpc c (finish oM sM rM cc0_scratch2 cc0_scratch3 cc0_scratch4 c k p) Q) := by
  have hall : Above 32 (owedAll c n) := Above.sum _ fun k' _ => (above_owedT c k' (n k')).mono (by have := hn' k'; omega)
  have hsplit : owedAll c n = ((∑ k' ∈ Finset.univ.erase k, owedT c k' (n k')) + owedT c k 31) + tallyAt (credCell (bck k c) k) 30 1 := by
    rw [owedAll_at c n k, hn, owedT_31, owedT_30, add_zero]
  have hrest : Above (33 + k.val) ((∑ k' ∈ Finset.univ.erase k, owedT c k' (n k')) + owedT c k 31) := by
    rw [owedT_31, add_zero]
    refine Above.sum _ fun k' hk' => ?_
    have hne := Finset.ne_of_mem_erase hk'
    rcases Nat.lt_or_ge 30 (n k') with h | h
    · rw [show owedT c k' (n k') = 0 from by
        unfold owedT; rw [Finset.Ico_eq_empty (by omega), Finset.Ico_eq_empty (by omega), Finset.sum_empty, Finset.sum_empty, add_zero]]
      exact Above.zero _
    · rw [show n k' = 30 from le_antisymm h (hn' k'), owedT_30]
      have hkk : k.val < k'.val := by
        rcases lt_trichotomy k k' with h1 | h1 | h1
        · exact h1
        · exact absurd h1.symm hne
        · have := hlt k' h1; omega
      exact Above.tally (by rw [L_tc]; exact Finset.mem_range.mpr (by omega)) (by rw [lv_cred, if_pos rfl]; omega)
  unfold finish stream ended
  iintro ⟨#Hrec, ⟨-, Hrt, Hct, Hs, Hs1, Hr, Hr1, #Hrd, Hhd, -⟩, Ho, HO⟩ Hk
  rw [show 30 - 1 = 29 from rfl, show 30 - 2 = 28 from rfl, show 29 + 1 = 30 from rfl, show 30 + 1 = 31 from rfl]
  ihave Hrt' := (ico_take (recvTk c k) (show 29 < 30 by omega)) $$ Hrt
  icases Hrt' with ⟨Ht, -⟩
  ihave Hct' := (ico_take (credTk c k) (show 28 < 30 by omega)) $$ Hct
  icases Hct' with ⟨Hc1, Hct⟩
  ihave Hct' := (ico_take (credTk c k) (show 29 < 30 by omega)) $$ Hct
  icases Hct' with ⟨Hc2, -⟩
  unfold recvTk credTk
  icases Ht with ⟨Hcr, Htok⟩
  ihave Hr' : iprop(atPos ER (recvCell c k (par 29)) (29 / 2) ∅ 0 ∗ readerAt ES (c, k, par 29) (29 / 2 + 1)) $$ [Hr]
  · unfold rAt; rw [if_pos (show 29 < 30 by omega)]; iexact Hr
  icases Hr' with ⟨Hat, Hrdr⟩
  iapply (wp_waitRecv A B K Ks c k 29 (by omega) (owedAll c n) hall _ Q) $$ [Hcr Hat HO]
  · isplitr; · iexact Hrec
    isplitl [Hcr]; · iexact Hcr
    isplitl [Hat] <;> iassumption
  iintro ⟨Hat, #Hre, Hhold, HO⟩
  iapply (wp_keep A B c k 30 (by omega) (by omega) C n hn _ Q) $$ [Hhold Ho]
  · isplitl [Hhold] <;> iassumption
  iintro ⟨Hhold, Ho⟩
  imod (give_back A B K Ks c k 29 (by omega) (val A B 29 (bck k c) k)) $$ [Hat Hrdr Hhold] with ⟨Hr, -⟩
  · isplitr; · iexact Hrec
    isplitl [Hat]; · iexact Hat
    isplitr; · iexact Hre
    isplitl [Hrdr]; · iexact Hrdr
    isplitl [Hhold]; · iexact Hhold
    iexact Hrd
  rw [hsplit]
  iapply (wp_credit A B K Ks c k 30 (by omega) (by omega) _ _ Q) $$ [Htok HO]
  · isplitr; · iexact Hrec
    isplitl [Htok]; · iexact Htok
    isplitr; · iexact Hrd
    iexact HO
  iintro HO
  ihave Hs' : iprop(sfly c k 28) $$ [Hs]
  · iapply (Entails.of_eq (sAt_fly c k 28)); iexact Hs
  ihave Hs1' : iprop(sfly c k 29) $$ [Hs1]
  · iapply (Entails.of_eq (sAt_fly c k 29)); iexact Hs1
  unfold sfly
  icases Hs' with ⟨Hsc, Hsat⟩
  icases Hs1' with ⟨Hsc1, Hsat1⟩
  iapply (wp_waitSend A B K Ks c k 28 (by omega) _ (hrest.mono (by omega)) _ Q) $$ [Hsc Hsat HO]
  · isplitr; · iexact Hrec
    isplitl [Hsc]; · iexact Hsc
    isplitl [Hsat] <;> iassumption
  iintro ⟨Hsat, -, Hf, HO⟩
  iapply (wp_waitSend A B K Ks c k 29 (by omega) _ (hrest.mono (by omega)) _ Q) $$ [Hsc1 Hsat1 HO]
  · isplitr; · iexact Hrec
    isplitl [Hsc1]; · iexact Hsc1
    isplitl [Hsat1] <;> iassumption
  iintro ⟨Hsat1, -, Hf1, HO⟩
  iapply (wp_lastCredit A B K Ks c k _ hrest p Q) $$ [Hc1 Hc2 Hhd HO]
  · isplitr; · iexact Hrec
    isplitl [Hc1]; · iexact Hc1
    isplitl [Hc2]; · iexact Hc2
    isplitl [Hhd] <;> iassumption
  iintro ⟨Hca, HO⟩
  iapply Hk
  isplitr [Ho HO]
  · isplitl [Hf Hsat]
    · isplitl [Hf] <;> iassumption
    isplitl [Hf1 Hsat1]
    · isplitl [Hf1] <;> iassumption
    isplitl [Hr1]; · iexact Hr1
    isplitl [Hr]; · iexact Hr
    iexact Hca
  isplitl [Ho]; · iexact Ho
  rw [owedAll_update]; iexact HO

end Cert.KernelIdeal.Ring
-- ==== Proof.KernelIdeal.Meet.lean ====
/- The start: every device frees its receive slots and tells both its neighbours, who may send then. -/
module

public import proofs.«01_k».proof.Proof.KernelIdeal.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-- What a stream is launched with. -/
def seed (c : Dev nD) (k : Fin 8) : sProp 𝕄 :=
  iprop(bigSep (Finset.Ico 0 30) (sendTk c k) ∗ bigSep (Finset.Ico 0 30) (recvTk c k) ∗ bigSep (Finset.Ico 0 30) (credTk c k)
    ∗ (free sM c k (par 0) ∗ atPos ER (sendCell c k (par 0)) 0 ∅ 0) ∗ (free sM c k (par 1) ∗ atPos ER (sendCell c k (par 1)) 0 ∅ 0)
    ∗ (free rM c k (par 0) ∗ atPos ER (recvCell c k (par 0)) 0 ∅ 0 ∗ readerAt ES (c, k, par 0) 0)
    ∗ (free rM c k (par 1) ∗ atPos ER (recvCell c k (par 1)) 0 ∅ 0 ∗ readerAt ES (c, k, par 1) 0)
    ∗ atPos ER (credCell c k) 0 ∅ 0)

/-- A stream before its first hop, but for its receiver's word. -/
def stream0 (c : Dev nD) (k : Fin 8) : sProp 𝕄 :=
  iprop(bigSep (Finset.Ico 0 30) (sendTk c k) ∗ bigSep (Finset.Ico 0 30) (recvTk c k) ∗ bigSep (Finset.Ico 0 30) (credTk c k)
    ∗ sAt c k 0 ∗ sAt c k 1 ∗ rAt c k 0 ∗ rAt c k 1 ∗ ready c k 2 ∗ heardC c k 0)

theorem stream0_stream (c : Dev nD) (k : Fin 8) : iprop(stream0 (F := F) c k ∗ ready (fro k c) k 2) ⊢ stream c k 0 := by
  unfold stream0 stream
  iintro ⟨⟨H1, H2, H3, H4, H5, H6, H7, H8, H9⟩, H⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H

variable (A : Dev nD → AC F) (B : Dev nD → BC F) (K : Dev nD × CK → ℕ) (Ks : Key → ℕ)

/-- A receive slot freed for its first tile. -/
theorem open_slot (c : Dev nD) (k : Fin 8) (h : ℕ) (hh : h < 2) :
    iprop(records A B K Ks ∗ free rM c k (par h) ∗ atPos ER (recvCell c k (par h)) 0 ∅ 0 ∗ readerAt ES (c, k, par h) 0)
      ⊢ |={Set.univ}=> iprop(rAt c k h ∗ free1 c k h) := by
  unfold rAt free1
  rw [if_pos (show h < 30 by omega), show h / 2 = 0 by omega]
  iintro ⟨#Hrec, Hf, Hat, Hrd⟩
  ihave #Hsl := (records_slot A B K Ks (c, k, par h)) $$ Hrec
  ihave #Hz := (records_zero A B K Ks (c, kRecv k (par h))) $$ Hrec
  imod (slot_release ES (Set.mem_univ (Ks (c, k, par h))) (slot_excl c k (par h)) 0) $$ [Hrd Hf] with ⟨Hrd, #Hrel⟩
  · isplitr; · iexact Hsl
    isplitl [Hrd] <;> iassumption
  imodintro
  isplitl [Hat Hrd]
  · isplitl [Hat] <;> iassumption
  isplitr; · iexact Hrel
  iexact Hz

omit [FloatOps F] in
theorem ready_two (c : Dev nD) (k : Fin 8) : iprop(free1 (F := F) c k 0 ∗ free1 c k 1) ⊢ ready c k 2 := by
  have e : (ready (F := F) c k 0) = iprop(emp) := bigSep_empty
  iintro ⟨H0, H1⟩
  iapply (Entails.of_eq (ready_succ c k 1).symm)
  isplitl [H1]; · iexact H1
  iapply (Entails.of_eq (ready_succ c k 0).symm)
  isplitl [H0]; · iexact H0
  iapply (Entails.of_eq e.symm)
  iempintro

theorem open_stream (c : Dev nD) (k : Fin 8) :
    iprop(records A B K Ks ∗ seed c k) ⊢ |={Set.univ}=> iprop(stream0 c k ∗ ready c k 2) := by
  unfold seed stream0
  iintro ⟨#Hrec, H1, H2, H3, ⟨Hf0, Ha0⟩, ⟨Hf1, Ha1⟩, Hr0, Hr1, Hc⟩
  ihave #Hz0 := (records_zero A B K Ks (c, kSend k (par 0))) $$ Hrec
  ihave #Hz1 := (records_zero A B K Ks (c, kSend k (par 1))) $$ Hrec
  imod (open_slot A B K Ks c k 0 (by omega)) $$ [Hr0] with ⟨Hr0, Hw0⟩
  · isplitr; · iexact Hrec
    iexact Hr0
  imod (open_slot A B K Ks c k 1 (by omega)) $$ [Hr1] with ⟨Hr1, Hw1⟩
  · isplitr; · iexact Hrec
    iexact Hr1
  ihave #Hrd := (ready_two (F := F) c k) $$ [Hw0 Hw1]
  · isplitl [Hw0] <;> iassumption
  imodintro
  isplitl
  · isplitl [H1]; · iexact H1
    isplitl [H2]; · iexact H2
    isplitl [H3]; · iexact H3
    isplitl [Hf0 Ha0]
    · iapply (Entails.of_eq (sAt_slot c k (show 0 < 2 by omega)).symm)
      unfold sslot
      isplitl [Hf0]; · iexact Hf0
      isplitl [Ha0]; · iexact Ha0
      iexact Hz0
    isplitl [Hf1 Ha1]
    · iapply (Entails.of_eq (sAt_slot c k (show 1 < 2 by omega)).symm)
      unfold sslot
      isplitl [Hf1]; · iexact Hf1
      isplitl [Ha1]; · iexact Ha1
      iexact Hz1
    isplitl [Hr0]; · iexact Hr0
    isplitl [Hr1]; · iexact Hr1
    isplitr; · iexact Hrd
    unfold heardC
    iexists ∅
    isplitr; · ipureintro; exact Finset.empty_subset _
    isplitl [Hc]; · iexact Hc
    iapply (Entails.of_eq (bigSep_empty (Φ := fun d : ℕ => (ready (fro k c) k (min (d + 2) 30) : sProp 𝕄))).symm)
    iempintro
  iexact Hrd

theorem open_all (c : Dev nD) :
    iprop(records A B K Ks ∗ bigSep Finset.univ (seed c))
      ⊢ |={Set.univ}=> iprop((bigSep Finset.univ (stream0 c)) ∗ bigSep Finset.univ fun k : Fin 8 => ready c k 2) := by
  rw [← bigSep_sep']
  refine (sep_mono_left (BI.bigSep_of_persistent (Finset.univ : Finset (Fin 8)) (records A B K Ks))).trans ?_
  rw [← bigSep_sep']
  exact (bigSep_mono fun k _ => open_stream A B K Ks c k).trans (bigSep_fupd _ _)

theorem rest_bar (c : Dev nD) : bigSep ((Rd A B).duties (barCell c) 0 \ ∅) (fun d => (Rd A B).payload (barCell c) 0 d)
    = iprop((bigSep Finset.univ fun k : Fin 8 => ready (nxt c) k 2) ∗ bigSep Finset.univ fun k : Fin 8 => ready (prv c) k 2) := by
  rw [Finset.sdiff_empty, duties_bar, show ({0, 1} : Finset ℕ) = insert 0 {1} from rfl, bigSep_insert (by decide), bigSep_singleton, payload_bar, payload_bar]
  rfl

/-- What the signals of the neighbours are paid with. -/
def meetTk (c : Dev nD) : sProp 𝕄 :=
  iprop(atPos ER (barCell c) 0 ∅ 0 ∗ cred (tallyAt (barCell c) 0 2) ∗ dutyTok ER (barCell (prv c)) 0 0 ∗ dutyTok ER (barCell (nxt c)) 0 1)

theorem wp_signalTo (c n n' : Dev nD) (d : ℕ) (hd : d = 0 ∨ d = 1) (hn : n = n') (hc : (if d = 0 then nxt n' else prv n') = c) (O : CellTallies nD τ sig ℕ)
    (p : Code F) (Q : PUnit → sProp 𝕄) :
    iprop(records A B K Ks ∗ dutyTok ER (barCell n') 0 d ∗ (bigSep Finset.univ fun k : Fin 8 => ready c k 2) ∗ ow c (O + tallyAt (barCell n') 0 1))
      ⊢ iprop((ow c O -∗ wpc c p Q) -∗ wpc c (.op (.semSignal (n, Proc.tc) barS (1#32 : BitVec 32).toInt) fun _ => p) Q) := by
  subst hn
  unfold ow
  iintro ⟨#Hrec, Htok, #Hrd, ⟨%W, HO⟩⟩ Hk
  ihave #HI := (records_cell A B K Ks (n, kBar)) $$ Hrec
  ihave #Hz := (records_zero A B K Ks (n, kBar)) $$ Hrec
  iapply (Rounds.wp_signal 𝒱₀ ER (Rd A B) (c : Thread nD τ) none (dst := (n : Thread nD τ)) (κ := K (n, kBar)) (r := 0)
      (d := d) (by rw [duties_bar]; rcases hd with rfl | rfl <;> decide) ((amount_bar A B n 0 d).trans (by decide)) 0 O rfl) $$ [HO Htok]
  · isplitr; · iexact HI
    isplitl [HO]; · iexact HO
    isplitl [Htok]; · iexact Htok
    isplitr
    · rw [payload_bar, hc]; iexact Hrd
    iexact Hz
  iintro HO
  iapply Hk
  iexists W; iexact HO

theorem wp_meet (c : Dev nD) (p : Code F) (Q : PUnit → sProp 𝕄) :
    iprop(records A B K Ks ∗ bigSep Finset.univ (seed c) ∗ meetTk c ∗ ow c (O₀ c))
      ⊢ iprop((bigSep Finset.univ (fun k => stream c k 0) ∗ atPos ER (barCell c) 1 ∅ 0 ∗ ow c (owedAll c fun _ => 0) -∗ wpc c p Q) -∗ wpc c (meet c p) Q) := by
  have hO : Above 2 (owedAll c fun _ => 0) := Above.sum _ fun k _ => above_owedT c k 0
  unfold meet meetTk O₀
  iintro ⟨#Hrec, Hseed, ⟨Hat, Hcr, Ht0, Ht1⟩, HO⟩ Hk
  imod (open_all A B K Ks c) $$ [Hseed] with ⟨Hs, #Hrd⟩
  · isplitr; · iexact Hrec
    iexact Hseed
  iapply (wp_signalTo A B K Ks c _ (prv c) 0 (Or.inl rfl) (dev1_eq c) ((if_pos rfl).trans (nxt_prv c)) _ _ Q) $$ [Ht0 HO]
  · isplitr; · iexact Hrec
    isplitl [Ht0]; · iexact Ht0
    isplitr; · iexact Hrd
    iexact HO
  iintro HO
  iapply (wp_signalTo A B K Ks c _ (nxt c) 1 (Or.inr rfl) (dev2_eq c) ((if_neg (by decide)).trans (prv_nxt c)) _ _ Q) $$ [Ht1 HO]
  · isplitr; · iexact Hrec
    isplitl [Ht1]; · iexact Ht1
    isplitr; · iexact Hrd
    iexact HO
  iintro HO
  unfold ow
  icases HO with ⟨%W, HO⟩
  ihave #HI := (records_cell A B K Ks (c, kBar)) $$ Hrec
  ihave #Hlev := (records_lev A B K Ks) $$ Hrec
  iapply (Rounds.wp_wait_rest_token 𝒱₀ ER (Rd A B) (c : Thread nD τ) none (κ := K (c, kBar))
      (wpE_semWait_eq 𝒱₀ (c : Thread nD τ) none Set.univ) (Set.mem_univ _) 0 (O := owedAll c fun _ => 0) (W := W) (R := 0) (m := 0) (T := ∅)
      (by rw [expect_bar]; decide)) $$ [Hcr HO Hat]
  · isplitr; · iexact HI
    isplitl [Hcr]; · iexact Hcr
    isplitl [HO]; · iexact HO
    isplitr
    · iapply (levs_wait (c := c) (sm := SemLoc.reg barS) (i := 0) (by omega) (ℓ := 2) (by show lv (barCell c) 0 < 2; rw [lv_bar]; decide) hO); iexact Hlev
    iexact Hat
  iintro ⟨HO, Hat, -, Hpay⟩
  ihave Hp := (Entails.of_eq (rest_bar A B c)) $$ Hpay
  icases Hp with ⟨#Hn, #Hp⟩
  iapply Hk
  isplitl [Hs]
  · have h1 (k : Fin 8) : (bigSep Finset.univ fun k : Fin 8 => (ready (nxt c) k 2 : sProp 𝕄)) ⊢ ready (nxt c) k 2 := bigSep_elim (Finset.mem_univ k)
    have h2 (k : Fin 8) : (bigSep Finset.univ fun k : Fin 8 => (ready (prv c) k 2 : sProp 𝕄)) ⊢ ready (prv c) k 2 := bigSep_elim (Finset.mem_univ k)
    have h (k : Fin 8) : iprop(((bigSep Finset.univ fun k : Fin 8 => (ready (nxt c) k 2 : sProp 𝕄)) ∗ bigSep Finset.univ fun k : Fin 8 => (ready (prv c) k 2 : sProp 𝕄)) ∗ stream0 c k)
        ⊢ stream c k 0 := by
      iintro ⟨⟨H1, H2⟩, H⟩
      iapply (stream0_stream c k)
      isplitl [H]; · iexact H
      unfold fro
      by_cases e : k.val % 2 = 0
      · rw [if_pos e]; iapply (h1 k); iexact H1
      · rw [if_neg e]; iapply (h2 k); iexact H2
    iapply ((sep_mono_left (BI.bigSep_of_persistent Finset.univ _)).trans
      ((Entails.of_eq (bigSep_sep' Finset.univ _ _).symm).trans (bigSep_mono fun k _ => h k)))
    isplitr
    · isplitr; · iexact Hn
      iexact Hp
    iexact Hs
  isplitl [Hat]; · iexact Hat
  iexists _; iexact HO

end Cert.KernelIdeal.Ring
-- ==== Proof.KernelIdeal.Rows.lean ====
/- The whole kernel on one device: the meeting, the hops of all streams, their ends. -/
module

public import proofs.«01_k».proof.Proof.KernelIdeal.Meet

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## All streams, one after another -/

/-- The first `j` streams at `b`, the others at `a`. -/
def upto (j a b : ℕ) : Fin 8 → ℕ := fun k => if k.val < j then b else a

theorem upto_0 (a b : ℕ) : upto 0 a b = fun _ => a := funext fun _ => if_neg (Nat.not_lt_zero _)
theorem upto_8 (a b : ℕ) : upto 8 a b = fun _ => b := funext fun k => if_pos k.isLt
theorem upto_self (k : Fin 8) (a b : ℕ) : upto k.val a b k = a := if_neg (Nat.lt_irrefl _)
theorem upto_succ (k : Fin 8) (a b : ℕ) : Function.update (upto k.val a b) k b = upto (k.val + 1) a b := by
  funext k'
  unfold upto
  by_cases e : k' = k
  · subst e; rw [Function.update_self, if_pos (Nat.lt_succ_self _)]
  · rw [Function.update_of_ne e]
    have : k'.val ≠ k.val := fun h => e (Fin.ext h)
    split <;> split <;> first | rfl | omega
theorem upto_le (j a b : ℕ) (h : a ≤ b) (k : Fin 8) : a ≤ upto j a b k := by unfold upto; split <;> omega

/-- The streams' states, the first `j` of them past this round. -/
def mixed (Sa Sb : Fin 8 → sProp 𝕄) (j : ℕ) : sProp 𝕄 := bigSep Finset.univ fun k : Fin 8 => if k.val < j then Sb k else Sa k

omit [FloatOps F] in
theorem mixed_0 (Sa Sb : Fin 8 → sProp 𝕄) : mixed Sa Sb 0 = bigSep Finset.univ Sa :=
  bigSep_congr fun _ _ => if_neg (Nat.not_lt_zero _)
omit [FloatOps F] in
theorem mixed_8 (Sa Sb : Fin 8 → sProp 𝕄) : mixed Sa Sb 8 = bigSep Finset.univ Sb :=
  bigSep_congr fun k _ => if_pos k.isLt

omit [FloatOps F] in
theorem mixed_take (Sa Sb : Fin 8 → sProp 𝕄) (k : Fin 8) :
    mixed Sa Sb k.val ⊢ iprop(Sa k ∗ bigSep (Finset.univ.erase k) fun k' : Fin 8 => if k'.val < k.val then Sb k' else Sa k') := by
  unfold mixed
  refine (Entails.of_eq (bigSep_univ_at _ k)).trans (sep_mono_left (Entails.of_eq (if_neg (Nat.lt_irrefl _))))

omit [FloatOps F] in
theorem mixed_put (Sa Sb : Fin 8 → sProp 𝕄) (k : Fin 8) :
    iprop(Sb k ∗ bigSep (Finset.univ.erase k) fun k' : Fin 8 => if k'.val < k.val then Sb k' else Sa k') ⊢ mixed Sa Sb (k.val + 1) := by
  have e : (bigSep (Finset.univ.erase k) fun k' : Fin 8 => if k'.val < k.val then Sb k' else Sa k')
      = bigSep (Finset.univ.erase k) fun k' : Fin 8 => if k'.val < k.val + 1 then Sb k' else Sa k' := bigSep_congr fun k' hk' => by
    have : k'.val ≠ k.val := fun h => Finset.ne_of_mem_erase hk' (Fin.ext h)
    by_cases h : k'.val < k.val
    · rw [if_pos h, if_pos (by omega)]
    · rw [if_neg h, if_neg (by omega)]
  have e' : mixed Sa Sb (k.val + 1) = iprop(Sb k ∗ bigSep (Finset.univ.erase k) fun k' : Fin 8 => if k'.val < k.val + 1 then Sb k' else Sa k') := by
    unfold mixed; rw [bigSep_univ_at _ k, if_pos (Nat.lt_succ_self _)]
  rw [e, e']

variable (A : Dev nD → AC F) (B : Dev nD → BC F) (K : Dev nD × CK → ℕ) (Ks : Key → ℕ)

/-- What the streams share. -/
def shared (c : Dev nD) (C : Fin 16 → Prop) (n : Fin 8 → ℕ) : sProp 𝕄 := iprop(outs A B c C n ∗ ow c (owedAll c n))

theorem wp_each (c : Dev nD) (C : Fin 16 → Prop) (f : Fin 8 → Code F → Code F) (Sa Sb : Fin 8 → sProp 𝕄) (a b : ℕ) (Q : PUnit → sProp 𝕄)
    (step : ∀ (k : Fin 8) (p : Code F), iprop(records A B K Ks ∗ Sa k ∗ shared A B c C (upto k.val a b))
      ⊢ iprop((Sb k ∗ shared A B c C (Function.update (upto k.val a b) k b) -∗ wpc c p Q) -∗ wpc c (f k p) Q)) (p : Code F) :
    iprop(records A B K Ks ∗ bigSep Finset.univ Sa ∗ shared A B c C fun _ => a)
      ⊢ iprop((bigSep Finset.univ Sb ∗ (shared A B c C fun _ => b) -∗ wpc c p Q) -∗ wpc c (each f p) Q) := by
  have one (k : Fin 8) (p : Code F) : iprop(records A B K Ks ∗ mixed Sa Sb k.val ∗ shared A B c C (upto k.val a b))
      ⊢ iprop((mixed Sa Sb (k.val + 1) ∗ shared A B c C (upto (k.val + 1) a b) -∗ wpc c p Q) -∗ wpc c (f k p) Q) := by
    iintro ⟨#Hrec, Hs, Hx⟩ Hk
    ihave Hs' := (mixed_take Sa Sb k) $$ Hs
    icases Hs' with ⟨Hk', Hrest⟩
    iapply (step k p) $$ [Hk' Hx]
    · isplitr; · iexact Hrec
      isplitl [Hk'] <;> iassumption
    iintro ⟨Hk', Hx⟩
    iapply Hk
    isplitl [Hk' Hrest]
    · iapply (mixed_put Sa Sb k)
      isplitl [Hk'] <;> iassumption
    iapply (Entails.of_eq (congrArg (shared A B c C) (upto_succ k a b))); iexact Hx
  rw [← mixed_0 Sa Sb, ← mixed_8 Sa Sb, ← upto_0 a b, ← upto_8 a b]
  unfold each
  iintro ⟨#Hrec, Hs⟩ Hk
  iapply (one 0) $$ [Hs]
  · isplitr; · iexact Hrec
    iexact Hs
  iintro Hs
  iapply (one 1) $$ [Hs]
  · isplitr; · iexact Hrec
    iexact Hs
  iintro Hs
  iapply (one 2) $$ [Hs]
  · isplitr; · iexact Hrec
    iexact Hs
  iintro Hs
  iapply (one 3) $$ [Hs]
  · isplitr; · iexact Hrec
    iexact Hs
  iintro Hs
  iapply (one 4) $$ [Hs]
  · isplitr; · iexact Hrec
    iexact Hs
  iintro Hs
  iapply (one 5) $$ [Hs]
  · isplitr; · iexact Hrec
    iexact Hs
  iintro Hs
  iapply (one 6) $$ [Hs]
  · isplitr; · iexact Hrec
    iexact Hs
  iintro Hs
  iapply (one 7) $$ [Hs]
  · isplitr; · iexact Hrec
    iexact Hs
  iintro Hs
  iapply Hk; iexact Hs

/-! ## The chunks -/

theorem Got.mono {d : Dev nD} {h h' : ℕ} (hh : h ≤ h') {q : Fin 16} : Got d h q → Got d h' q := fun ⟨j, hj, e⟩ => ⟨j, hj.trans hh, e⟩

theorem got_step (d : Dev nD) (h : ℕ) (h1 : 1 ≤ h) (h8 : h ≤ 8) (q : Fin 16) (hq : Got d h q) :
    Got d (h - 1) q ∨ q = pos d - ⟨h, by omega⟩ ∨ q = pos d + ⟨h, by omega⟩ := by
  obtain ⟨j, hj, e⟩ := hq
  rcases Nat.lt_or_ge j.val h with hl | hl
  · exact Or.inl ⟨j, by omega, e⟩
  · have ej : j.castLE (by decide) = (⟨h, by omega⟩ : Fin 16) := Fin.ext (by show j.val = h; omega)
    rw [ej] at e
    exact Or.inr e

theorem got_last (d : Dev nD) (h : ℕ) (h9 : 9 ≤ h) (q : Fin 16) (hq : Got d h q) : Got d (h - 1) q := by
  obtain ⟨j, hj, e⟩ := hq
  exact ⟨j, by have := j.isLt; omega, e⟩

theorem opposite (p : Fin 16) : p + 8 = p - 8 := by revert p; decide

/-- The two inputs' buffers. -/
def ins (c : Dev nD) : sProp 𝕄 := iprop(aPts c (A c) ∗ bPts c (B c))

theorem wp_rows (c : Dev nD) (q : Fin 16) (C : Fin 16 → Prop) (n : Fin 8 → ℕ) (hn : ∀ k, n k < 16) {offA offO : Fin 2 → ℕ}
    {hA : ∀ a, offA a + S96x768.size a ≤ S1536x768.size a} {hO : ∀ a, offO a + S96x1536.size a ≤ S1536x1536.size a}
    (eA : offA = rowsAt q) (eO : offO = rowsAt q) (p : Code F) (Q : PUnit → sProp 𝕄) :
    iprop(ins A B c ∗ outs A B c C n)
      ⊢ iprop((ins A B c ∗ outs A B c (fun q' => C q' ∨ q' = q) n -∗ wpc c p Q) -∗ wpc c (compute aM bM oM offA offO hA hO p) Q) := by
  unfold ins outs
  iintro ⟨⟨Ha, Hb⟩, %f, %hf, Ho⟩ Hk
  iapply (wp_compute A B c q eA eO f p Q) $$ [Ha Hb Ho]
  · isplitl [Ha]; · iexact Ha
    isplitl [Hb] <;> iassumption
  iintro ⟨Ha, Hb, Ho⟩
  iapply Hk
  isplitl [Ha Hb]
  · isplitl [Ha] <;> iassumption
  iexists _
  isplitr
  swap
  · iexact Ho
  ipureintro
  exact hf.rows q hn

omit [FloatOps F] in
theorem outs_mono [FloatOps F] (c : Dev nD) {C C' : Fin 16 → Prop} (n : Fin 8 → ℕ) (h : ∀ q, C' q → C q) : outs A B c C n ⊢ outs A B c C' n := by
  unfold outs
  iintro ⟨%f, %hf, Ho⟩
  iexists f
  isplitr; · ipureintro; exact hf.mono h
  iexact Ho

theorem wp_chunks (c : Dev nD) (h : ℕ) (h1 : 1 ≤ h) (p : Code F) (Q : PUnit → sProp 𝕄) :
    iprop(ins A B c ∗ outs A B c (Got c (h - 1)) fun _ => h)
      ⊢ iprop((ins A B c ∗ (outs A B c (Got c h) fun _ => h) -∗ wpc c p Q) -∗ wpc c (chunks aM bM oM c h p) Q) := by
  unfold chunks
  beta_reduce
  iintro ⟨Hi, Ho⟩ Hk
  by_cases h8 : h ≤ 8
  · have hs : (⟨h - 1 + 1, by omega⟩ : Fin 16) = ⟨h, by omega⟩ := Fin.ext (Nat.sub_add_cancel h1)
    have hx : (1 ≤ h ∧ h ≤ 8) := ⟨h1, h8⟩
    have e7 := off7_eq c ⟨h - 1, by omega⟩
    have e8 := off8_eq c ⟨h - 1, by omega⟩
    rw [dif_pos hx]
    iapply (wp_rows A B c _ (Got c (h - 1)) (fun _ => h) (fun _ => by omega) e7 e8 _ Q) $$ [Hi Ho]
    · isplitl [Hi] <;> iassumption
    iintro ⟨Hi, Ho⟩
    by_cases h7 : h ≤ 7
    · have hy : (1 ≤ h ∧ h ≤ 7) := ⟨h1, h7⟩
      have e9 := off9_eq c ⟨h - 1, by omega⟩
      have e10 := off10_eq c ⟨h - 1, by omega⟩
      rw [dif_pos hy]
      iapply (wp_rows A B c _ _ (fun _ => h) (fun _ => by omega) e9 e10 _ Q) $$ [Hi Ho]
      · isplitl [Hi] <;> iassumption
      iintro ⟨Hi, Ho⟩
      iapply Hk
      isplitl [Hi]; · iexact Hi
      have hm : ∀ q, Got c h q → (Got c (h - 1) q ∨ q = pos c - ⟨h - 1 + 1, by omega⟩) ∨ q = pos c + ⟨h - 1 + 1, by omega⟩ := fun q hq => by
        rw [hs]; exact or_assoc.mpr (got_step c h h1 h8 q hq)
      iapply (outs_mono A B c (fun _ => h) hm)
      iexact Ho
    · have hy : ¬ (1 ≤ h ∧ h ≤ 7) := fun ⟨_, e⟩ => h7 e
      rw [dif_neg hy]
      iapply Hk
      isplitl [Hi]; · iexact Hi
      have hm : ∀ q, Got c h q → Got c (h - 1) q ∨ q = pos c - ⟨h - 1 + 1, by omega⟩ := fun q hq => by
        have h8' : (⟨h, by omega⟩ : Fin 16) = 8 := Fin.ext (by show h = 8; omega)
        have hg := got_step c h h1 h8 q hq
        rw [h8', opposite, _root_.or_self] at hg
        rw [hs, h8']; exact hg
      iapply (outs_mono A B c (fun _ => h) hm)
      iexact Ho
  · rw [dif_neg (fun e : 1 ≤ h ∧ h ≤ 8 => h8 e.2), dif_neg (fun e : 1 ≤ h ∧ h ≤ 7 => h8 (by omega))]
    iapply Hk
    isplitl [Hi]; · iexact Hi
    iapply (outs_mono A B c (fun _ => h) fun q hq => got_last c h (by omega) q hq)
    iexact Ho

/-! ## The rows -/

/-- All streams before hop `h`. -/
def before (c : Dev nD) (h : ℕ) : sProp 𝕄 :=
  iprop(ins A B c ∗ bigSep Finset.univ (fun k => stream c k h) ∗ shared A B c (Got c (h - 1)) fun _ => h)

theorem wp_row (c : Dev nD) (h : ℕ) (h1 : 1 ≤ h) (hh : h < 30) (p : Code F) (Q : PUnit → sProp 𝕄) :
    iprop(records A B K Ks ∗ before A B c h)
      ⊢ iprop((before A B c (h + 1) -∗ wpc c p Q) -∗ wpc c (row aM bM oM sM rM cc0_scratch2 cc0_scratch3 cc0_scratch4 c h p) Q) := by
  have step (k : Fin 8) (p : Code F) : iprop(records A B K Ks ∗ stream c k h ∗ shared A B c (Got c h) (upto k.val h (h + 1)))
      ⊢ iprop((stream c k (h + 1) ∗ shared A B c (Got c h) (Function.update (upto k.val h (h + 1)) k (h + 1)) -∗ wpc c p Q)
        -∗ wpc c (hop oM sM rM cc0_scratch2 cc0_scratch3 cc0_scratch4 c k h p) Q) := by
    unfold shared
    exact wp_hop A B K Ks c k h h1 hh (Got c h) (fun r hr => (got_chunk c k r).mono hr) _ (upto_self k _ _) (upto_le _ _ _ (by omega)) p Q
  unfold row before
  iintro ⟨#Hrec, Hi, Hs, Hx⟩ Hk
  unfold shared
  icases Hx with ⟨Ho, HO⟩
  iapply (wp_chunks A B c h h1 _ Q) $$ [Hi Ho]
  · isplitl [Hi] <;> iassumption
  iintro ⟨Hi, Ho⟩
  iapply (wp_each A B K Ks c (Got c h) _ (fun k => stream c k h) (fun k => stream c k (h + 1)) h (h + 1) Q step p) $$ [Hs Ho HO]
  · isplitr; · iexact Hrec
    isplitl [Hs]; · iexact Hs
    unfold shared
    isplitl [Ho] <;> iassumption
  iintro ⟨Hs, Hx⟩
  iapply Hk
  isplitl [Hi]; · iexact Hi
  isplitl [Hs]; · iexact Hs
  rw [Nat.add_sub_cancel]
  unfold shared
  iexact Hx

theorem wp_rowsFrom (c : Dev nD) (Q : PUnit → sProp 𝕄) : ∀ (n h : ℕ), 1 ≤ h → h + n ≤ 30 → ∀ p : Code F,
    iprop(records A B K Ks ∗ before A B c h)
      ⊢ iprop((before A B c (h + n) -∗ wpc c p Q) -∗ wpc c (rows aM bM oM sM rM cc0_scratch2 cc0_scratch3 cc0_scratch4 c n h p) Q) := by
  intro n
  induction n with
  | zero =>
    intro h _ _ p
    unfold rows
    iintro ⟨-, Hb⟩ Hk
    iapply Hk; iexact Hb
  | succ n ih =>
    intro h h1 hn p
    unfold rows
    iintro ⟨#Hrec, Hb⟩ Hk
    iapply (wp_row A B K Ks c h h1 (by omega) _ Q) $$ [Hb]
    · isplitr; · iexact Hrec
      iexact Hb
    iintro Hb
    iapply (ih (h + 1) (by omega) (by omega) p) $$ [Hb]
    · isplitr; · iexact Hrec
      iexact Hb
    iintro Hb
    iapply Hk
    rw [show h + (n + 1) = h + 1 + n by omega]
    iexact Hb

/-! ## The whole body -/

/-- A stream's slots and cells when all is over. -/
def closed (c : Dev nD) (k : Fin 8) : sProp 𝕄 :=
  iprop((free sM c k 0 ∗ semVal (sendCell c k 0) 0) ∗ (free sM c k 1 ∗ semVal (sendCell c k 1) 0)
    ∗ (free rM c k 0 ∗ semVal (recvCell c k 0) 0) ∗ (free rM c k 1 ∗ semVal (recvCell c k 1) 0) ∗ semVal (credCell c k) 0)

theorem close_stream (c : Dev nD) (k : Fin 8) : iprop(records A B K Ks ∗ ended c k) ⊢ |={Set.univ}=> closed c k := by
  unfold ended closed rAt
  rw [if_neg (show ¬ 30 < 30 by omega), if_neg (show ¬ 31 < 30 by omega), show par 28 = 0 from rfl, show par 29 = 1 from rfl, show par 30 = 0 from rfl,
    show par 31 = 1 from rfl, show 30 / 2 = 15 from rfl]
  iintro ⟨#Hrec, ⟨Hf0, Ha0⟩, ⟨Hf1, Ha1⟩, ⟨Hb0, Hg0⟩, ⟨Hb1, Hg1⟩, Hc⟩
  ihave #I1 := (records_cell A B K Ks (c, kSend k 0)) $$ Hrec
  ihave #I2 := (records_cell A B K Ks (c, kSend k 1)) $$ Hrec
  ihave #I3 := (records_cell A B K Ks (c, kRecv k 0)) $$ Hrec
  ihave #I4 := (records_cell A B K Ks (c, kRecv k 1)) $$ Hrec
  ihave #I5 := (records_cell A B K Ks (c, kCred k)) $$ Hrec
  imod (Rounds.cell_close ER (Rd A B) (Set.mem_univ (K (c, kSend k 0))) (fun h => h) (R := 15) (duties_send_later A B c k 0)) $$ [Ha0] with Ha0
  · isplitr; · iexact I1
    iexact Ha0
  imod (Rounds.cell_close ER (Rd A B) (Set.mem_univ (K (c, kSend k 1))) (fun h => h) (R := 15) (duties_send_later A B c k 1)) $$ [Ha1] with Ha1
  · isplitr; · iexact I2
    iexact Ha1
  imod (Rounds.cell_close ER (Rd A B) (Set.mem_univ (K (c, kRecv k 0))) (fun h => h) (R := 15) (duties_recv_later A B c k 0)) $$ [Hb0] with Hb0
  · isplitr; · iexact I3
    iexact Hb0
  imod (Rounds.cell_close ER (Rd A B) (Set.mem_univ (K (c, kRecv k 1))) (fun h => h) (R := 15) (duties_recv_later A B c k 1)) $$ [Hb1] with Hb1
  · isplitr; · iexact I4
    iexact Hb1
  imod (Rounds.cell_close ER (Rd A B) (Set.mem_univ (K (c, kCred k))) (fun h => h) (R := 1) (duties_cred_later A B c k)) $$ [Hc] with Hc
  · isplitr; · iexact I5
    iexact Hc
  imodintro
  isplitl [Hf0 Ha0]; · isplitl [Hf0] <;> iassumption
  isplitl [Hf1 Ha1]; · isplitl [Hf1] <;> iassumption
  isplitl [Hg0 Hb0]; · isplitl [Hg0] <;> iassumption
  isplitl [Hg1 Hb1]; · isplitl [Hg1] <;> iassumption
  iexact Hc

theorem close_all (c : Dev nD) :
    iprop(records A B K Ks ∗ bigSep Finset.univ (ended c)) ⊢ |={Set.univ}=> bigSep Finset.univ (closed (F := F) c) := by
  refine (sep_mono_left (BI.bigSep_of_persistent (Finset.univ : Finset (Fin 8)) (records A B K Ks))).trans ?_
  rw [← bigSep_sep']
  exact (bigSep_mono fun k _ => close_stream A B K Ks c k).trans (bigSep_fupd _ _)

theorem wp_body (c : Dev nD) (f : OC F) (Q : PUnit → sProp 𝕄) :
    iprop(records A B K Ks ∗ (bigSep Finset.univ (seed c) ∗ meetTk c ∗ ow c (O₀ c)) ∗ ins A B c ∗ oPts c f)
      ⊢ iprop((bigSep Finset.univ (closed c) ∗ semVal (barCell c) 0 ∗ ins A B c ∗ (outs A B c (Got c 29) fun _ => 31) ∗ ow c 0 -∗ Q ⟨⟩)
          -∗ wpc c (body aM bM oM sM rM cc0_scratch2 cc0_scratch3 cc0_scratch4) Q) := by
  have step0 (k : Fin 8) (p : Code F) : iprop(records A B K Ks ∗ stream c k 0 ∗ shared A B c (Got c 0) (upto k.val 0 1))
      ⊢ iprop((stream c k 1 ∗ shared A B c (Got c 0) (Function.update (upto k.val 0 1) k 1) -∗ wpc c p Q)
        -∗ wpc c (hop0 oM sM rM cc0_scratch2 cc0_scratch3 c k p) Q) := by
    unfold shared
    exact wp_hop0 A B K Ks c k (Got c 0) (got_chunk c k 0) _ (upto_self k _ _) p Q
  have stepN (k : Fin 8) (p : Code F) : iprop(records A B K Ks ∗ stream c k 30 ∗ shared A B c (Got c 29) (upto k.val 30 31))
      ⊢ iprop((ended c k ∗ shared A B c (Got c 29) (Function.update (upto k.val 30 31) k 31) -∗ wpc c p Q)
        -∗ wpc c (finish oM sM rM cc0_scratch2 cc0_scratch3 cc0_scratch4 c k p) Q) := by
    unfold shared
    exact wp_finish A B K Ks c k (Got c 29) _ (upto_self k _ _) (upto_le _ _ _ (by omega)) (fun k' hk => if_pos hk) p Q
  have hgood : Good A B c (fun _ => False) (fun _ => 0) f := fun k r =>
    ⟨fun h => by unfold done at h; dsimp only at h; split at h <;> omega, fun _ h => h.elim⟩
  have hfirst : ∀ q, Got c 0 q → False ∨ q = pos c := fun q ⟨j, hj, e⟩ => by
    have ej : j.castLE (by decide) = (0 : Fin 16) := Fin.ext (by show j.val = 0; omega)
    have h0 : ∀ p : Fin 16, p - 0 = p ∧ p + 0 = p := by decide
    rw [ej] at e
    exact Or.inr (e.elim (fun e => e.trans (h0 _).1) fun e => e.trans (h0 _).2)
  have hdev (p : Dev nD → Code F) : wpc c (.op .deviceId p) Q = wpc c (p c) Q := wp_deviceId ..
  unfold body
  rw [hdev]
  iintro ⟨#Hrec, Hst, Hi, Ho⟩ Hk
  iapply (wp_meet A B K Ks c _ Q) $$ [Hst]
  · isplitr; · iexact Hrec
    iexact Hst
  iintro ⟨Hs, Hbar, HO⟩
  iapply (wp_rows A B c (pos c) (fun _ => False) (fun _ => 0) (fun _ => by omega) (off1_eq c) (off2_eq c) _ Q) $$ [Hi Ho]
  · isplitl [Hi]; · iexact Hi
    unfold outs
    iexists f
    isplitr; · ipureintro; exact hgood
    iexact Ho
  iintro ⟨Hi, Ho⟩
  iapply (wp_each A B K Ks c (Got c 0) _ (fun k => stream c k 0) (fun k => stream c k 1) 0 1 Q step0 _) $$ [Hs Ho HO]
  · isplitr; · iexact Hrec
    isplitl [Hs]; · iexact Hs
    unfold shared
    isplitl [Ho]
    · iapply (outs_mono A B c (fun _ => 0) hfirst)
      iexact Ho
    iexact HO
  iintro ⟨Hs, Hx⟩
  iapply (wp_rowsFrom A B K Ks c Q 29 1 (by omega) (by omega) _) $$ [Hi Hs Hx]
  · isplitr; · iexact Hrec
    unfold before
    isplitl [Hi]; · iexact Hi
    isplitl [Hs] <;> iassumption
  iintro Hb
  unfold before
  icases Hb with ⟨Hi, Hs, Hx⟩
  iapply (wp_each A B K Ks c (Got c 29) _ (fun k => stream c k 30) (fun k => ended c k) 30 31 Q stepN _) $$ [Hs Hx]
  · isplitr; · iexact Hrec
    isplitl [Hs]; · iexact Hs
    iexact Hx
  iintro ⟨Hs, Hx⟩
  unfold shared
  icases Hx with ⟨Ho, HO⟩
  imod (close_all A B K Ks c) $$ [Hs] with Hs
  · isplitr; · iexact Hrec
    iexact Hs
  ihave #HI := (records_cell A B K Ks (c, kBar)) $$ Hrec
  imod (Rounds.cell_close ER (Rd A B) (Set.mem_univ (K (c, kBar))) (fun h => h) (R := 1) (duties_bar_later A B c)) $$ [Hbar] with Hbar
  · isplitr; · iexact HI
    iexact Hbar
  have hz : owedAll c (fun _ => 31) = 0 := by
    unfold owedAll; exact Finset.sum_eq_zero fun k _ => owedT_31 c k
  rw [wp_ret]
  imodintro
  iapply Hk
  isplitl [Hs]; · iexact Hs
  isplitl [Hbar]; · iexact Hbar
  isplitl [Hi]; · iexact Hi
  isplitl [Ho]; · iexact Ho
  rw [← hz]; iexact HO

end Cert.KernelIdeal.Ring
-- ==== Proof.KernelIdeal.Result.lean ====
/- The result array in closed form. -/
module

public import proofs.«01_k».proof.Proof.KernelIdeal.Content

@[expose] public section

noncomputable section

namespace Cert.KernelIdeal.Ring

open Idealize.ShloMosaic Idealize.ShloMosaic.TcCoe
open Idealize.SL Idealize.SL.Sem
open Cert.KernelIdeal.Gen

variable {F : FTy → Type} [FloatOps F]

/-- The chunk, the stream, and the place in its tile of an entry of the result. -/
def qOf (i : S1536x1536.Idx) : Fin 16 := ⟨(i 0).val / 96, by have : (i 0).val < 1536 := (i 0).isLt; omega⟩
def kOf (i : S1536x1536.Idx) : Fin 8 :=
  ⟨(i 1).val / 768 + 2 * ((i 0).val % 96 / 48) + 4 * ((i 1).val % 768 / 384), by
    have : (i 1).val < 1536 := (i 1).isLt
    omega⟩
def xOf (i : S1536x1536.Idx) : S48x384.Idx :=
  Shape.pair (d := ![48, 384]) ⟨(i 0).val % 48, Nat.mod_lt _ (by decide)⟩ ⟨(i 1).val % 384, Nat.mod_lt _ (by decide)⟩

theorem digits {j m l : Nat} (hj : j < 2) (hm : m < 2) (hl : l < 2) :
    (j + 2 * m + 4 * l) % 2 = j ∧ (j + 2 * m + 4 * l) / 2 % 2 = m ∧ (j + 2 * m + 4 * l) / 4 = l := by
  refine ⟨by omega, by omega, by omega⟩

theorem row_place (a : Nat) : 96 * (a / 96) + 48 * (a % 96 / 48) + 1 * (a % 48) = a := by omega
theorem col_place (b : Nat) : 768 * (b / 768) + 384 * (b % 768 / 384) + 1 * (b % 384) = b := by omega

theorem emb_xOf (i : S1536x1536.Idx) : (tileRect (kOf i) (qOf i)).emb (xOf i) = i := by
  have h1 : (i 1).val < 1536 := (i 1).isLt
  obtain ⟨d1, d2, d3⟩ := digits (j := (i 1).val / 768) (m := (i 0).val % 96 / 48) (l := (i 1).val % 768 / 384)
    (by omega) (by omega) (by omega)
  have hk : (kOf i).val = (i 1).val / 768 + 2 * ((i 0).val % 96 / 48) + 4 * ((i 1).val % 768 / 384) := rfl
  funext a; apply Fin.ext
  fin_cases a
  · show 96 * ((i 0).val / 96) + 48 * ((kOf i).val / 2 % 2) + 1 * ((i 0).val % 48) = (i 0).val
    rw [hk, d2]; exact row_place _
  · show 768 * ((kOf i).val % 2) + 384 * ((kOf i).val / 4) + 1 * ((i 1).val % 384) = (i 1).val
    rw [hk, d1, d3]; exact col_place _

/-- How many steps up a stream a chunk is. -/
def stepsTo (d : Dev nD) (k : Fin 8) (q : Fin 16) : Fin 16 := if k.val % 2 = 0 then pos d - q else q - pos d

theorem chunk_steps (d : Dev nD) (k : Fin 8) (q : Fin 16) : chunk d k (stepsTo d k q) = q := by
  have h1 : ∀ p q : Fin 16, p - (p - q) = q := by decide +kernel
  have h2 : ∀ p q : Fin 16, p + (q - p) = q := by decide +kernel
  unfold chunk stepsTo
  split
  · exact h1 _ _
  · exact h2 _ _

variable (A : Dev nD → AC F) (B : Dev nD → BC F)

/-- What device `d` ends with. -/
def outAt (d : Dev nD) : OC F := fun i => fin A B d (kOf i) (stepsTo d (kOf i) (qOf i)) (xOf i)

theorem Good.all {d : Dev nD} {C : Fin 16 → Prop} {f : OC F} (h : Good A B d C (fun _ => 31) f) : f = outAt A B d := by
  funext i
  have hd : done (stepsTo d (kOf i) (qOf i)) 31 := by
    have := (stepsTo d (kOf i) (qOf i)).isLt
    unfold done; split
    · decide
    · rename_i hr
      have : (stepsTo d (kOf i) (qOf i)).val ≠ 15 := fun e => hr (Fin.ext e)
      omega
  have h1 := congrFun ((h (kOf i) (stepsTo d (kOf i) (qOf i))).1 hd) (xOf i)
  rw [chunk_steps] at h1
  have h2 : tileRead f (kOf i) (qOf i) (xOf i) = f i := congrArg f (emb_xOf i)
  exact h2.symm.trans h1

end Cert.KernelIdeal.Ring
-- ==== Proof.KernelIdeal.Deal.lean ====
/- What the launch deals: the ghost state of every cell and slot, and who gets which part of it. -/
module

public import proofs.«01_k».proof.Proof.KernelIdeal.Rows
public import proofs.«01_k».proof.Proof.KernelIdeal.Result

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Cells and tokens -/

theorem kcell_inj : Function.Injective kcell := by
  rintro ⟨c, x⟩ ⟨c', x'⟩ h
  have h1 : c = c' := congrArg (fun g : GSem nD τ sig => g.1.1) h
  have h2 : x = x' := csem_inj (congrArg Prod.snd h)
  rw [h1, h2]

def allCells : Finset (GSem nD τ sig) := Finset.univ.map ⟨kcell, kcell_inj⟩

/-- The payments a device makes: of its hops at the receiver, of its hops at itself, of its credits, of its signals. -/
abbrev TK : Type := ((Fin 8 × Fin 30) ⊕ (Fin 8 × Fin 30)) ⊕ ((Fin 8 × Fin 30) ⊕ Fin 2)

/-- Which cell a payment goes to, in which round, under which name. -/
def tokOf : Dev nD × TK → (Dev nD × CK) × ℕ × ℕ
  | (c, .inl (.inl (k, h))) => ((fro k c, kRecv k (par h)), h.val / 2, 0)
  | (c, .inl (.inr (k, h))) => ((c, kSend k (par h)), h.val / 2, 0)
  | (c, .inr (.inl (k, h))) => ((bck k c, kCred k), 0, h.val + 1)
  | (c, .inr (.inr d)) => ((if d = 0 then prv c else nxt c, kBar), 0, d.val)

theorem fro_inj (k : Fin 8) : Function.Injective (fro k) := Function.LeftInverse.injective (bck_fro k)
theorem bck_inj (k : Fin 8) : Function.Injective (bck k) := Function.LeftInverse.injective (fro_bck k)
theorem prv_inj : Function.Injective prv := Function.LeftInverse.injective nxt_prv
theorem nxt_inj : Function.Injective nxt := Function.LeftInverse.injective prv_nxt

theorem hop_ext {h h' : Fin 30} (e : par h = par h') (e' : h.val / 2 = h'.val / 2) : h = h' := by
  have := congrArg Fin.val e
  have h1 : h.val % 2 = h'.val % 2 := this
  exact Fin.ext (by omega)

theorem tokOf_inj : Function.Injective tokOf := by
  rintro ⟨c, (⟨k, h⟩ | ⟨k, h⟩) | (⟨k, h⟩ | d)⟩ ⟨c', (⟨k', h'⟩ | ⟨k', h'⟩) | (⟨k', h'⟩ | d')⟩ e <;>
    simp only [tokOf, Prod.mk.injEq, Sum.inl.injEq, Sum.inr.injEq, reduceCtorEq, and_false, false_and] at e
  · obtain ⟨⟨ec, ek, ep⟩, eh, -⟩ := e
    subst ek
    rw [fro_inj k ec, hop_ext ep eh]
  · obtain ⟨⟨ec, ek, ep⟩, eh, -⟩ := e
    subst ek
    rw [ec, hop_ext ep eh]
  · obtain ⟨⟨ec, ek⟩, -, eh⟩ := e
    subst ek
    rw [bck_inj k ec, Fin.ext (by omega : h.val = h'.val)]
  · obtain ⟨⟨ec, -⟩, -, ed⟩ := e
    have ed : d = d' := Fin.ext ed
    subst ed
    by_cases hd : d = 0
    · rw [if_pos hd, if_pos hd] at ec; rw [prv_inj ec]
    · rw [if_neg hd, if_neg hd] at ec; rw [nxt_inj ec]

def tokAt (x : Dev nD × TK) : GSem nD τ sig × ℕ × ℕ := (kcell (tokOf x).1, (tokOf x).2)
theorem tokAt_inj : Function.Injective tokAt := fun x y h => by
  have h1 : kcell (tokOf x).1 = kcell (tokOf y).1 := congrArg Prod.fst h
  have h2 : (tokOf x).2 = (tokOf y).2 := congrArg (fun z : GSem nD τ sig × ℕ × ℕ => z.2) h
  exact tokOf_inj (Prod.ext (kcell_inj h1) h2)

def allToks : Finset (GSem nD τ sig × ℕ × ℕ) := Finset.univ.map ⟨tokAt, tokAt_inj⟩

/-- The write a hop makes in its receiver's slot. -/
def writeAt : Dev nD × Fin 8 × Fin 30 → Key × ℕ := fun x => ((fro x.2.1 x.1, x.2.1, par x.2.2), x.2.2.val / 2)
theorem writeAt_inj : Function.Injective writeAt := by
  rintro ⟨c, k, h⟩ ⟨c', k', h'⟩ e
  simp only [writeAt, Prod.mk.injEq] at e
  obtain ⟨⟨ec, ek, ep⟩, eh⟩ := e
  subst ek
  rw [fro_inj k ec, hop_ext ep eh]

/-! ## What a device is dealt -/

/-- The payments and the writes of one stream, -/
def dealt (c : Dev nD) (k : Fin 8) : sProp 𝕄 :=
  iprop(bigSep (Finset.Ico 0 30) (sendTk c k) ∗ bigSep (Finset.Ico 0 30) fun h => dutyTok ER (credCell (bck k c) k) 0 (h + 1))

/-- its places in the rounds of its cells, -/
def places (c : Dev nD) (k : Fin 8) : sProp 𝕄 :=
  iprop((bigSep Finset.univ fun s : Fin 2 => atPos ER (sendCell c k s) 0 ∅ 0) ∗ (bigSep Finset.univ fun s : Fin 2 => atPos ER (recvCell c k s) 0 ∅ 0)
    ∗ atPos ER (credCell c k) 0 ∅ 0)

/-- the readers of its slots, -/
def readers (c : Dev nD) (k : Fin 8) : sProp 𝕄 := bigSep Finset.univ fun s : Fin 2 => readerAt ES (c, k, s) 0

/-- what others will pay it, -/
def dues (c : Dev nD) (k : Fin 8) : sProp 𝕄 :=
  iprop((bigSep (Finset.Ico 0 30) fun h => cred (tallyAt (recvCell c k (par h)) h N)) ∗ bigSep (Finset.Ico 0 30) (credTk c k))

/-- its slots. -/
def slots (m : Memref sig .tc .vmem S8x2x48x384 .f32) (c : Dev nD) (k : Fin 8) : sProp 𝕄 := bigSep Finset.univ fun s : Fin 2 => free m c k s

omit [FloatOps F] in
theorem bigSep_two (Φ : Fin 2 → sProp 𝕄) : bigSep Finset.univ Φ = iprop(Φ 0 ∗ Φ 1) := bigSep_univ_eq_bigSepL [0, 1] (by decide) (by decide) Φ

omit [FloatOps F] in
/-- The hops counted as numbers. -/
theorem bigSep_hops (Φ : ℕ → sProp 𝕄) : (bigSep Finset.univ fun h : Fin 30 => Φ h.val) = bigSep (Finset.Ico 0 30) Φ := by
  rw [show Finset.Ico 0 30 = Finset.univ.map (Fin.valEmbedding (n := 30)) from by decide, bigSep_map]; rfl

omit [FloatOps F] in
theorem seed_intro (c : Dev nD) (k : Fin 8) :
    iprop(dealt c k ∗ places c k ∗ readers c k ∗ dues c k ∗ slots sM c k ∗ slots rM c k) ⊢ seed (F := F) c k := by
  unfold dealt places readers dues slots seed
  rw [show recvTk (F := F) c k = fun h => iprop(cred (tallyAt (recvCell c k (par h)) h N) ∗ dutyTok ER (credCell (bck k c) k) 0 (h + 1)) from rfl,
    bigSep_sep', bigSep_two, bigSep_two, bigSep_two, bigSep_two, bigSep_two, show par 0 = 0 from rfl, show par 1 = 1 from rfl]
  iintro ⟨⟨Hs, Hd⟩, ⟨⟨S0, S1⟩, ⟨R0, R1⟩, C⟩, ⟨Rd0, Rd1⟩, ⟨Hr, Hc⟩, ⟨F0, F1⟩, G0, G1⟩
  isplitl [Hs]; · iexact Hs
  isplitl [Hr Hd]; · isplitl [Hr] <;> iassumption
  isplitl [Hc]; · iexact Hc
  isplitl [F0 S0]; · isplitl [F0] <;> iassumption
  isplitl [F1 S1]; · isplitl [F1] <;> iassumption
  isplitl [G0 R0 Rd0]
  · isplitl [G0]; · iexact G0
    isplitl [R0] <;> iassumption
  isplitl [G1 R1 Rd1]
  · isplitl [G1]; · iexact G1
    isplitl [R1] <;> iassumption
  iexact C

/-! ## The dealing -/

omit [FloatOps F] in
theorem sep_assoc_eq (A B C : sProp 𝕄) : iprop(A ∗ B ∗ C) = iprop((A ∗ B) ∗ C) := by
  have h1 : iprop(A ∗ B ∗ C) ⊢ iprop((A ∗ B) ∗ C) := by
    iintro ⟨A, B, C⟩
    isplitr [C]; · isplitl [A] <;> iassumption
    iexact C
  have h2 : iprop((A ∗ B) ∗ C) ⊢ iprop(A ∗ B ∗ C) := by
    iintro ⟨⟨A, B⟩, C⟩
    isplitl [A]; · iexact A
    isplitl [B] <;> iassumption
  exact BI.equiv_iff.mp ⟨h1, h2⟩

omit [FloatOps F] in
theorem sep_regroup (A B C D : sProp 𝕄) : iprop((A ∗ B) ∗ C ∗ D) = iprop((A ∗ B ∗ C) ∗ D) := by
  have h1 : iprop((A ∗ B) ∗ C ∗ D) ⊢ iprop((A ∗ B ∗ C) ∗ D) := by
    iintro ⟨⟨A, B⟩, C, D⟩
    isplitr [D]
    · isplitl [A]; · iexact A
      isplitl [B] <;> iassumption
    iexact D
  have h2 : iprop((A ∗ B ∗ C) ∗ D) ⊢ iprop((A ∗ B) ∗ C ∗ D) := by
    iintro ⟨⟨A, B, C⟩, D⟩
    isplitl [A B]; · isplitl [A] <;> iassumption
    isplitl [C] <;> iassumption
  exact BI.equiv_iff.mp ⟨h1, h2⟩

omit [FloatOps F] in
/-- The cells of a device, stream by stream and the signal's. -/
theorem bigSep_cells (Φ : CK → sProp 𝕄) : bigSep Finset.univ Φ
    = iprop((bigSep Finset.univ fun k : Fin 8 => iprop((bigSep Finset.univ fun s : Fin 2 => Φ (kSend k s)) ∗ (bigSep Finset.univ fun s : Fin 2 => Φ (kRecv k s)) ∗ Φ (kCred k)))
      ∗ Φ kBar) := by
  rw [bigSep_univ_sum, bigSep_univ_sum, bigSep_univ_sum, bigSep_univ_prod, bigSep_univ_prod, bigSep_sep', bigSep_sep',
    bigSep_univ_eq_bigSepL (I := Unit) [()] (by decide) (by decide)]
  exact sep_regroup _ _ _ _

omit [FloatOps F] in
/-- The payments of a device, stream by stream and the signals'. -/
theorem bigSep_toks (Φ : TK → sProp 𝕄) : bigSep Finset.univ Φ
    = iprop((bigSep Finset.univ fun k : Fin 8 => iprop((bigSep Finset.univ fun h : Fin 30 => Φ (.inl (.inl (k, h)))) ∗ (bigSep Finset.univ fun h : Fin 30 => Φ (.inl (.inr (k, h))))
          ∗ bigSep Finset.univ fun h : Fin 30 => Φ (.inr (.inl (k, h)))))
      ∗ Φ (.inr (.inr 0)) ∗ Φ (.inr (.inr 1))) := by
  rw [bigSep_univ_sum, bigSep_univ_sum, bigSep_univ_sum, bigSep_univ_prod, bigSep_univ_prod, bigSep_univ_prod, bigSep_sep', bigSep_sep', bigSep_two]
  exact sep_regroup _ _ _ _

/-- What the signals are paid with, and a device's place in its own. -/
def signals (c : Dev nD) : sProp 𝕄 :=
  iprop(atPos ER (barCell c) 0 ∅ 0 ∗ dutyTok ER (barCell (prv c)) 0 0 ∗ dutyTok ER (barCell (nxt c)) 0 1)

/-- A device's part. -/
def part0 (c : Dev nD) : sProp 𝕄 :=
  iprop(bigSep Finset.univ (dealt c) ∗ bigSep Finset.univ (places c) ∗ bigSep Finset.univ (readers c) ∗ signals c)

/-- What all know at the start: every cell is at round 0, -/
def zeros : sProp 𝕄 := bigSep Finset.univ fun x : Dev nD × CK => reached ER (kcell x) 0
instance zeros_persistent : BI.Persistent (zeros (F := F)) := by unfold zeros; infer_instance

/-- and every slot has its record. -/
def slotsKnown (Ks : Key → ℕ) : sProp 𝕄 := bigSep Finset.univ fun y : Key => slotInv ES (Ks y) y (free rM y.1 y.2.1 y.2.2)
instance slotsKnown_persistent (Ks : Key → ℕ) : BI.Persistent (slotsKnown (F := F) Ks) := by unfold slotsKnown; infer_instance

omit [FloatOps F] in
/-- The writes a device's hops make, out of all writes. -/
theorem writes_dealt : (bigSep ((Finset.univ : Finset Key) ×ˢ Finset.range 15) fun x => (writeTok ES x.1 (x.2 + 1) : sProp 𝕄))
    ⊢ bigSep Finset.univ fun c : Dev nD => bigSep Finset.univ fun k : Fin 8 => bigSep Finset.univ fun h : Fin 30 => writeTok ES (fro k c, k, par h) (h.val / 2 + 1) := by
  have e : (bigSep (Finset.univ.map ⟨writeAt, writeAt_inj⟩) fun x => (writeTok ES x.1 (x.2 + 1) : sProp 𝕄))
      = bigSep Finset.univ fun c : Dev nD => bigSep Finset.univ fun k : Fin 8 => bigSep Finset.univ fun h : Fin 30 => writeTok ES (fro k c, k, par h) (h.val / 2 + 1) := by
    rw [bigSep_map, bigSep_univ_prod]
    exact bigSep_congr fun c _ => bigSep_univ_prod _
  rw [← e]
  refine bigSep_subset fun x hx => ?_
  obtain ⟨⟨c, k, h⟩, -, rfl⟩ := Finset.mem_map.mp hx
  refine Finset.mem_product.mpr ⟨Finset.mem_univ _, Finset.mem_range.mpr ?_⟩
  show h.val / 2 < 15
  omega

omit [FloatOps F] in
/-- All payments, device by device. -/
theorem toks_dealt : (bigSep allToks fun x => (dutyTok ER x.1 x.2.1 x.2.2 : sProp 𝕄))
    = bigSep Finset.univ fun c : Dev nD => iprop((bigSep Finset.univ fun k : Fin 8 =>
        iprop((bigSep Finset.univ fun h : Fin 30 => dutyTok ER (recvCell (fro k c) k (par h)) (h.val / 2) 0)
          ∗ (bigSep Finset.univ fun h : Fin 30 => dutyTok ER (sendCell c k (par h)) (h.val / 2) 0)
          ∗ bigSep Finset.univ fun h : Fin 30 => dutyTok ER (credCell (bck k c) k) 0 (h.val + 1)))
      ∗ dutyTok ER (barCell (prv c)) 0 0 ∗ dutyTok ER (barCell (nxt c)) 0 1) := by
  unfold allToks
  rw [bigSep_map, bigSep_univ_prod]
  exact bigSep_congr fun c _ => bigSep_toks _

omit [FloatOps F] in
/-- All cells, device by device. -/
theorem cells_dealt (Φ : GSem nD τ sig → sProp 𝕄) : bigSep allCells Φ = bigSep Finset.univ fun c : Dev nD => bigSep Finset.univ fun x : CK => Φ (kcell (c, x)) := by
  unfold allCells; rw [bigSep_map, bigSep_univ_prod]; rfl

omit [FloatOps F] in
theorem dealt_intro (c : Dev nD) (k : Fin 8) :
    iprop(((bigSep Finset.univ fun h : Fin 30 => dutyTok ER (recvCell (fro k c) k (par h)) (h.val / 2) 0)
          ∗ (bigSep Finset.univ fun h : Fin 30 => dutyTok ER (sendCell c k (par h)) (h.val / 2) 0)
          ∗ bigSep Finset.univ fun h : Fin 30 => dutyTok ER (credCell (bck k c) k) 0 (h.val + 1))
        ∗ bigSep Finset.univ fun h : Fin 30 => writeTok ES (fro k c, k, par h) (h.val / 2 + 1))
      ⊢ dealt (F := F) c k := by
  unfold dealt
  rw [show sendTk (F := F) c k = fun h => iprop(dutyTok ER (recvCell (fro k c) k (par h)) (h / 2) 0 ∗ dutyTok ER (sendCell c k (par h)) (h / 2) 0
      ∗ writeTok ES (fro k c, k, par h) (h / 2 + 1)) from rfl, bigSep_sep', bigSep_sep']
  rw [bigSep_hops (F := F) fun h => dutyTok ER (recvCell (fro k c) k (par h)) (h / 2) 0, bigSep_hops (F := F) fun h => dutyTok ER (sendCell c k (par h)) (h / 2) 0,
    bigSep_hops (F := F) fun h => dutyTok ER (credCell (bck k c) k) 0 (h + 1), bigSep_hops (F := F) fun h => writeTok ES (fro k c, k, par h) (h / 2 + 1)]
  iintro ⟨⟨H1, H2, H3⟩, H4⟩
  isplitr [H3]
  · isplitl [H1]; · iexact H1
    isplitl [H2] <;> iassumption
  iexact H3

omit [FloatOps F] in
/-- A device's part, gathered. -/
theorem part0_intro (c : Dev nD) :
    iprop(((bigSep Finset.univ fun k : Fin 8 =>
          iprop((bigSep Finset.univ fun h : Fin 30 => dutyTok ER (recvCell (fro k c) k (par h)) (h.val / 2) 0)
            ∗ (bigSep Finset.univ fun h : Fin 30 => dutyTok ER (sendCell c k (par h)) (h.val / 2) 0)
            ∗ bigSep Finset.univ fun h : Fin 30 => dutyTok ER (credCell (bck k c) k) 0 (h.val + 1)))
        ∗ dutyTok ER (barCell (prv c)) 0 0 ∗ dutyTok ER (barCell (nxt c)) 0 1)
      ∗ (bigSep Finset.univ fun k : Fin 8 => bigSep Finset.univ fun h : Fin 30 => writeTok ES (fro k c, k, par h) (h.val / 2 + 1))
      ∗ (bigSep Finset.univ fun x : CK => atPos ER (kcell (c, x)) 0 ∅ 0)
      ∗ (bigSep Finset.univ (readers c)))
      ⊢ part0 (F := F) c := by
  have hd : iprop((bigSep Finset.univ fun k : Fin 8 =>
          iprop((bigSep Finset.univ fun h : Fin 30 => dutyTok ER (recvCell (fro k c) k (par h)) (h.val / 2) 0)
            ∗ (bigSep Finset.univ fun h : Fin 30 => dutyTok ER (sendCell c k (par h)) (h.val / 2) 0)
            ∗ bigSep Finset.univ fun h : Fin 30 => dutyTok ER (credCell (bck k c) k) 0 (h.val + 1)))
        ∗ (bigSep Finset.univ fun k : Fin 8 => bigSep Finset.univ fun h : Fin 30 => writeTok ES (fro k c, k, par h) (h.val / 2 + 1)))
      ⊢ bigSep Finset.univ (dealt (F := F) c) := by
    rw [← bigSep_sep']; exact bigSep_mono fun k _ => dealt_intro c k
  unfold part0 signals
  rw [bigSep_cells]
  iintro ⟨⟨H1, B0, B1⟩, H2, ⟨H3, B⟩, H4⟩
  isplitl [H1 H2]
  · iapply hd; isplitl [H1] <;> iassumption
  isplitl [H3]; · unfold places; iexact H3
  isplitl [H4]; · iexact H4
  isplitl [B]; · iexact B
  isplitl [B0] <;> iassumption

end Cert.KernelIdeal.Ring
-- ==== Proof.KernelIdeal.Fund.lean ====
/- The records of the cells and slots, made from what the launch gives. -/
module

public import proofs.«01_k».proof.Proof.KernelIdeal.Deal
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (A : Dev nD → AC F) (B : Dev nD → BC F)

/-! ## The launch element -/

def u₀ : UU := (initOf (Pipeline.cells cfgs cellOf_inj) (Pipeline.launchToks cfgs cellOf_inj), (initOf allCells allToks, initSlots Finset.univ 15))

/-- What the launch element deals device `c`. -/
def G (c : Dev nD) : sProp 𝕄 :=
  iprop((∃ Ks, slotsKnown Ks) ∗ zeros ∗ (bigSep Finset.univ fun x : CK => roundState ER (Rd A B) (kcell (c, x)) 0) ∗ part0 c)

/-- What is left of it when the cells' records are made. -/
def G' (c : Dev nD) : sProp 𝕄 :=
  iprop(∃ K : Dev nD × CK → ℕ, ∃ Ks, (bigSep Finset.univ fun x : Dev nD × CK => cellInv ER (Rd A B) (K x) (kcell x)) ∗ zeros ∗ slotsKnown Ks ∗ part0 c)

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem fund_all : BI.own (EC (initOf allCells allToks, initSlots Finset.univ 15)) ⊢ (|={Set.univ}=> bigSep Finset.univ (G A B) : sProp 𝕄) := by
  have hz : bigSep allCells (fun g => (reached ER g 0 : sProp 𝕄)) = zeros := by unfold allCells zeros; rw [bigSep_map]; rfl
  have hr : (bigSep Finset.univ fun y : Key => (readerAt ES y 0 : sProp 𝕄)) = bigSep Finset.univ fun c : Dev nD => bigSep Finset.univ (readers c) := by
    rw [bigSep_univ_prod]; exact bigSep_congr fun c _ => bigSep_univ_prod _
  iintro Hu
  ihave H := (own_pair_emb EC _ _) $$ Hu
  icases H with ⟨HX, HY⟩
  ihave HX : BI.own (ER (initOf allCells allToks)) $$ [HX]
  · unfold ER; iexact HX
  ihave HY : BI.own (ES (initSlots (Finset.univ : Finset Key) 15)) $$ [HY]
  · unfold ES; iexact HY
  imod (Rounds.fund ER (Rd A B) allCells allToks) $$ HX with ⟨Hst, Hr, Hat, Htok⟩
  imod (slots_init ES (Finset.univ : Finset Key) 15 (fun y => free rM y.1 y.2.1 y.2.2)) $$ HY with ⟨%Ks, -, Hsl, Hrd, Hw⟩
  ihave Hst' := (Entails.of_eq (cells_dealt fun g => roundState ER (Rd A B) g 0)) $$ Hst
  ihave Hat' := (Entails.of_eq (cells_dealt fun g => atPos ER g 0 ∅ 0)) $$ Hat
  ihave #Hz := (Entails.of_eq hz) $$ Hr
  ihave Htok' := (Entails.of_eq toks_dealt) $$ Htok
  ihave Hw' := writes_dealt $$ Hw
  ihave Hrd' := (Entails.of_eq hr) $$ Hrd
  ihave #Hs : slotsKnown Ks $$ [Hsl]
  · unfold slotsKnown; iexact Hsl
  imodintro
  have step (c : Dev nD) : iprop(iprop(slotsKnown Ks ∗ zeros) ∗ iprop((bigSep Finset.univ fun x : CK => roundState ER (Rd A B) (kcell (c, x)) 0) ∗
      iprop(((bigSep Finset.univ fun k : Fin 8 =>
          iprop((bigSep Finset.univ fun h : Fin 30 => dutyTok ER (recvCell (fro k c) k (par h)) (h.val / 2) 0)
            ∗ (bigSep Finset.univ fun h : Fin 30 => dutyTok ER (sendCell c k (par h)) (h.val / 2) 0)
            ∗ bigSep Finset.univ fun h : Fin 30 => dutyTok ER (credCell (bck k c) k) 0 (h.val + 1)))
        ∗ dutyTok ER (barCell (prv c)) 0 0 ∗ dutyTok ER (barCell (nxt c)) 0 1)
      ∗ (bigSep Finset.univ fun k : Fin 8 => bigSep Finset.univ fun h : Fin 30 => writeTok ES (fro k c, k, par h) (h.val / 2 + 1))
      ∗ (bigSep Finset.univ fun x : CK => atPos ER (kcell (c, x)) 0 ∅ 0)
      ∗ (bigSep Finset.univ (readers c))))) ⊢ G A B c := by
    unfold G
    iintro ⟨⟨Hs, Hz⟩, Hst, Hp⟩
    isplitl [Hs]; · iexists Ks; iexact Hs
    isplitl [Hz]; · iexact Hz
    isplitl [Hst]; · iexact Hst
    iapply (part0_intro c); iexact Hp
  iapply (with_all fun c _ => step c)
  isplitr
  · isplitr; · iexact Hs
    iexact Hz
  simp only [bigSep_sep']
  isplitl [Hst']; · iexact Hst'
  isplitl [Htok']; · iexact Htok'
  isplitl [Hw']; · iexact Hw'
  isplitl [Hat']; · iexact Hat'
  iexact Hrd'

/-! ## The cells' records -/

/-- A device's own semaphores: sends, receives, credits. -/
abbrev OK : Type := ((Fin 8 × Fin 2) ⊕ (Fin 8 × Fin 2)) ⊕ Fin 8
def osem : OK → SemLoc sig
  | .inl x => csem (.inl x)
  | .inr k => csem (.inr (.inl k))

theorem ownSemFacts : Pipeline.OwnSemFacts cfg0.spec osem := by decide +kernel

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters of a device's cells. -/
theorem counters_eq (c : Dev nD) : (bigSep Finset.univ fun x : CK => (semVal (kcell (c, x)) 0 : sProp 𝕄))
    = iprop(Pipeline.ownSems0 (Ix := ℕ) (Name := ℕ) (U := UU) (Lvl := ℕ) (Val := Elt F) (τ := τ) osem c ∗ unscopedSems0 c) := by
  rw [unscoped_eq]
  unfold Pipeline.ownSems0
  rw [bigSep_univ_sum (α := (Fin 8 × Fin 2) ⊕ (Fin 8 × Fin 2)) (β := Fin 8 ⊕ Unit), bigSep_univ_sum (α := Fin 8) (β := Unit),
    bigSep_univ_sum (α := (Fin 8 × Fin 2) ⊕ (Fin 8 × Fin 2)) (β := Fin 8), bigSep_univ_eq_bigSepL (I := Unit) [()] (by decide) (by decide)]
  exact sep_assoc_eq _ _ _

theorem alloc_cells (c : Dev nD) :
    iprop(Pipeline.ownSems0 (Ix := ℕ) (Name := ℕ) (U := UU) (Lvl := ℕ) (Val := Elt F) (τ := τ) osem c ∗ unscopedSems0 c ∗ G A B c)
      ⊢ |={Set.univ}=> iprop((bigSep Finset.univ fun x : CK => iprop(∃ κ : ℕ, cellInv ER (Rd A B) κ (kcell (c, x)))) ∗ (∃ Ks, slotsKnown Ks) ∗ zeros ∗ part0 c) := by
  have halloc : iprop((bigSep Finset.univ fun x : CK => (semVal (kcell (c, x)) 0 : sProp 𝕄)) ∗ bigSep Finset.univ fun x : CK => roundState ER (Rd A B) (kcell (c, x)) 0)
      ⊢ |={Set.univ}=> bigSep Finset.univ fun x : CK => iprop(∃ κ : ℕ, cellInv ER (Rd A B) κ (kcell (c, x))) := by
    rw [← bigSep_sep']
    exact (bigSep_mono fun x _ => (Rounds.body_intro ER (Rd A B) (kcell (c, x))).trans inv_alloc).trans (bigSep_fupd _ _)
  unfold G
  iintro ⟨Ho, Hu, Hs, Hz, Hst, Hp⟩
  imod halloc $$ [Ho Hu Hst] with HI
  · isplitl [Ho Hu]
    · iapply (Entails.of_eq (counters_eq c).symm)
      isplitl [Ho] <;> iassumption
    iexact Hst
  imodintro
  isplitl [HI]; · iexact HI
  isplitl [Hs]; · iexact Hs
  isplitl [Hz] <;> iassumption

theorem share_cells :
    (bigSep Finset.univ fun c : Dev nD => iprop((bigSep Finset.univ fun x : CK => iprop(∃ κ : ℕ, cellInv ER (Rd A B) κ (kcell (c, x)))) ∗ (∃ Ks, slotsKnown Ks) ∗ zeros ∗ part0 c) : sProp 𝕄)
      ⊢ bigSep Finset.univ (G' A B) := by
  rw [bigSep_sep', ← bigSep_univ_prod (fun x : Dev nD × CK => iprop(∃ κ : ℕ, cellInv ER (Rd A B) κ (kcell x)))]
  iintro ⟨HI, Hrest⟩
  ihave HK := (BI.bigSep_exists_pi Finset.univ (fun (x : Dev nD × CK) (κ : ℕ) => (cellInv ER (Rd A B) κ (kcell x) : sProp 𝕄))) $$ HI
  icases HK with ⟨%K, #HI⟩
  have step (c : Dev nD) : iprop((bigSep Finset.univ fun x : Dev nD × CK => cellInv ER (Rd A B) (K x) (kcell x)) ∗ iprop((∃ Ks, slotsKnown Ks) ∗ zeros ∗ part0 c)) ⊢ G' A B c := by
    unfold G'
    iintro ⟨HI, ⟨%Ks, Hs⟩, Hz, Hp⟩
    iexists K; iexists Ks
    isplitl [HI]; · iexact HI
    isplitl [Hz]; · iexact Hz
    isplitl [Hs] <;> iassumption
  iapply (with_all fun c _ => step c)
  isplitr; · iexact HI
  iexact Hrest

theorem glob : (bigSep Finset.univ fun c => iprop(Pipeline.ownSems0 (Ix := ℕ) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => alloc_cells A B c).trans (bigSep_fupd _ _)).trans (BI.fupd_mono (share_cells A B))

end Cert.KernelIdeal.Ring
-- ==== Proof.KernelIdeal.Parts.lean ====
/- The buffers cut into slots, and what is owed at the launch as what is due. -/
module

public import proofs.«01_k».proof.Proof.KernelIdeal.Fund

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Slots -/

theorem mem_slotRect (k : Fin 8) (s : Fin 2) (i : S8x2x48x384.Idx) : i ∈ (slotRect k s).set ↔ (i 0).val = k.val ∧ (i 1).val = s.val := by
  rw [Rect.mem_set_unit]
  constructor
  · intro h
    have h0 : k.val ≤ (i 0).val ∧ (i 0).val < k.val + 1 := h 0
    have h1 : s.val ≤ (i 1).val ∧ (i 1).val < s.val + 1 := h 1
    omega
  · rintro ⟨h0, h1⟩ a
    fin_cases a
    · exact ⟨h0.ge, h0 ▸ Nat.lt_succ_self _⟩
    · exact ⟨h1.ge, h1 ▸ Nat.lt_succ_self _⟩
    · exact ⟨Nat.zero_le _, by have := (i 2).isLt; exact (Nat.zero_add 48).symm ▸ this⟩
    · exact ⟨Nat.zero_le _, by have := (i 3).isLt; exact (Nat.zero_add 384).symm ▸ this⟩

theorem slotRect_disjoint {x y : Fin 8 × Fin 2} (h : x ≠ y) : Disjoint (slotRect x.1 x.2).set (slotRect y.1 y.2).set :=
  Finset.disjoint_left.mpr fun i hx hy => h (by
    have h1 := (mem_slotRect _ _ i).mp hx
    have h2 := (mem_slotRect _ _ i).mp hy
    exact Prod.ext (Fin.ext (h1.1.symm.trans h2.1)) (Fin.ext (h1.2.symm.trans h2.2)))

theorem slotRect_cover (i : S8x2x48x384.Idx) : ∃ x : Fin 8 × Fin 2, i ∈ (slotRect x.1 x.2).set :=
  ⟨(⟨(i 0).val, (i 0).isLt⟩, ⟨(i 1).val, (i 1).isLt⟩), (mem_slotRect _ _ i).mpr ⟨rfl, rfl⟩⟩

omit [FloatOps F] in
/-- A buffer is its parts. -/
theorem parts_eq {ℓ : Loc nD τ sig} (J : Fin 8 × Fin 2 → Finset (Idx ℓ)) (hd : ∀ x y, x ≠ y → Disjoint (J x) (J y)) (hc : ∀ i, ∃ x, i ∈ J x)
    (f₀ : Buf (Elt F) ℓ) :
    (iprop(∃ f : Buf (Elt F) ℓ, ℓ ↦{fullShare} f) : sProp 𝕄) = bigSep Finset.univ fun k : Fin 8 => bigSep Finset.univ fun s : Fin 2 => slot ℓ (J (k, s)) := by
  have hu : Finset.univ.biUnion J = (Finset.univ : Finset (Idx ℓ)) :=
    Finset.eq_univ_of_forall fun i => Finset.mem_biUnion.mpr ((hc i).imp fun x hx => ⟨Finset.mem_univ _, hx⟩)
  have hJ : ∀ x ∈ (Finset.univ : Finset (Fin 8 × Fin 2)), ∀ y ∈ (Finset.univ : Finset (Fin 8 × Fin 2)), x ≠ y → Disjoint (J x) (J y) := fun x _ y _ => hd x y
  rw [← bigSep_univ_prod fun x : Fin 8 × Fin 2 => (slot ℓ (J x) : sProp 𝕄)]
  have h1 : iprop(∃ f : Buf (Elt F) ℓ, ℓ ↦{fullShare} f) ⊢ (bigSep Finset.univ fun x : Fin 8 × Fin 2 => slot ℓ (J x) : sProp 𝕄) := by
    iintro ⟨%f, H⟩
    have hf : (iprop(ℓ ↦{fullShare} f) : sProp 𝕄) ⊢ bigSep Finset.univ fun x : Fin 8 × Fin 2 => slot ℓ (J x) := by
      have e := pointsTo_biUnion (Ix := ℕ) (Name := ℕ) (U := UU) (Lvl := ℕ) (ℓ := ℓ) (q := fullShare) (f := f) Finset.univ J hJ
      rw [hu] at e
      refine (Entails.of_eq e).trans (bigSep_mono fun x _ => ?_)
      show (iprop(ℓ ↦[J x]{fullShare} f) : sProp 𝕄) ⊢ iprop(∃ f, ℓ ↦[J x]{fullShare} f)
      iintro H; iexists f; iexact H
    iapply hf; iexact H
  have h2 : (bigSep Finset.univ fun x : Fin 8 × Fin 2 => slot ℓ (J x) : sProp 𝕄) ⊢ iprop(∃ f : Buf (Elt F) ℓ, ℓ ↦{fullShare} f) := by
    unfold slot
    iintro H
    haveI : Nonempty (Buf (Elt F) ℓ) := ⟨f₀⟩
    ihave H := (BI.bigSep_exists_pi Finset.univ (fun (x : Fin 8 × Fin 2) (f : Buf (Elt F) ℓ) => (iprop(ℓ ↦[J x]{fullShare} f) : sProp 𝕄))) $$ H
    icases H with ⟨%fs, H⟩
    ihave H := (pointsTo_biUnion_join Finset.univ J fs f₀ hJ) $$ H
    icases H with ⟨%g, -, H⟩
    iexists g
    rw [hu]
    iexact H
  exact BI.equiv_iff.mp ⟨h1, h2⟩

theorem set_send (k : Fin 8) (s : Fin 2) : (slotRef sM k s).view.set = (slotRect k s).set := (slot_set sM k s).trans (View.set_slice_whole _ _)
theorem set_recv (k : Fin 8) (s : Fin 2) : (slotRef rM k s).view.set = (slotRect k s).set := (slot_set rM k s).trans (View.set_slice_whole _ _)

omit [FloatOps F] in
theorem send_parts (c : Dev nD) (f₀ : Buf (Elt F) ((c : Thread nD τ).loc cc0_scratch0)) :
    (iprop(∃ f : Buf (Elt F) ((c : Thread nD τ).loc cc0_scratch0), ((c : Thread nD τ).loc cc0_scratch0) ↦{fullShare} f) : sProp 𝕄) = bigSep Finset.univ (slots sM c) :=
  parts_eq (ℓ := (c : Thread nD τ).loc cc0_scratch0) (fun x => (slotRef sM x.1 x.2).view.set)
    (fun x y h => by rw [set_send, set_send]; exact slotRect_disjoint h) (fun i => (slotRect_cover i).imp fun x hx => by rw [set_send]; exact hx) f₀

omit [FloatOps F] in
theorem recv_parts (c : Dev nD) (f₀ : Buf (Elt F) ((c : Thread nD τ).loc cc0_scratch1)) :
    (iprop(∃ f : Buf (Elt F) ((c : Thread nD τ).loc cc0_scratch1), ((c : Thread nD τ).loc cc0_scratch1) ↦{fullShare} f) : sProp 𝕄) = bigSep Finset.univ (slots rM c) :=
  parts_eq (ℓ := (c : Thread nD τ).loc cc0_scratch1) (fun x => (slotRef rM x.1 x.2).view.set)
    (fun x y h => by rw [set_recv, set_recv]; exact slotRect_disjoint h) (fun i => (slotRect_cover i).imp fun x hx => by rw [set_recv]; exact hx) f₀

/-! ## What is due -/

/-- What others owe one stream, -/
def dueT (c : Dev nD) (k : Fin 8) : CellTallies nD τ sig ℕ :=
  (∑ h ∈ Finset.Ico 0 30, tallyAt (recvCell c k (par h)) h N) + ∑ d ∈ Finset.Ico 1 31, tallyAt (credCell c k) d 1

/-- and one device. -/
def due (c : Dev nD) : CellTallies nD τ sig ℕ := (∑ k, dueT c k) + tallyAt (barCell c) 0 2

def froE (k : Fin 8) : Dev nD ≃ Dev nD := ⟨fro k, bck k, bck_fro k, fro_bck k⟩
def nxtE : Dev nD ≃ Dev nD := ⟨nxt, prv, prv_nxt, nxt_prv⟩

theorem sum_fro (k : Fin 8) (f : Dev nD → CellTallies nD τ sig ℕ) : ∑ d, f (fro k d) = ∑ d, f d := Equiv.sum_comp (froE k) f
theorem sum_bck (k : Fin 8) (f : Dev nD → CellTallies nD τ sig ℕ) : ∑ d, f (bck k d) = ∑ d, f d := Equiv.sum_comp (froE k).symm f
theorem sum_nxt (f : Dev nD → CellTallies nD τ sig ℕ) : ∑ d, f (nxt d) = ∑ d, f d := Equiv.sum_comp nxtE f
theorem sum_prv (f : Dev nD → CellTallies nD τ sig ℕ) : ∑ d, f (prv d) = ∑ d, f d := Equiv.sum_comp nxtE.symm f

theorem sum_up (f : ℕ → CellTallies nD τ sig ℕ) : ∑ d ∈ Finset.Ico 1 31, f d = ∑ h ∈ Finset.Ico 0 30, f (h + 1) := by
  rw [show Finset.Ico 1 31 = (Finset.Ico 0 30).map ⟨(· + 1), Nat.succ_injective⟩ from by decide, Finset.sum_map]; rfl

theorem owedT_due (k : Fin 8) : ∑ d, owedT d k 0 = ∑ d, dueT d k := by
  have h1 := sum_fro k fun d => ∑ h ∈ Finset.Ico 0 30, tallyAt (recvCell d k (par h)) h N
  have h2 := sum_bck k fun d => ∑ e ∈ Finset.Ico 1 31, tallyAt (credCell d k) e 1
  unfold owedT dueT
  rw [Finset.sum_add_distrib, Finset.sum_add_distrib]
  exact congrArg₂ (· + ·) h1 h2

theorem owed_due : ∑ d, O₀ d = ∑ d, due d := by
  unfold O₀ due owedAll
  rw [Finset.sum_add_distrib, Finset.sum_add_distrib, Finset.sum_add_distrib, Finset.sum_comm, Finset.sum_congr rfl fun k _ => owedT_due k, Finset.sum_comm, add_assoc]
  congr 1
  have e1 : ∑ d, tallyAt (barCell (nxt d)) 0 1 = ∑ d, (tallyAt (barCell d) 0 1 : CellTallies nD τ sig ℕ) :=
    sum_nxt fun d => (tallyAt (barCell d) 0 1 : CellTallies nD τ sig ℕ)
  have e2 : ∑ d, tallyAt (barCell (prv d)) 0 1 = ∑ d, (tallyAt (barCell d) 0 1 : CellTallies nD τ sig ℕ) :=
    sum_prv fun d => (tallyAt (barCell d) 0 1 : CellTallies nD τ sig ℕ)
  rw [e1, e2, ← Finset.sum_add_distrib]
  exact Finset.sum_congr rfl fun d _ => tallyAt_add _ _ _ _

theorem tally_own {c : Dev nD} {sm : SemLoc sig} {i n : ℕ} {g : GSem nD τ sig} (h : g.1 ≠ (c : Thread nD τ)) :
    (tallyAt ((c : Thread nD τ), sm) i n : CellTallies nD τ sig ℕ) g = 0 := by
  refine Finsupp.ext fun j => ?_
  rw [tallyAt_apply, if_neg (fun e => h (congrArg Prod.fst e.1))]; rfl

theorem due_own (c : Dev nD) (g : GSem nD τ sig) (hg : due c g ≠ 0) : g.1 = (c.tc : Thread nD τ) := by
  by_contra h
  refine hg ?_
  unfold due dueT
  simp only [Pi.add_apply, Finset.sum_apply, tally_own h, Finset.sum_const_zero, add_zero]

omit [FloatOps F] in
theorem cred_plus (T₁ T₂ : CellTallies nD τ sig ℕ) : (cred (T₁ + T₂) : sProp 𝕄) = iprop(cred T₁ ∗ cred T₂) :=
  BI.equiv_iff.mp ⟨(cred_add _ _).1, (cred_add _ _).2⟩

omit [FloatOps F] in
theorem dues_intro (c : Dev nD) (k : Fin 8) : (cred (dueT c k) : sProp 𝕄) ⊢ dues c k := by
  unfold dueT dues
  rw [cred_plus, Pipeline.cred_finsetSum, sum_up, Pipeline.cred_finsetSum]
  exact BI.Entails.refl _

omit [FloatOps F] in
theorem launch_due (c : Dev nD) : (Pipeline.launchCred O₀ c : sProp 𝕄) ⊢ iprop(bigSep Finset.univ (dues c) ∗ cred (tallyAt (barCell c) 0 2)) := by
  rw [Pipeline.launchCred_of_sum O₀ due owed_due due_own c]
  unfold due
  rw [cred_plus, Pipeline.cred_finsetSum]
  exact sep_mono_left (bigSep_mono fun k _ => dues_intro c k)

end Cert.KernelIdeal.Ring
-- ==== Proof.KernelIdeal.BodyEq.lean ====
/- The kernel's body as printed is the body written out by its structure. -/
module
public import proofs.«01_k».proof.Proof.KernelIdeal.Model
public import Idealize.ShloMosaic.Lib.Pipeline.Regions
@[expose] public section
noncomputable section
namespace Cert.KernelIdeal.Ring
open Idealize.ShloMosaic Idealize.ShloMosaic.TcCoe Idealize.ShloMosaic.Pipeline
open Idealize.SL Idealize.SL.Sem
variable {F : FTy → Type} [FloatOps F]
variable [Facts]
open Facts₀ Facts
theorem body_eq (arg0 : Memref sig .tc .vmem S1536x768 .f32) (harg0 : arg0.IsWhole) (arg1 : Memref sig .tc .vmem S768x1536 .f32) (harg1 : arg1.IsWhole) (arg2 : Memref sig .tc .vmem S1536x1536 .f32) (harg2 : arg2.IsWhole) (arg3 : Memref sig .tc .vmem S8x2x48x384 .f32) (harg3 : arg3.IsWhole) (arg4 : Memref sig .tc .vmem S8x2x48x384 .f32) (harg4 : arg4.IsWhole) (arg5 : DmaSems sig S8x2) (arg6 : DmaSems sig S8x2) (arg7 : Sems sig S8) :
    cc0_body (F := F) arg0 harg0 arg1 harg1 arg2 harg2 arg3 harg3 arg4 harg4 arg5 arg6 arg7
      = body arg0 arg1 arg2 arg3 arg4 arg5 arg6 arg7 := by
  chain_rfl
end Cert.KernelIdeal.Ring
-- ==== Proof.KernelIdeal.Body.lean ====
/- The body of every device, stated as the launch asks for it. -/
module

public import proofs.«01_k».proof.Proof.KernelIdeal.Parts
public import proofs.«01_k».proof.Proof.KernelIdeal.BodyEq

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## Contents -/

/-- A device's blocks of the two factors, as its kernel finds them. -/
def inA (c : Dev nD) : AC F := (win0_0.blk (0 : Fin 1)).view.read (Elt F) (m ((c : Thread nD τ).loc main_arg0))
def inB (c : Dev nD) : BC F := (win0_1.blk (0 : Fin 1)).view.read (Elt F) (m ((c : Thread nD τ).loc main_arg1))

/-! ## The body as the launch needs it -/

/-- What device `c` starts from, -/
def begins (c : Dev nD) : sProp 𝕄 :=
  iprop(G' (inA m) (inB m) c ∗ levs ∗ bigSep Finset.univ (dues c) ∗ cred (tallyAt (barCell c) 0 2))

def Φ₀ (c : Dev nD) : sProp 𝕄 := iprop(begins m c ∗ bigSep Finset.univ (slots sM c) ∗ bigSep Finset.univ (slots rM c))

/-- and what it ends with. -/
def Φ₁ (c : Dev nD) : sProp 𝕄 := iprop(bigSep Finset.univ (closed c) ∗ semVal (barCell c) 0)

def dats (_ : Fin 1) (c : Dev nD) : Dat τ (Elt F) ℕ ℕ UU ℕ cfg0 c where
  A w := m ((cfg0.win w).arr.view.loc (c : Thread nD τ))
  after w _ := match w with
    | ⟨0, _⟩ => inA m c
    | ⟨1, _⟩ => inB m c
    | ⟨2, _⟩ => outAt (inA m) (inB m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt 0 t0_0.succ
    ∗ stg c cc0_stg0_0 (inA m c) ∗ stg c cc0_stg1_0 (inB m c) ∗ stg c cc0_stg2_0 (outAt (inA m) (inB m) c))

theorem before_0 (c : Dev nD) (d) : (dats m 0 c).before (0 : Fin 3) t0_0 d = inA m c := by
  unfold Dat.before; rw [if_pos (fetch_0 t0_0)]; rfl
theorem before_1 (c : Dev nD) (d) : (dats m 0 c).before (1 : Fin 3) t0_0 d = inB m c := by
  unfold Dat.before; rw [if_pos (fetch_1 t0_0)]; rfl

theorem owes_in (c : Dev nD) : (dats m 0 c).owesAt 0 t0_0.castSucc ⊢ ow (F := F) c (O₀ c) := by
  unfold Dat.owesAt Pipeline.owesWithin ow
  iintro ⟨%W, -, HO⟩
  iexists W; iexact HO

theorem owes_out (c : Dev nD) : ow (F := F) c 0 ⊢ (dats m 0 c).owesAt 0 t0_0.succ := by
  unfold Dat.owesAt Pipeline.owesWithin ow
  iintro ⟨%W, HO⟩
  iexists W
  isplitr; · ipureintro; exact fun _ _ => Or.inl trivial
  iexact HO

/-- The streams' part of what a device starts from. -/
theorem seeds_intro (c : Dev nD) :
    iprop(bigSep Finset.univ (dealt c) ∗ bigSep Finset.univ (places c) ∗ bigSep Finset.univ (readers c) ∗ bigSep Finset.univ (dues c)
        ∗ bigSep Finset.univ (slots sM c) ∗ bigSep Finset.univ (slots rM c)) ⊢ bigSep Finset.univ (seed (F := F) c) := by
  rw [← bigSep_sep', ← bigSep_sep', ← bigSep_sep', ← bigSep_sep', ← bigSep_sep']
  exact bigSep_mono fun k _ => seed_intro c k

theorem run_body (c : Dev nD) (Q : PUnit → sProp 𝕄) :
    bodyPre m c ⊢ iprop((bodyPost m c -∗ Q ⟨⟩) -∗ wpc c (body aM bM oM sM rM cc0_scratch2 cc0_scratch3 cc0_scratch4) Q) := by
  have e0 := before_0 m c
  have e1 := before_1 m c
  unfold bodyPre Φ₀ begins G' part0 signals
  simp only [e0, e1]
  iintro ⟨⟨⟨⟨%K, %Ks, HI, Hz, Hsl, Hd, Hp, Hr, Ha, Hb0, Hb1⟩, Hlev, Hdue, Hbc⟩, Hs, Hv⟩, Ho, ⟨%d0, %fa, %efa, HA⟩, ⟨%d1, %fb, %efb, HB⟩, ⟨%d2, %fo, -, HO⟩⟩ Hk
  ihave HO' := (owes_in m c) $$ Ho
  iapply (wp_body (inA m) (inB m) K Ks c fo Q) $$ [HI Hz Hsl Hlev Hd Hp Hr Hdue Hs Hv Ha Hbc Hb0 Hb1 HO' HA HB HO]
  · isplitl [HI Hz Hsl Hlev]
    · unfold records
      isplitl [HI]; · iexact HI
      isplitl [Hz]; · unfold zeros; iexact Hz
      isplitl [Hsl]; · unfold slotsKnown; iexact Hsl
      iexact Hlev
    isplitl [Hd Hp Hr Hdue Hs Hv Ha Hbc Hb0 Hb1 HO']
    · isplitl [Hd Hp Hr Hdue Hs Hv]
      · iapply (seeds_intro c)
        isplitl [Hd]; · iexact Hd
        isplitl [Hp]; · iexact Hp
        isplitl [Hr]; · iexact Hr
        isplitl [Hdue]; · iexact Hdue
        isplitl [Hs] <;> iassumption
      isplitl [Ha Hbc Hb0 Hb1]
      · unfold meetTk
        isplitl [Ha]; · iexact Ha
        isplitl [Hbc]; · iexact Hbc
        isplitl [Hb0] <;> iassumption
      iexact HO'
    isplitl [HA HB]
    · unfold ins aPts bPts
      rw [← efa, ← efb]
      isplitl [HA]; · iexact HA
      iexact HB
    unfold oPts
    iexact HO
  iintro ⟨Hc, Hbar, Hin, Hout, HO⟩
  iapply Hk
  unfold bodyPost Φ₁
  isplitl [Hc Hbar]; · isplitl [Hc] <;> iassumption
  isplitl [HO]; · iapply (owes_out m c); iexact HO
  unfold ins aPts bPts outs oPts
  icases Hin with ⟨HA, HB⟩
  isplitl [HA]
  · iexists _; isplitr; · (ipureintro; rfl)
    iexact HA
  isplitl [HB]
  · iexists _; isplitr; · (ipureintro; rfl)
    iexact HB
  icases Hout with ⟨%f, %hf, Hout⟩
  iexists f
  isplitr; · ipureintro; exact hf.all
  iexact Hout

theorem stage_0 : win0_0.stage (cfg0.slots t0_0 0) = aM := rfl
theorem stage_1 : win0_1.stage (cfg0.slots t0_0 1) = bM := rfl
theorem stage_2 : win0_2.stage (cfg0.slots t0_0 2) = oM := rfl

theorem defs_body : defs₀ (F := F) .tc 0 (t0_0, cfg0.slots t0_0) = body aM bM oM sM rM cc0_scratch2 cc0_scratch3 cc0_scratch4 :=
  (body_eq (F := F) (win0_0.stage (cfg0.slots t0_0 0)) (hstage0_0 0) (win0_1.stage (cfg0.slots t0_0 1)) (hstage0_1 0) (win0_2.stage (cfg0.slots t0_0 2)) (hstage0_2 0)
    sM (Memref.isWhole_whole _) rM (Memref.isWhole_whole _) cc0_scratch2 cc0_scratch3 cc0_scratch4).trans (by rw [stage_0, stage_1, stage_2])

theorem obligation_core (c : Dev nD) :
    bodyPre m c ⊢ wpc c (body aM bM oM sM rM cc0_scratch2 cc0_scratch3 cc0_scratch4) (fun _ => bodyPost m c) := by
  iintro H
  iapply (run_body m c fun _ => bodyPost m c) $$ H
  iintro H; iexact H

theorem after_0 (c : Dev nD) (t) : (dats m 0 c).after (0 : Fin 3) t = inA m c := rfl
theorem after_1 (c : Dev nD) (t) : (dats m 0 c).after (1 : Fin 3) t = inB m c := rfl
theorem after_2 (c : Dev nD) (t) : (dats m 0 c).after (2 : Fin 3) t = outAt (inA m) (inB m) c := rfl
theorem phi_in (c : Dev nD) : (dats m 0 c).Φ t0_0.castSucc = Φ₀ m c := rfl
theorem phi_out (c : Dev nD) : (dats m 0 c).Φ t0_0.succ = Φ₁ c := rfl

theorem body_obligation (c : Dev nD) : BodyObligation (dats (F := F) m 0 c) (defs₀ (F := F)) 𝒱₀ 0 Set.univ := fun t => by
  rw [fin_N0 t]
  rw [bigSep_W0, bigSep_W0]
  simp only [owns_whole_eq]
  rw [defs_body]
  have h := obligation_core m c
  unfold bodyPre bodyPost at h
  rw [phi_in]
  simp only [phi_out, after_0, after_1, after_2]
  refine Entails.trans h (?_ : _ ⊢ _)
  unfold wpc; refine Entails.of_eq ?_
  congr 1

end Cert.KernelIdeal.Ring
-- ==== Proof.KernelIdeal.Launch.lean ====
/- The run of the whole program: every device starts, meets its neighbours, runs the eight streams and stops, with its result
   array holding the reduced and gathered product and its factors unchanged. -/
module

public import proofs.«01_k».proof.Proof.KernelIdeal.Body
public import Idealize.ShloMosaic.Lib.StableHlo.RunHlo
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv ∗ Pipeline.launchCred O₀ c
        ∗ prngReg c (ρ c) ∗ G' (inA m) (inB m) c)
      ⊢ |={Set.univ}=> iprop(begins m c ∗ emp) := by
  iintro ⟨-, Hlev, Hcr, -, HG⟩
  ihave Hc := (launch_due (F := F) c) $$ Hcr
  icases Hc with ⟨HD, HB⟩
  imodintro
  unfold begins
  isplitl
  · isplitl [HG]; · iexact HG
    isplitl [Hlev]; · unfold levs; iexact Hlev
    isplitl [HD] <;> iassumption
  · iempintro

theorem phi0_intro (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  have hf : (iprop(((c : Thread nD τ).loc cc0_scratch0) ↦{fullShare} f) : sProp 𝕄) ⊢ bigSep Finset.univ (slots sM c) := by
    rw [← send_parts c f]; iintro H; iexists f; iexact H
  have hg : (iprop(((c : Thread nD τ).loc cc0_scratch1) ↦{fullShare} g) : sProp 𝕄) ⊢ bigSep Finset.univ (slots rM c) := by
    rw [← recv_parts c g]; iintro H; iexists g; iexact H
  isplitl [Hs]; · iexact Hs
  isplitl [Hf]
  · iapply hf; iexact Hf
  · iapply hg; iexact Hg

/-- One stream's part of what a device ends with. -/
theorem closed_split (c : Dev nD) (k : Fin 8) : closed (F := F) c k
    ⊢ iprop((slots sM c k ∗ slots rM c k) ∗ (bigSep Finset.univ fun s : Fin 2 => semVal (sendCell c k s) 0)
      ∗ (bigSep Finset.univ fun s : Fin 2 => semVal (recvCell c k s) 0) ∗ semVal (credCell c k) 0) := by
  unfold closed slots
  rw [bigSep_two, bigSep_two, bigSep_two, bigSep_two]
  iintro ⟨⟨F0, S0⟩, ⟨F1, S1⟩, ⟨G0, R0⟩, ⟨G1, R1⟩, C⟩
  isplitl [F0 F1 G0 G1]
  · isplitl [F0 F1]
    · isplitl [F0] <;> iassumption
    · isplitl [G0] <;> iassumption
  isplitl [S0 S1]
  · isplitl [S0] <;> iassumption
  isplitl [R0 R1]
  · isplitl [R0] <;> iassumption
  iexact C

omit [FloatOps F] in
theorem own_eq (c : Dev nD) : (Pipeline.ownSems0 (Ix := ℕ) (Name := ℕ) (U := UU) (Lvl := ℕ) (Val := Elt F) (τ := τ) osem c : sProp 𝕄)
    = iprop(((bigSep Finset.univ fun k : Fin 8 => bigSep Finset.univ fun s : Fin 2 => semVal (sendCell c k s) 0)
      ∗ bigSep Finset.univ fun k : Fin 8 => bigSep Finset.univ fun s : Fin 2 => semVal (recvCell c k s) 0)
      ∗ bigSep Finset.univ fun k : Fin 8 => semVal (credCell c k) 0) := by
  unfold Pipeline.ownSems0
  rw [bigSep_univ_sum (α := (Fin 8 × Fin 2) ⊕ (Fin 8 × Fin 2)) (β := Fin 8), bigSep_univ_sum (α := Fin 8 × Fin 2) (β := Fin 8 × Fin 2),
    bigSep_univ_prod, bigSep_univ_prod]
  rfl

theorem phi1_exit (c : Dev nD) :
    (dats m 0 c).Φ (Fin.last cfg0.N) ⊢ iprop(unscopedSems0 c ∗ Pipeline.ownSems0 osem c ∗ Pipeline.scopedRest cfg0.spec c) := by
  have hs : (bigSep Finset.univ (closed (F := F) c)) ⊢ iprop(((bigSep Finset.univ fun k => slots (F := F) sM c k) ∗ bigSep Finset.univ fun k => slots (F := F) rM c k)
      ∗ (bigSep Finset.univ fun k : Fin 8 => bigSep Finset.univ fun s : Fin 2 => semVal (sendCell c k s) 0)
      ∗ (bigSep Finset.univ fun k : Fin 8 => bigSep Finset.univ fun s : Fin 2 => semVal (recvCell c k s) 0)
      ∗ bigSep Finset.univ fun k : Fin 8 => semVal (credCell c k) 0) := by
    rw [← bigSep_sep', ← bigSep_sep', ← bigSep_sep', ← bigSep_sep']
    exact bigSep_mono fun k _ => closed_split c k
  rw [show (dats m 0 c).Φ (Fin.last cfg0.N) = Φ₁ c from rfl, scopedRest0_eq, own_eq, unscoped_eq]
  unfold Φ₁
  rw [show (iprop(∃ f : Buf (Elt F) ((c : Thread nD τ).loc cc0_scratch0), ((c : Thread nD τ).loc cc0_scratch0) ↦{fullShare} f) : sProp 𝕄) = _ from send_parts c (m _),
    show (iprop(∃ f : Buf (Elt F) ((c : Thread nD τ).loc cc0_scratch1), ((c : Thread nD τ).loc cc0_scratch1) ↦{fullShare} f) : sProp 𝕄) = _ from recv_parts c (m _)]
  iintro ⟨Hc, Hb⟩
  ihave H := hs $$ Hc
  icases H with ⟨⟨H1, H2⟩, H3, H4, H5⟩
  isplitl [Hb]; · iexact Hb
  isplitl [H3 H4 H5]
  · isplitl [H3 H4]
    · isplitl [H3] <;> iassumption
    · iexact H5
  · isplitl [H1]
    · iexact H1
    · iexact H2

/-! ## The waits of the staging copies -/

theorem above_start (c : Dev nD) : Above 1 (O₀ c) := by
  have hb (d : Dev nD) : Above 1 (tallyAt (barCell d) 0 1) := Above.tally (by rw [L_tc]; decide) (by rw [lv_bar])
  unfold O₀ owedAll
  exact ((Above.sum _ fun k _ => (above_owedT c k 0).mono (by omega)).add (hb _)).add (hb _)

/-- A semaphore that is none of the ring's is below all of them. -/
theorem lv_other (c : Dev nD) (q : DmaSem sig) (h : ∀ x : CK, csem x ≠ .dma q) (i : ℕ) : lv ((c : Thread nD τ), .dma q) i = 0 := by
  have hk : kindOf ((c : Thread nD τ), .dma q) = none := by
    unfold kindOf
    rw [if_pos rfl]
    unfold Function.partialInv
    exact dif_neg fun ⟨x, hx⟩ => h x hx
  unfold lv; rw [hk]; rfl

omit [FloatOps F] in
theorem may_stage (c : Dev nD) (q : DmaSem sig) (h : ∀ x : CK, csem x ≠ .dma q) (O : CellTallies nD τ sig ℕ) (hO : O = O₀ c ∨ O = 0) :
    (levAts L lv : sProp 𝕄) ⊢ MayWait (c : Thread nD τ) (.dma q) 0 O := by
  refine may_wait (ℓ := 1) (by omega) (by rw [lv_other c q h]; omega) ?_
  rcases hO with rfl | rfl
  · exact above_start c
  · exact Above.zero 1

theorem waits (c : Dev nD) : (levAts L lv : sProp 𝕄) ⊢ Pipeline.cellsWaits cfgs (dats m) 0 0 c :=
  Pipeline.cellsWaits_intro cfgs (dats m) 0 0 c fun w s t =>
    may_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 1000000 in
/-- From any memory whose counters are zero, every weakly fair run of the sixteen devices ends, each array holding what `dats` says
    and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inA m) (inB m)) (G' := G' (inA m) (inB m)) (u₀ := u₀)
    (hu₀ := by
      unfold u₀
      iintro Hu
      ihave H := (ownU_pair _ _) $$ Hu
      icases H with ⟨HP, HX⟩
      imod (fund_all (inA m) (inB m)) $$ HX with HG
      imodintro
      isplitl [HP] <;> iassumption)
    (hglob := glob (inA m) (inB m))
    (hA := fun _ _ => rfl) (hpf := fun _ k => k.elim0)
    (X := begins m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem inA_eq (c : Dev nD) : inA m c = m ((c : Thread nD τ).loc main_arg0) :=
  Memref.read_access_unit_zero (Elt F) main_arg0 (funext fun a => by fin_cases a <;> rfl) _ _
theorem inB_eq (c : Dev nD) : inB m c = m ((c : Thread nD τ).loc main_arg1) :=
  Memref.read_access_unit_zero (Elt F) main_arg1 (funext fun a => by fin_cases a <;> rfl) _ _

theorem final_0 (c : Dev nD) : finalA m c (0 : Fin 3) = m ((c : Thread nD τ).loc main_arg0) := (dats m 0 c).arrAt_in (0 : Fin 3) rfl _
theorem final_1 (c : Dev nD) : finalA m c (1 : Fin 3) = m ((c : Thread nD τ).loc main_arg1) := (dats m 0 c).arrAt_in (1 : Fin 3) rfl _

theorem read_out (f : OC F) : (win0_2.blk t0_0).view.read (Elt F) f = f :=
  Memref.read_access_unit_zero (Elt F) main_v1 (funext fun a => by fin_cases a <;> rfl) _ _

theorem final_2 (c : Dev nD) : finalA m c (2 : Fin 3) = outAt (inA m) (inB m) c := by
  have h := (dats m 0 c).read_blk_arrAt (2 : Fin 3) (outAt (inA m) (inB m) c)
    (fun t _ => by rw [fin_N0 t]; exact (read_out (outAt (inA m) (inB m) c)).symm) t0_0 rfl
  exact ((read_out _).symm.trans h).trans (read_out _)

/-- What a run of the program leaves. -/
theorem run_result : θ_run defs (onTc (τ := τ) (main (F := F))) (s₀ m ρ) (fun r =>
    (∀ c : Dev nD, r.2.mem ((c.tc : Thread nD τ).loc main_v1) = outAt (fun d => m ((d.tc : Thread nD τ).loc main_arg0)) (fun d => m ((d.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Idealize.ShloMosaic.θ_run_mono (run_main m ρ) fun r h => ⟨fun c => ⟨by
    rw [← funext (inA_eq m), ← funext (inB_eq m)]
    exact (h.1 c 2).trans (final_2 m c), (h.1 c 0).trans (final_0 m c), (h.1 c 1).trans (final_1 m c)⟩, h.2⟩

end Cert.KernelIdeal.Ring
-- ==== Proof.KernelIdeal.Value.lean ====
/- The result over exact numbers: every device's entry is the activation of the whole dot product of its row and column. -/
module

public import proofs.«01_k».proof.Proof.KernelIdeal.Result
public import Idealize.ShloMosaic.PureOps.Ideal.Laws
public import Idealize.ShloMosaic.Lib.Pipeline.Value
public import Idealize.ShloMosaic.Lib.Pointwise.Contract
public import Idealize.ShloMosaic.Lib.Layout

@[expose] public section

noncomputable section

namespace Cert.KernelIdeal.Ring

open Idealize.ShloMosaic Idealize.ShloMosaic.TcCoe
open Idealize.SL Idealize.SL.Sem
open Cert.KernelIdeal.Gen

/-! ## Steps of the streams -/

/-- The chunk seen from the device before is one step further up. -/
theorem chunk_bck (d : Dev nD) (k : Fin 8) (r : Fin 16) : chunk (bck k d) k r = chunk d k (r + 1) := by
  have h1 : ∀ (d : Dev nD) (r : Fin 16), pos (prv d) - r = pos d - (r + 1) := by decide +kernel
  have h2 : ∀ (d : Dev nD) (r : Fin 16), pos (nxt d) + r = pos d + (r + 1) := by decide +kernel
  unfold chunk bck; split
  · exact h1 d r
  · exact h2 d r

/-- The chunk seen from `n` devices back. -/
theorem chunk_back (k : Fin 8) (r : Fin 16) (n : ℕ) : ∀ d : Dev nD, chunk ((bck k)^[n] d) k r = chunk d k ⟨(r.val + n) % 16, Nat.mod_lt _ (by decide)⟩ := by
  induction n with
  | zero =>
    intro d
    exact congrArg (chunk d k) (Fin.ext (Nat.mod_eq_of_lt r.isLt).symm)
  | succ n ih =>
    intro d
    refine (ih (bck k d)).trans ((chunk_bck d k _).trans (congrArg (chunk d k) (Fin.ext ?_)))
    show ((r.val + n) % 16 + 1) % 16 = (r.val + (n + 1)) % 16
    omega

/-- Sixteen steps back meet every device once. -/
theorem back_inj (k : Fin 8) (d : Dev nD) : Function.Injective fun j : Fin 16 => (bck k)^[j.val] d := by
  have h1 : ∀ (d : Dev nD) (i j : Fin 16), prv^[i.val] d = prv^[j.val] d → i = j := by decide +kernel
  have h2 : ∀ (d : Dev nD) (i j : Fin 16), nxt^[i.val] d = nxt^[j.val] d → i = j := by decide +kernel
  intro i j h
  by_cases hk : k.val % 2 = 0
  · have e : bck k = prv := funext fun d => if_pos hk
    rw [e] at h; exact h1 d i j h
  · have e : bck k = nxt := funext fun d => if_neg hk
    rw [e] at h; exact h2 d i j h

/-- Going sixteen steps back along a stream adds up all devices. -/
theorem sum_back (k : Fin 8) (d : Dev nD) (f : Dev nD → EReal) : ∑ j ∈ Finset.range 16, f ((bck k)^[j] d) = ∑ e : Dev nD, f e := by
  rw [Finset.sum_range fun j => f ((bck k)^[j] d)]
  exact Function.Bijective.sum_comp (Finite.injective_iff_bijective.mp (back_inj k d)) f

/-! ## The streams' tiles -/

/-- The activation of one entry. -/
def actE (z : EReal) : EReal :=
  (Ideal.ofBits .f32 0x3F000000#32 * z) * (Ideal.ofBits .f32 0x3F800000#32
    + Ideal.tanh (Ideal.ofBits .f32 0x3F4C422A#32 * (z + ((Ideal.ofBits .f32 0x3D372713#32 * z) * z) * z)))

theorem act_apply (v : FVec Ideal S48x384 .f32) (x : S48x384.Idx) : act v x = actE (v x) := rfl

variable (A : Dev nD → AC Ideal) (B : Dev nD → BC Ideal)

/-- What has been summed before the last device. -/
theorem val_sum (k : Fin 8) (x : S48x384.Idx) (h : ℕ) : ∀ (hh : h < 15) (d : Dev nD),
    val A B h d k x = ∑ j ∈ Finset.range (h + 1), (ptile A B ((bck k)^[j] d) k (chunk d k ⟨h, by omega⟩) x : EReal) := by
  induction h with
  | zero =>
    intro hh d
    refine Eq.trans ?_ (Finset.sum_range_one (M := EReal) fun j => ptile A B ((bck k)^[j] d) k (chunk d k ⟨0, by omega⟩) x).symm
    show shapeCast S48x384 (ptile A B d k (chunk d k 0)) shapeCasts_S48x384_S48x384 x = _
    rw [shapeCast_self]; rfl
  | succ h ih =>
    intro hh d
    have e : val A B (h + 1) d k x = (val A B h (bck k d) k x : EReal) + ptile A B d k (chunk d k ⟨h + 1, by omega⟩) x := by
      rw [val, dif_pos hh, shapeCast_self]; rfl
    rw [e, ih (by omega) (bck k d), chunk_bck, Finset.sum_range_succ' _ (h + 1)]
    refine congrArg₂ (fun a b : EReal => a + b) (Finset.sum_congr (M := EReal) rfl fun j _ => ?_) rfl
    rw [show (⟨h, by omega⟩ + 1 : Fin 16) = ⟨h + 1, by omega⟩ from Fin.ext (by show (h + 1) % 16 = h + 1; omega)]
    rfl

/-- The finished tile. -/
theorem val_whole (d : Dev nD) (k : Fin 8) (x : S48x384.Idx) :
    val A B 15 d k x = actE (∑ e : Dev nD, (ptile A B e k (chunk d k 15) x : EReal)) := by
  have e : val A B 15 d k x = actE ((val A B 14 (bck k d) k x : EReal) + ptile A B d k (chunk d k 15) x) := by
    rw [val, dif_neg (by omega), if_pos rfl, shapeCast_self]; rfl
  rw [e, val_sum A B k x 14 (by omega) (bck k d), chunk_bck, ← sum_back k d, Finset.sum_range_succ' _ 15]
  rfl

/-- After the fifteenth hop a tile is only passed on. -/
theorem val_later (k : Fin 8) (n : ℕ) : ∀ d : Dev nD, val A B (15 + n) d k = val A B 15 ((bck k)^[n] d) k := by
  induction n with
  | zero => intro d; rfl
  | succ n ih =>
    intro d
    refine Eq.trans ?_ (ih (bck k d))
    show val A B (15 + n + 1) d k = _
    rw [val, dif_neg (by omega), if_neg (by omega)]

/-- A finished tile, wherever it has got to, is the activation of the sum over all devices. -/
theorem fin_whole (d : Dev nD) (k : Fin 8) (r : Fin 16) (x : S48x384.Idx) :
    fin A B d k r x = actE (∑ e : Dev nD, (ptile A B e k (chunk d k r) x : EReal)) := by
  unfold fin
  split
  · rename_i h; rw [h]; exact val_whole A B d k x
  · rename_i h
    have hr : r.val ≠ 15 := fun e => h (Fin.ext e)
    rw [Nat.add_comm, val_later A B k r.val (bck k d), val_whole]
    have e : chunk ((bck k)^[r.val] (bck k d)) k 15 = chunk d k r := by
      have h1 : chunk ((bck k)^[r.val + 1] d) k 15 = _ := chunk_back k 15 (r.val + 1) d
      refine h1.trans (congrArg (chunk d k) (Fin.ext ?_))
      show (15 + (r.val + 1)) % 16 = r.val
      omega
    rw [e]

/-! ## Products -/

/-- An entry of a chunk is a dot product over 768 places. -/
theorem chunkOf_apply (a : FVec Ideal S96x768 .f32) (b : FVec Ideal S768x1536 .f32) (j : S96x1536.Idx) :
    chunkOf a b j = ∑ κ : Fin 768, (a (ix2 (j 0) κ) : EReal) * b (ix2 κ (j 1)) := by
  unfold chunkOf
  rw [shapeCast_self, shapeCast_self]
  refine (Ideal.matmul_constant_zero_apply _ _ a b j).trans ?_
  rw [DotDims.sum_contr₁ (a := (1 : Fin 2)) dot_S96x768_S768x1536_S96x1536_1_0_0_1_n_n rfl (K := 768) rfl]
  refine Finset.sum_congr rfl fun κ _ => ?_
  congr 1
  · refine congrArg a (funext fun x => ?_); fin_cases x <;> rfl
  · refine congrArg b (funext fun x => ?_); fin_cases x <;> rfl

/-- An entry of a device's first argument. -/
def aAt (e : Dev nD) (j : (⟨2, ![1536, 768]⟩ : Shape).Idx) : EReal := A e j

/-- An entry of a device's second argument. -/
def bAt (e : Dev nD) (j : (⟨2, ![768, 1536]⟩ : Shape).Idx) : EReal := B e j

/-- A device's part of an entry of the result. -/
theorem ptile_apply (e : Dev nD) (i : S1536x1536.Idx) :
    ptile A B e (kOf i) (qOf i) (xOf i) = ∑ κ : Fin 768, aAt A e (ix2 (i 0) κ) * bAt B e (ix2 κ (i 1)) := by
  unfold ptile part
  rw [chunkOf_apply]
  have hi := emb_xOf i
  have h0 : 96 * (qOf i).val + ((inRows (kOf i)).emb (xOf i) 0).val = (i 0).val := by
    rw [← congrArg (fun y : S1536x1536.Idx => (y 0).val) hi]
    show 96 * (qOf i).val + (rowOf (kOf i) + 1 * (xOf i 0).val) = 96 * (qOf i).val + rowOf (kOf i) + 1 * (xOf i 0).val
    omega
  have h1 : (inRows (kOf i)).emb (xOf i) 1 = i 1 := by
    refine Fin.ext ?_
    exact congrArg (fun y : S1536x1536.Idx => (y 1).val) hi
  refine Finset.sum_congr rfl fun κ _ => ?_
  congr 1
  · refine congrArg (A e) (funext fun x => Fin.ext ?_)
    fin_cases x
    · show 96 * (qOf i).val + 1 * ((inRows (kOf i)).emb (xOf i) 0).val = (i 0).val
      omega
    · show 0 + 1 * κ.val = κ.val
      omega
  · refine congrArg (B e) (funext fun x => Fin.ext ?_)
    fin_cases x
    · show 0 + 1 * κ.val = κ.val
      omega
    · show 0 + 1 * ((inRows (kOf i)).emb (xOf i) 1).val = (i 1).val
      rw [h1]; omega

/-- An entry of the result in terms of the devices' blocks. -/
theorem outAt_apply (d : Dev nD) (i : S1536x1536.Idx) :
    outAt A B d i = actE (∑ e : Dev nD, ∑ κ : Fin 768, aAt A e (ix2 (i 0) κ) * bAt B e (ix2 κ (i 1))) := by
  unfold outAt
  rw [fin_whole, chunk_steps]
  exact congrArg actE (Finset.sum_congr rfl fun e _ => ptile_apply A B e i)

/-! ## Against the whole arrays -/

theorem at_lt (e : Fin 16) (κ : Fin 768) : 768 * e.val + κ.val < 12288 := by omega

/-- Sixteen sums over 768 places are one over 12288. -/
theorem sum_blocks (f : Fin 12288 → EReal) :
    ∑ e : Fin 16, ∑ κ : Fin 768, f ⟨768 * e.val + κ.val, by omega⟩ = ∑ K : Fin 12288, f K := by
  have h := Equiv.sum_comp (finProdFinEquiv (m := 16) (n := 768)) (fun K : Fin (16 * 768) => f ⟨K.val, K.isLt⟩)
  refine Eq.trans ?_ h
  rw [Fintype.sum_prod_type]
  refine Finset.sum_congr rfl fun e _ => Finset.sum_congr rfl fun κ _ => ?_
  refine congrArg f (Fin.ext ?_)
  show 768 * e.val + κ.val = κ.val + 768 * e.val
  omega

/-- The whole product's activation. -/
def whole (X : (⟨2, ![1536, 12288]⟩ : Shape).Idx → EReal) (Y : (⟨2, ![12288, 1536]⟩ : Shape).Idx → EReal) (i : S1536x1536.Idx) : EReal :=
  actE (∑ K : Fin 12288, X (ix2 (i 0) K) * Y (ix2 K (i 1)))

/-- Of blocks of two whole arrays, every device ends with the activation of the whole product. -/
theorem outAt_whole (X : (⟨2, ![1536, 12288]⟩ : Shape).Idx → EReal) (Y : (⟨2, ![12288, 1536]⟩ : Shape).Idx → EReal)
    (hA : ∀ c, A c = Layout.block ⟨2, ![1536, 768]⟩ ⟨2, ![1536, 12288]⟩ 1 16 c X)
    (hB : ∀ c, B c = Layout.block ⟨2, ![768, 1536]⟩ ⟨2, ![12288, 1536]⟩ 0 16 c Y) (d : Dev nD) : outAt A B d = whole X Y := by
  funext i
  rw [outAt_apply]
  unfold whole
  refine congrArg actE (Eq.trans ?_ (sum_blocks fun K => X (ix2 (i 0) K) * Y (ix2 K (i 1))))
  refine Finset.sum_congr rfl fun e _ => Finset.sum_congr rfl fun κ _ => ?_
  unfold aAt bAt
  rw [hA, hB]
  have e1 : Layout.block ⟨2, ![1536, 768]⟩ ⟨2, ![1536, 12288]⟩ 1 16 e X (by decide) (ix2 (i 0) κ) = X (ix2 (i 0) ⟨768 * e.val + κ.val, at_lt e κ⟩) := by
    refine congrArg X (funext fun x => Fin.ext ?_)
    fin_cases x
    · rfl
    · show e.val * 768 + κ.val = 768 * e.val + κ.val
      omega
  have e2 : Layout.block ⟨2, ![768, 1536]⟩ ⟨2, ![12288, 1536]⟩ 0 16 e Y (by decide) (ix2 κ (i 1)) = Y (ix2 ⟨768 * e.val + κ.val, at_lt e κ⟩ (i 1)) := by
    refine congrArg Y (funext fun x => Fin.ext ?_)
    fin_cases x
    · show e.val * 768 + κ.val = 768 * e.val + κ.val
      omega
    · rfl
  exact congrArg₂ (· * ·) e1 e2

end Cert.KernelIdeal.Ring
-- ==== Proof.lean ====
/- The five claims: the two copies of the kernel and the reference run and leave their arguments and every
   semaphore as they found them, and over exact numbers every device of the kernel ends with the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Launch
public import proofs.«01_k».proof.Proof.KernelIdeal.Launch
public import proofs.«01_k».proof.Proof.KernelIdeal.Value

@[expose] public section

noncomputable section

namespace Cert.Proof

open Idealize.ShloMosaic Idealize.ShloMosaic.TcCoe Idealize.SL.Sem

open Cert.ReferenceIdeal.Read in
/-- The reference's result is the activation of the whole product. -/
theorem reference_whole (X : (⟨Cert.ReferenceIdeal.S1536x12288, .f32⟩ : BufTy).Contents (Elt Ideal))
    (Y : (⟨Cert.ReferenceIdeal.S12288x1536, .f32⟩ : BufTy).Contents (Elt Ideal)) :
    Cert.ReferenceIdeal.Read.val_main_v13 (F := Ideal) X Y = Cert.KernelIdeal.Ring.whole X Y := by
  funext i
  have hz : Cert.ReferenceIdeal.Read.val_main_v0 (F := Ideal) X Y i = ∑ K : Fin 12288, (X (ix2 (i 0) K) : EReal) * (Y (ix2 K (i 1)) : EReal) := by
    rw [Cert.ReferenceIdeal.Read.val_main_v0_apply]
    refine Finset.sum_congr rfl fun K _ => ?_
    have e0 : Cert.ReferenceIdeal.Read.lidx_main_v0 i K = ix2 (i 0) K := by funext x; fin_cases x <;> rfl
    have e1 : Cert.ReferenceIdeal.Read.ridx_main_v0 i K = ix2 K (i 1) := by funext x; fin_cases x <;> rfl
    rw [e0, e1]
    rfl
  unfold Cert.KernelIdeal.Ring.whole
  refine Eq.trans ?_ (congrArg Cert.KernelIdeal.Ring.actE hz)
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_cst_apply, val_main_cst_0_apply, val_main_cst_1_apply, val_main_cst_2_apply]
  generalize Cert.ReferenceIdeal.Read.val_main_v0 (F := Ideal) X Y i = z
  rfl

/-- The kernel runs, and leaves its arguments and all semaphores as they were. -/
theorem kernel_frame : quiescent_Kernel := fun m g _ =>
  θ_run_mono (Cert.Kernel.Ring.run_result m g) fun _ h => ⟨fun c => (h.1 c).2, h.2⟩

/-- So does its copy over exact numbers. -/
theorem kernelIdeal_frame : quiescent_KernelIdeal := fun m g _ =>
  θ_run_mono (Cert.KernelIdeal.Ring.run_result m g) fun _ h => ⟨fun c => (h.1 c).2, h.2⟩

/-- So does the reference. -/
theorem reference_frame : quiescent_ReferenceIdeal := fun m g _ =>
  θ_run_mono (Cert.ReferenceIdeal.Value.run m g) fun r h => ⟨fun c => (h c).2, sem_eq_zero_of_no_sems (by decide) r.2⟩

/-- Over exact numbers every device of the kernel ends with the reference's result. -/
theorem same_result : algebraic_KernelIdeal_ReferenceIdeal := fun m g m' g' _ hm =>
  ⟨Cert.KernelIdeal.Ring.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    θ_run_mono (Cert.KernelIdeal.Ring.run_result m g) fun _ h c =>
      ⟨(h.1 c).1.trans (Cert.KernelIdeal.Ring.outAt_whole _ _ _ _ (fun c => (hm c).1) (fun c => (hm c).2) c), (h.1 c).2⟩,
    θ_run_mono (Cert.ReferenceIdeal.Value.run m' g') fun _ h =>
      ⟨(h 0).1.trans ((Cert.ReferenceIdeal.Read.val_main_v13_eq _ _).trans (reference_whole _ _)), (h 0).2⟩⟩

/-- All five claims. -/
theorem claim : Cert.Claim := ⟨Cert.Kernel.Gen.facts, Cert.KernelIdeal.Gen.facts, Cert.ReferenceIdeal.Gen.facts,
  kernel_frame, kernelIdeal_frame, reference_frame, trivial, same_result⟩

end Cert.Proof

end
